-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)) (v4 : (c : Dev Cert.Kernel4Ideal.nD) → Buf (Elt Ideal) ((c.tc : Thread Cert.Kernel4Ideal.nD Cert.Kernel4Ideal.τ).loc Cert.Kernel4Ideal.main_v11_4)) (v5 : (c : Dev Cert.Kernel4Ideal.nD) → Buf (Elt Ideal) ((c.tc : Thread Cert.Kernel4Ideal.nD Cert.Kernel4Ideal.τ).loc Cert.Kernel4Ideal.main_v11_5)) (v6 : (c : Dev Cert.Kernel4Ideal.nD) → Buf (Elt Ideal) ((c.tc : Thread Cert.Kernel4Ideal.nD Cert.Kernel4Ideal.τ).loc Cert.Kernel4Ideal.main_v11_6)) (v7 : (c : Dev Cert.Kernel4Ideal.nD) → Buf (Elt Ideal) ((c.tc : Thread Cert.Kernel4Ideal.nD Cert.Kernel4Ideal.τ).loc Cert.Kernel4Ideal.main_v11_7)) (v8 : (c : Dev Cert.Kernel4Ideal.nD) → Buf (Elt Ideal) ((c.tc : Thread Cert.Kernel4Ideal.nD Cert.Kernel4Ideal.τ).loc Cert.Kernel4Ideal.main_v11_8)) (v9 : (c : Dev Cert.Kernel4Ideal.nD) → Buf (Elt Ideal) ((c.tc : Thread Cert.Kernel4Ideal.nD Cert.Kernel4Ideal.τ).loc Cert.Kernel4Ideal.main_v11_9)) (v10 : (c : Dev Cert.Kernel4Ideal.nD) → Buf (Elt Ideal) ((c.tc : Thread Cert.Kernel4Ideal.nD Cert.Kernel4Ideal.τ).loc Cert.Kernel4Ideal.main_v11_10)) (v11 : (c : Dev Cert.Kernel4Ideal.nD) → Buf (Elt Ideal) ((c.tc : Thread Cert.Kernel4Ideal.nD Cert.Kernel4Ideal.τ).loc Cert.Kernel4Ideal.main_v11_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_v11_4) = v4 c
          ∧ r.2.mem ((c.tc : Thread Cert.Kernel4Ideal.nD Cert.Kernel4Ideal.τ).loc Cert.Kernel4Ideal.main_v11_5) = v5 c
          ∧ r.2.mem ((c.tc : Thread Cert.Kernel4Ideal.nD Cert.Kernel4Ideal.τ).loc Cert.Kernel4Ideal.main_v11_6) = v6 c
          ∧ r.2.mem ((c.tc : Thread Cert.Kernel4Ideal.nD Cert.Kernel4Ideal.τ).loc Cert.Kernel4Ideal.main_v11_7) = v7 c
          ∧ r.2.mem ((c.tc : Thread Cert.Kernel4Ideal.nD Cert.Kernel4Ideal.τ).loc Cert.Kernel4Ideal.main_v11_8) = v8 c
          ∧ r.2.mem ((c.tc : Thread Cert.Kernel4Ideal.nD Cert.Kernel4Ideal.τ).loc Cert.Kernel4Ideal.main_v11_9) = v9 c
          ∧ r.2.mem ((c.tc : Thread Cert.Kernel4Ideal.nD Cert.Kernel4Ideal.τ).loc Cert.Kernel4Ideal.main_v11_10) = v10 c
          ∧ r.2.mem ((c.tc : Thread Cert.Kernel4Ideal.nD Cert.Kernel4Ideal.τ).loc Cert.Kernel4Ideal.main_v11_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v43) = v4 c
          ∧ r.2.mem ((c.tc : Thread Cert.Reference4Ideal.nD Cert.Reference4Ideal.τ).loc Cert.Reference4Ideal.main_v44) = v5 c
          ∧ r.2.mem ((c.tc : Thread Cert.Reference4Ideal.nD Cert.Reference4Ideal.τ).loc Cert.Reference4Ideal.main_v46) = v6 c
          ∧ r.2.mem ((c.tc : Thread Cert.Reference4Ideal.nD Cert.Reference4Ideal.τ).loc Cert.Reference4Ideal.main_v48) = v7 c
          ∧ r.2.mem ((c.tc : Thread Cert.Reference4Ideal.nD Cert.Reference4Ideal.τ).loc Cert.Reference4Ideal.main_v50) = v8 c
          ∧ r.2.mem ((c.tc : Thread Cert.Reference4Ideal.nD Cert.Reference4Ideal.τ).loc Cert.Reference4Ideal.main_v52) = v9 c
          ∧ r.2.mem ((c.tc : Thread Cert.Reference4Ideal.nD Cert.Reference4Ideal.τ).loc Cert.Reference4Ideal.main_v42) = v10 c
          ∧ r.2.mem ((c.tc : Thread Cert.Reference4Ideal.nD Cert.Reference4Ideal.τ).loc Cert.Reference4Ideal.main_v53) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v43_0)) (v1 : (c : Dev Cert.Kernel7Ideal.nD) → Buf (Elt Ideal) ((c.tc : Thread Cert.Kernel7Ideal.nD Cert.Kernel7Ideal.τ).loc Cert.Kernel7Ideal.main_v43_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v43_0) = v0 c
          ∧ r.2.mem ((c.tc : Thread Cert.Kernel7Ideal.nD Cert.Kernel7Ideal.τ).loc Cert.Kernel7Ideal.main_v43_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v50) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x8192x512 : Shape := ⟨3, ![2, 8192, 512]⟩
abbrev S2x256x512 : Shape := ⟨3, ![2, 256, 512]⟩
abbrev S_ : Shape := ⟨0, ![]⟩

class Facts : Prop where
  bcast_S_S2x8192x512 : S_.BroadcastsInDim S2x8192x512 (![] : Fin 0 → Fin S2x8192x512.rank)
  bcast_S_S2x256x512 : S_.BroadcastsInDim S2x256x512 (![] : Fin 0 → Fin S2x256x512.rank)

variable [Facts]

def fn {F : FTy → Type} [FloatOps F] (main_arg0 : FVec F S2x8192x512 .f32) (main_arg1 : FVec F S2x256x512 .f32) (main_arg2 : FVec F S2x256x512 .f32) : IVec S2x8192x512 1 × IVec S2x256x512 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x256x512 .f32 := Host.absf main_arg1
  let main_cst_0 : FVec F S_ .f32 := constant S_ .f32 0x7F800000#32
  let main_v4 : FVec F S2x256x512 .f32 := broadcastInDim S2x256x512 ![] bcast_S_S2x256x512 main_cst_0
  let main_v5 : IVec S2x256x512 1 := cmpf .olt main_v3 main_v4
  (main_v2, main_v5)
-- ==== Kernel.lean ====
abbrev S512x16384 : Shape := ⟨2, ![512, 16384]⟩
abbrev S32x16384 : Shape := ⟨2, ![32, 16384]⟩
abbrev S2x512x128 : Shape := ⟨3, ![2, 512, 128]⟩
abbrev S2x128x512 : Shape := ⟨3, ![2, 128, 512]⟩
abbrev S16384x128 : Shape := ⟨2, ![16384, 128]⟩
abbrev S128x16384 : Shape := ⟨2, ![128, 16384]⟩
abbrev S128x512 : Shape := ⟨2, ![128, 512]⟩
abbrev S8192x128 : Shape := ⟨2, ![8192, 128]⟩
abbrev S512x128 : Shape := ⟨2, ![512, 128]⟩
abbrev S32x128 : Shape := ⟨2, ![32, 128]⟩
abbrev S1x512x128 : Shape := ⟨3, ![1, 512, 128]⟩
abbrev S1x128x512 : Shape := ⟨3, ![1, 128, 512]⟩
abbrev S128x8192 : Shape := ⟨2, ![128, 8192]⟩
abbrev S2x256x512 : Shape := ⟨3, ![2, 256, 512]⟩
abbrev S2x2x512x512 : Shape := ⟨4, ![2, 2, 512, 512]⟩
abbrev S2x80x512 : Shape := ⟨3, ![2, 80, 512]⟩
abbrev S2x1x512 : Shape := ⟨3, ![2, 1, 512]⟩
abbrev S64x128 : Shape := ⟨2, ![64, 128]⟩
abbrev S64x512 : Shape := ⟨2, ![64, 512]⟩
abbrev S1x128 : Shape := ⟨2, ![1, 128]⟩
abbrev S128x128 : Shape := ⟨2, ![128, 128]⟩
abbrev S512x512 : Shape := ⟨2, ![512, 512]⟩
abbrev S1x512 : Shape := ⟨2, ![1, 512]⟩
abbrev S512 : Shape := ⟨1, ![512]⟩
abbrev S1x64x512 : Shape := ⟨3, ![1, 64, 512]⟩
abbrev S384x128 : Shape := ⟨2, ![384, 128]⟩
abbrev S384x512 : Shape := ⟨2, ![384, 512]⟩
abbrev S1x384x128 : Shape := ⟨3, ![1, 384, 128]⟩
abbrev S128x384 : Shape := ⟨2, ![128, 384]⟩
abbrev S1x64x384 : Shape := ⟨3, ![1, 64, 384]⟩
abbrev S64x384 : Shape := ⟨2, ![64, 384]⟩
abbrev S256x128 : Shape := ⟨2, ![256, 128]⟩
abbrev S256x512 : Shape := ⟨2, ![256, 512]⟩
abbrev S1x256x128 : Shape := ⟨3, ![1, 256, 128]⟩
abbrev S128x256 : Shape := ⟨2, ![128, 256]⟩
abbrev S1x64x256 : Shape := ⟨3, ![1, 64, 256]⟩
abbrev S64x256 : Shape := ⟨2, ![64, 256]⟩
abbrev S1x128x128 : Shape := ⟨3, ![1, 128, 128]⟩
abbrev S1x64x128 : Shape := ⟨3, ![1, 64, 128]⟩
abbrev S640x128 : Shape := ⟨2, ![640, 128]⟩
abbrev S640x512 : Shape := ⟨2, ![640, 512]⟩
abbrev S64x640 : Shape := ⟨2, ![64, 640]⟩
abbrev S16x640 : Shape := ⟨2, ![16, 640]⟩
abbrev S80x640 : Shape := ⟨2, ![80, 640]⟩
abbrev S80x512 : Shape := ⟨2, ![80, 512]⟩
abbrev S128 : Shape := ⟨1, ![128]⟩
abbrev S512x256 : Shape := ⟨2, ![512, 256]⟩
abbrev S1x256x512 : Shape := ⟨3, ![1, 256, 512]⟩
abbrev S1x1x512x512 : Shape := ⟨4, ![1, 1, 512, 512]⟩
abbrev S1x1x512 : Shape := ⟨3, ![1, 1, 512]⟩
abbrev S1x80x512 : Shape := ⟨3, ![1, 80, 512]⟩
abbrev S16x512 : Shape := ⟨2, ![16, 512]⟩

abbrev nBuf : Space → Nat
  | .hbm => 11
  | .vmem => 25
  | .smem => 0
  | _ => 0

abbrev bufTy : (tb : Table) → Fin (tcTables nBuf tb) → BufTy
  | .hbm, ⟨0, _⟩ => ⟨S512x16384, .bf16⟩
  | .hbm, ⟨1, _⟩ => ⟨S32x16384, .f32⟩
  | .hbm, ⟨2, _⟩ => ⟨S2x512x128, .bf16⟩
  | .hbm, ⟨3, _⟩ => ⟨S2x128x512, .bf16⟩
  | .hbm, ⟨4, _⟩ => ⟨S16384x128, .bf16⟩
  | .hbm, ⟨5, _⟩ => ⟨S128x16384, .bf16⟩
  | .hbm, ⟨6, _⟩ => ⟨S16384x128, .bf16⟩
  | .hbm, ⟨7, _⟩ => ⟨S128x16384, .bf16⟩
  | .hbm, ⟨8, _⟩ => ⟨S128x512, .bf16⟩
  | .hbm, ⟨9, _⟩ => ⟨S8192x128, .bf16⟩
  | .hbm, ⟨10, _⟩ => ⟨S512x16384, .bf16⟩
  | .local _ .vmem, ⟨0, _⟩ => ⟨S512x128, .bf16⟩
  | .local _ .vmem, ⟨1, _⟩ => ⟨S512x128, .bf16⟩
  | .local _ .vmem, ⟨2, _⟩ => ⟨S32x128, .f32⟩
  | .local _ .vmem, ⟨3, _⟩ => ⟨S32x128, .f32⟩
  | .local _ .vmem, ⟨4, _⟩ => ⟨S1x512x128, .bf16⟩
  | .local _ .vmem, ⟨5, _⟩ => ⟨S1x512x128, .bf16⟩
  | .local _ .vmem, ⟨6, _⟩ => ⟨S1x128x512, .bf16⟩
  | .local _ .vmem, ⟨7, _⟩ => ⟨S1x128x512, .bf16⟩
  | .local _ .vmem, ⟨8, _⟩ => ⟨S8192x128, .bf16⟩
  | .local _ .vmem, ⟨9, _⟩ => ⟨S8192x128, .bf16⟩
  | .local _ .vmem, ⟨10, _⟩ => ⟨S128x8192, .bf16⟩
  | .local _ .vmem, ⟨11, _⟩ => ⟨S128x8192, .bf16⟩
  | .local _ .vmem, ⟨12, _⟩ => ⟨S8192x128, .bf16⟩
  | .local _ .vmem, ⟨13, _⟩ => ⟨S8192x128, .bf16⟩
  | .local _ .vmem, ⟨14, _⟩ => ⟨S128x8192, .bf16⟩
  | .local _ .vmem, ⟨15, _⟩ => ⟨S128x8192, .bf16⟩
  | .local _ .vmem, ⟨16, _⟩ => ⟨S128x512, .bf16⟩
  | .local _ .vmem, ⟨17, _⟩ => ⟨S8192x128, .bf16⟩
  | .local _ .vmem, ⟨18, _⟩ => ⟨S512x128, .bf16⟩
  | .local _ .vmem, ⟨19, _⟩ => ⟨S512x128, .bf16⟩
  | .local _ .vmem, ⟨20, _⟩ => ⟨S2x256x512, .bf16⟩
  | .local _ .vmem, ⟨21, _⟩ => ⟨S2x2x512x512, .f32⟩
  | .local _ .vmem, ⟨22, _⟩ => ⟨S2x80x512, .f32⟩
  | .local _ .vmem, ⟨23, _⟩ => ⟨S2x1x512, .f32⟩
  | .local _ .vmem, ⟨24, _⟩ => ⟨S2x1x512, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v59 : BitVec 32 := Scalar.subi v0 c512_i32
  let c0_i32_18 : BitVec 32 := 0#32
  let v60 : BitVec 32 := Scalar.maxsi v59 c0_i32_18
  v60
def k0_off1 (i : grid0.Coords) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v59 : BitVec 32 := Scalar.subi v0 c512_i32
  let c0_i32_18 : BitVec 32 := 0#32
  let v60 : BitVec 32 := Scalar.maxsi v59 c0_i32_18
  let v61 : BitVec 32 := v60
  let v76 : Index := Scalar.indexCast v61
  let c0_22 : Index := 0#32
  ![v76.toNat, 0]
def k0_off2 (i : grid0.Coords) : Fin 2 → Nat :=
  let c0_25 : Index := 0#32
  let arg1 : BitVec 32 := BitVec.ofNat 32 (i 1).val
  let c128_i32 : BitVec 32 := 128#32
  let v0 : BitVec 32 := Scalar.muli arg1 c128_i32
  let c512_i32 : BitVec 32 := 512#32
  let v59 : BitVec 32 := Scalar.subi v0 c512_i32
  let c0_i32_18 : BitVec 32 := 0#32
  let v60 : BitVec 32 := Scalar.maxsi v59 c0_i32_18
  let v61 : BitVec 32 := v60
  let v86 : Index := Scalar.indexCast v61
  ![0, v86.toNat]
def k0_off3 (i : grid0.Coords) : Fin 2 → Nat :=
  let c64_31 : Index := 64#32
  let arg1 : BitVec 32 := BitVec.ofNat 32 (i 1).val
  let c128_i32 : BitVec 32 := 128#32
  let v0 : BitVec 32 := Scalar.muli arg1 c128_i32
  let c512_i32 : BitVec 32 := 512#32
  let v59 : BitVec 32 := Scalar.subi v0 c512_i32
  let c0_i32_18 : BitVec 32 := 0#32
  let v60 : BitVec 32 := Scalar.maxsi v59 c0_i32_18
  let v61 : BitVec 32 := v60
  let v105 : Index := Scalar.indexCast v61
  ![64, v105.toNat]
def k0_mult2 : BitVec 32 :=
  let c0_i32_196 : BitVec 32 := 0#32
  c0_i32_196
def k0_off4 (i : grid0.Coords) : Fin 4 → Nat :=
  let c0_207 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let v549 : Index := Scalar.indexCast v536
  let c0_208 : Index := 0#32
  let c0_209 : Index := 0#32
  ![0, v549.toNat, 0, 0]
def k0_off5 (i : grid0.Coords) : Fin 4 → Nat :=
  let c1_222 : Index := 1#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let v566 : Index := Scalar.indexCast v536
  let c0_223 : Index := 0#32
  let c0_224 : Index := 0#32
  ![1, v566.toNat, 0, 0]
def k0_cond4 (i : grid0.Coords) : BitVec 1 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_237 : BitVec 32 := 1#32
  let v583 : BitVec 1 := Scalar.cmpi .eq v536 c1_i32_237
  let v584 : BitVec 32 := Scalar.extui v583
  let c0_i32_238 : BitVec 32 := 0#32
  let v585 : BitVec 1 := Scalar.cmpi .ne v584 c0_i32_238
  v585

def k0_mult3 : BitVec 32 :=
  let c512_i32_351 : BitVec 32 := 512#32
  c512_i32_351
def k0_mult4 : BitVec 32 :=
  let c0_i32_382 : BitVec 32 := 0#32
  c0_i32_382
def k0_mult5 : BitVec 32 :=
  let c0_i32_402 : BitVec 32 := 0#32
  c0_i32_402
def k0_cond5 (i : grid0.Coords) : BitVec 1 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let c1_i32_252 : BitVec 32 := 1#32
  let v613 : BitVec 1 := Scalar.cmpi .eq v612 c1_i32_252
  let v614 : BitVec 32 := Scalar.extui v613
  let c0_i32_253 : BitVec 32 := 0#32
  let v615 : BitVec 1 := Scalar.cmpi .ne v614 c0_i32_253
  v615

def k0_mult6 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_351 : BitVec 32 := 1#32
  let v868 : BitVec 32 := Scalar.addi v536 c1_i32_351
  let c512_i32_352 : BitVec 32 := 512#32
  let v869 : BitVec 32 := Scalar.muli v868 c512_i32_352
  v869
def k0_off6 (i : grid0.Coords) : Fin 2 → Nat :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_351 : BitVec 32 := 1#32
  let v868 : BitVec 32 := Scalar.addi v536 c1_i32_351
  let c512_i32_352 : BitVec 32 := 512#32
  let v869 : BitVec 32 := Scalar.muli v868 c512_i32_352
  let v870 : BitVec 32 := v869
  let v871 : Index := Scalar.indexCast v870
  let c0_353 : Index := 0#32
  ![v871.toNat, 0]
def k0_mult7 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c512_i32_383 : BitVec 32 := 512#32
  let v900 : BitVec 32 := Scalar.muli v536 c512_i32_383
  v900
def k0_off7 (i : grid0.Coords) : Fin 2 → Nat :=
  let c0_390 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c512_i32_383 : BitVec 32 := 512#32
  let v900 : BitVec 32 := Scalar.muli v536 c512_i32_383
  let v901 : BitVec 32 := v900
  let v912 : Index := Scalar.indexCast v901
  ![0, v912.toNat]
def k0_mult8 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c512_i32_403 : BitVec 32 := 512#32
  let v929 : BitVec 32 := Scalar.muli v536 c512_i32_403
  v929
def k0_off8 (i : grid0.Coords) : Fin 2 → Nat :=
  let c64_410 : Index := 64#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c512_i32_403 : BitVec 32 := 512#32
  let v929 : BitVec 32 := Scalar.muli v536 c512_i32_403
  let v930 : BitVec 32 := v929
  let v941 : Index := Scalar.indexCast v930
  ![64, v941.toNat]
def k0_mult9 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_419 : BitVec 32 := 1#32
  let v956 : BitVec 32 := Scalar.addi v536 c1_i32_419
  let c1_i32_426 : BitVec 32 := 1#32
  let v961 : BitVec 32 := Scalar.addi v956 c1_i32_426
  let c512_i32_427 : BitVec 32 := 512#32
  let v962 : BitVec 32 := Scalar.muli v961 c512_i32_427
  v962
def k0_off9 (i : grid0.Coords) : Fin 2 → Nat :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_419 : BitVec 32 := 1#32
  let v956 : BitVec 32 := Scalar.addi v536 c1_i32_419
  let c1_i32_426 : BitVec 32 := 1#32
  let v961 : BitVec 32 := Scalar.addi v956 c1_i32_426
  let c512_i32_427 : BitVec 32 := 512#32
  let v962 : BitVec 32 := Scalar.muli v961 c512_i32_427
  let v963 : BitVec 32 := v962
  let v964 : Index := Scalar.indexCast v963
  let c0_428 : Index := 0#32
  ![v964.toNat, 0]
def k0_mult10 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_419 : BitVec 32 := 1#32
  let v956 : BitVec 32 := Scalar.addi v536 c1_i32_419
  let c512_i32_458 : BitVec 32 := 512#32
  let v993 : BitVec 32 := Scalar.muli v956 c512_i32_458
  v993
def k0_off10 (i : grid0.Coords) : Fin 2 → Nat :=
  let c0_465 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_419 : BitVec 32 := 1#32
  let v956 : BitVec 32 := Scalar.addi v536 c1_i32_419
  let c512_i32_458 : BitVec 32 := 512#32
  let v993 : BitVec 32 := Scalar.muli v956 c512_i32_458
  let v994 : BitVec 32 := v993
  let v1005 : Index := Scalar.indexCast v994
  ![0, v1005.toNat]
def k0_mult11 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_419 : BitVec 32 := 1#32
  let v956 : BitVec 32 := Scalar.addi v536 c1_i32_419
  let c512_i32_478 : BitVec 32 := 512#32
  let v1022 : BitVec 32 := Scalar.muli v956 c512_i32_478
  v1022
def k0_off11 (i : grid0.Coords) : Fin 2 → Nat :=
  let c64_485 : Index := 64#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c1_i32_419 : BitVec 32 := 1#32
  let v956 : BitVec 32 := Scalar.addi v536 c1_i32_419
  let c512_i32_478 : BitVec 32 := 512#32
  let v1022 : BitVec 32 := Scalar.muli v956 c512_i32_478
  let v1023 : BitVec 32 := v1022
  let v1034 : Index := Scalar.indexCast v1023
  ![64, v1034.toNat]
@[reducible] def k0_t1_loop (i : grid0.Coords) : Scf.Loop 32 :=
  let c0_i32_261 : BitVec 32 := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_263 : BitVec 32 := 1#32
  ⟨c0_i32_261, v637, c1_i32_263⟩
def k0_mult12 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c1_i32_353 : BitVec 32 := 1#32
  let v872 : BitVec 32 := Scalar.addi v867 c1_i32_353
  let c512_i32_354 : BitVec 32 := 512#32
  let v873 : BitVec 32 := Scalar.muli v872 c512_i32_354
  v873
def k0_off12 (i : grid0.Coords) (k0_t1 : Fin (k0_t1_loop i).trips) : Fin 2 → Nat :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c1_i32_353 : BitVec 32 := 1#32
  let v872 : BitVec 32 := Scalar.addi v867 c1_i32_353
  let c512_i32_354 : BitVec 32 := 512#32
  let v873 : BitVec 32 := Scalar.muli v872 c512_i32_354
  let v874 : BitVec 32 := v873
  let v875 : Index := Scalar.indexCast v874
  let c0_355 : Index := 0#32
  ![v875.toNat, 0]
def k0_mult13 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c512_i32_385 : BitVec 32 := 512#32
  let v904 : BitVec 32 := Scalar.muli v867 c512_i32_385
  v904
def k0_off13 (i : grid0.Coords) (k0_t1 : Fin (k0_t1_loop i).trips) : Fin 2 → Nat :=
  let c0_392 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c512_i32_385 : BitVec 32 := 512#32
  let v904 : BitVec 32 := Scalar.muli v867 c512_i32_385
  let v905 : BitVec 32 := v904
  let v916 : Index := Scalar.indexCast v905
  ![0, v916.toNat]
def k0_mult14 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c512_i32_405 : BitVec 32 := 512#32
  let v933 : BitVec 32 := Scalar.muli v867 c512_i32_405
  v933
def k0_off14 (i : grid0.Coords) (k0_t1 : Fin (k0_t1_loop i).trips) : Fin 2 → Nat :=
  let c64_412 : Index := 64#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c512_i32_405 : BitVec 32 := 512#32
  let v933 : BitVec 32 := Scalar.muli v867 c512_i32_405
  let v934 : BitVec 32 := v933
  let v945 : Index := Scalar.indexCast v934
  ![64, v945.toNat]
def k0_mult15 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c1_i32_421 : BitVec 32 := 1#32
  let v960 : BitVec 32 := Scalar.addi v867 c1_i32_421
  let c1_i32_428 : BitVec 32 := 1#32
  let v965 : BitVec 32 := Scalar.addi v960 c1_i32_428
  let c512_i32_429 : BitVec 32 := 512#32
  let v966 : BitVec 32 := Scalar.muli v965 c512_i32_429
  v966
def k0_off15 (i : grid0.Coords) (k0_t1 : Fin (k0_t1_loop i).trips) (c1_i32_421 : BitVec 32) : Fin 2 → Nat :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let v960 : BitVec 32 := Scalar.addi v867 c1_i32_421
  let c1_i32_428 : BitVec 32 := 1#32
  let v965 : BitVec 32 := Scalar.addi v960 c1_i32_428
  let c512_i32_429 : BitVec 32 := 512#32
  let v966 : BitVec 32 := Scalar.muli v965 c512_i32_429
  let v967 : BitVec 32 := v966
  let v968 : Index := Scalar.indexCast v967
  let c0_430 : Index := 0#32
  ![v968.toNat, 0]
def k0_mult16 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c1_i32_421 : BitVec 32 := 1#32
  let v960 : BitVec 32 := Scalar.addi v867 c1_i32_421
  let c512_i32_460 : BitVec 32 := 512#32
  let v997 : BitVec 32 := Scalar.muli v960 c512_i32_460
  v997
def k0_off16 (i : grid0.Coords) (k0_t1 : Fin (k0_t1_loop i).trips) (c1_i32_421 : BitVec 32) : Fin 2 → Nat :=
  let c0_467 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let v960 : BitVec 32 := Scalar.addi v867 c1_i32_421
  let c512_i32_460 : BitVec 32 := 512#32
  let v997 : BitVec 32 := Scalar.muli v960 c512_i32_460
  let v998 : BitVec 32 := v997
  let v1009 : Index := Scalar.indexCast v998
  ![0, v1009.toNat]
def k0_mult17 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c1_i32_421 : BitVec 32 := 1#32
  let v960 : BitVec 32 := Scalar.addi v867 c1_i32_421
  let c512_i32_480 : BitVec 32 := 512#32
  let v1026 : BitVec 32 := Scalar.muli v960 c512_i32_480
  v1026
def k0_off17 (i : grid0.Coords) (k0_t1 : Fin (k0_t1_loop i).trips) (c1_i32_421 : BitVec 32) : Fin 2 → Nat :=
  let c64_487 : Index := 64#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let v960 : BitVec 32 := Scalar.addi v867 c1_i32_421
  let c512_i32_480 : BitVec 32 := 512#32
  let v1026 : BitVec 32 := Scalar.muli v960 c512_i32_480
  let v1027 : BitVec 32 := v1026
  let v1038 : Index := Scalar.indexCast v1027
  ![64, v1038.toNat]
def k0_mult18 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c2_i32_496 : BitVec 32 := 2#32
  let v1053 : BitVec 32 := Scalar.addi v867 c2_i32_496
  let c1_i32_503 : BitVec 32 := 1#32
  let v1058 : BitVec 32 := Scalar.addi v1053 c1_i32_503
  let c512_i32_504 : BitVec 32 := 512#32
  let v1059 : BitVec 32 := Scalar.muli v1058 c512_i32_504
  v1059
def k0_mult19 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c2_i32_496 : BitVec 32 := 2#32
  let v1053 : BitVec 32 := Scalar.addi v867 c2_i32_496
  let c512_i32_535 : BitVec 32 := 512#32
  let v1090 : BitVec 32 := Scalar.muli v1053 c512_i32_535
  v1090
def k0_mult20 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c2_i32_496 : BitVec 32 := 2#32
  let v1053 : BitVec 32 := Scalar.addi v867 c2_i32_496
  let c512_i32_555 : BitVec 32 := 512#32
  let v1119 : BitVec 32 := Scalar.muli v1053 c512_i32_555
  v1119
def k0_mult21 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c3_i32_571 : BitVec 32 := 3#32
  let v1146 : BitVec 32 := Scalar.addi v867 c3_i32_571
  let c1_i32_578 : BitVec 32 := 1#32
  let v1151 : BitVec 32 := Scalar.addi v1146 c1_i32_578
  let c512_i32_579 : BitVec 32 := 512#32
  let v1152 : BitVec 32 := Scalar.muli v1151 c512_i32_579
  v1152
def k0_mult22 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c3_i32_571 : BitVec 32 := 3#32
  let v1146 : BitVec 32 := Scalar.addi v867 c3_i32_571
  let c512_i32_610 : BitVec 32 := 512#32
  let v1183 : BitVec 32 := Scalar.muli v1146 c512_i32_610
  v1183
def k0_mult23 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c1_i32_263 : BitVec 32 := 1#32
  let arg18 : BitVec 32 := Scf.iv c0_i32_261 c1_i32_263 k0_t1
  let v866 : BitVec 32 := Scalar.muli c4_i32_346 arg18
  let v867 : BitVec 32 := Scalar.addi v865 v866
  let c3_i32_571 : BitVec 32 := 3#32
  let v1146 : BitVec 32 := Scalar.addi v867 c3_i32_571
  let c512_i32_630 : BitVec 32 := 512#32
  let v1212 : BitVec 32 := Scalar.muli v1146 c512_i32_630
  v1212
@[reducible] def k0_t2_loop (i : grid0.Coords) : Scf.Loop 32 :=
  let c0_i32_261 : BitVec 32 := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let v634 : BitVec 32 := Scalar.addi c0_i32_261 v633
  let c1_i32_264 : BitVec 32 := 1#32
  ⟨v637, v634, c1_i32_264⟩
def k0_mult24 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c1_i32_353 : BitVec 32 := 1#32
  let v872 : BitVec 32 := Scalar.addi v867 c1_i32_353
  let c512_i32_354 : BitVec 32 := 512#32
  let v873 : BitVec 32 := Scalar.muli v872 c512_i32_354
  v873
def k0_off18 (i : grid0.Coords) (k0_t2 : Fin (k0_t2_loop i).trips) : Fin 2 → Nat :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c1_i32_353 : BitVec 32 := 1#32
  let v872 : BitVec 32 := Scalar.addi v867 c1_i32_353
  let c512_i32_354 : BitVec 32 := 512#32
  let v873 : BitVec 32 := Scalar.muli v872 c512_i32_354
  let v874 : BitVec 32 := v873
  let v875 : Index := Scalar.indexCast v874
  let c0_355 : Index := 0#32
  ![v875.toNat, 0]
def k0_mult25 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c512_i32_385 : BitVec 32 := 512#32
  let v904 : BitVec 32 := Scalar.muli v867 c512_i32_385
  v904
def k0_off19 (i : grid0.Coords) (k0_t2 : Fin (k0_t2_loop i).trips) : Fin 2 → Nat :=
  let c0_392 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c512_i32_385 : BitVec 32 := 512#32
  let v904 : BitVec 32 := Scalar.muli v867 c512_i32_385
  let v905 : BitVec 32 := v904
  let v916 : Index := Scalar.indexCast v905
  ![0, v916.toNat]
def k0_mult26 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c512_i32_405 : BitVec 32 := 512#32
  let v933 : BitVec 32 := Scalar.muli v867 c512_i32_405
  v933
def k0_off20 (i : grid0.Coords) (k0_t2 : Fin (k0_t2_loop i).trips) : Fin 2 → Nat :=
  let c64_412 : Index := 64#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c512_i32_405 : BitVec 32 := 512#32
  let v933 : BitVec 32 := Scalar.muli v867 c512_i32_405
  let v934 : BitVec 32 := v933
  let v945 : Index := Scalar.indexCast v934
  ![64, v945.toNat]
def k0_mult27 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c1_i32_421 : BitVec 32 := 1#32
  let v960 : BitVec 32 := Scalar.addi v867 c1_i32_421
  let c1_i32_428 : BitVec 32 := 1#32
  let v965 : BitVec 32 := Scalar.addi v960 c1_i32_428
  let c512_i32_429 : BitVec 32 := 512#32
  let v966 : BitVec 32 := Scalar.muli v965 c512_i32_429
  v966
def k0_off21 (i : grid0.Coords) (k0_t2 : Fin (k0_t2_loop i).trips) (c1_i32_421 : BitVec 32) : Fin 2 → Nat :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let v960 : BitVec 32 := Scalar.addi v867 c1_i32_421
  let c1_i32_428 : BitVec 32 := 1#32
  let v965 : BitVec 32 := Scalar.addi v960 c1_i32_428
  let c512_i32_429 : BitVec 32 := 512#32
  let v966 : BitVec 32 := Scalar.muli v965 c512_i32_429
  let v967 : BitVec 32 := v966
  let v968 : Index := Scalar.indexCast v967
  let c0_430 : Index := 0#32
  ![v968.toNat, 0]
def k0_mult28 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c1_i32_421 : BitVec 32 := 1#32
  let v960 : BitVec 32 := Scalar.addi v867 c1_i32_421
  let c512_i32_460 : BitVec 32 := 512#32
  let v997 : BitVec 32 := Scalar.muli v960 c512_i32_460
  v997
def k0_off22 (i : grid0.Coords) (k0_t2 : Fin (k0_t2_loop i).trips) (c1_i32_421 : BitVec 32) : Fin 2 → Nat :=
  let c0_467 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let v960 : BitVec 32 := Scalar.addi v867 c1_i32_421
  let c512_i32_460 : BitVec 32 := 512#32
  let v997 : BitVec 32 := Scalar.muli v960 c512_i32_460
  let v998 : BitVec 32 := v997
  let v1009 : Index := Scalar.indexCast v998
  ![0, v1009.toNat]
def k0_mult29 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c1_i32_421 : BitVec 32 := 1#32
  let v960 : BitVec 32 := Scalar.addi v867 c1_i32_421
  let c512_i32_480 : BitVec 32 := 512#32
  let v1026 : BitVec 32 := Scalar.muli v960 c512_i32_480
  v1026
def k0_off23 (i : grid0.Coords) (k0_t2 : Fin (k0_t2_loop i).trips) (c1_i32_421 : BitVec 32) : Fin 2 → Nat :=
  let c64_487 : Index := 64#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let v960 : BitVec 32 := Scalar.addi v867 c1_i32_421
  let c512_i32_480 : BitVec 32 := 512#32
  let v1026 : BitVec 32 := Scalar.muli v960 c512_i32_480
  let v1027 : BitVec 32 := v1026
  let v1038 : Index := Scalar.indexCast v1027
  ![64, v1038.toNat]
def k0_mult30 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c2_i32_496 : BitVec 32 := 2#32
  let v1053 : BitVec 32 := Scalar.addi v867 c2_i32_496
  let c1_i32_503 : BitVec 32 := 1#32
  let v1058 : BitVec 32 := Scalar.addi v1053 c1_i32_503
  let c512_i32_504 : BitVec 32 := 512#32
  let v1059 : BitVec 32 := Scalar.muli v1058 c512_i32_504
  v1059
def k0_mult31 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c2_i32_496 : BitVec 32 := 2#32
  let v1053 : BitVec 32 := Scalar.addi v867 c2_i32_496
  let c512_i32_535 : BitVec 32 := 512#32
  let v1090 : BitVec 32 := Scalar.muli v1053 c512_i32_535
  v1090
def k0_mult32 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c2_i32_496 : BitVec 32 := 2#32
  let v1053 : BitVec 32 := Scalar.addi v867 c2_i32_496
  let c512_i32_555 : BitVec 32 := 512#32
  let v1119 : BitVec 32 := Scalar.muli v1053 c512_i32_555
  v1119
def k0_mult33 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c3_i32_571 : BitVec 32 := 3#32
  let v1146 : BitVec 32 := Scalar.addi v867 c3_i32_571
  let c1_i32_578 : BitVec 32 := 1#32
  let v1151 : BitVec 32 := Scalar.addi v1146 c1_i32_578
  let c512_i32_579 : BitVec 32 := 512#32
  let v1152 : BitVec 32 := Scalar.muli v1151 c512_i32_579
  v1152
def k0_mult34 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c3_i32_571 : BitVec 32 := 3#32
  let v1146 : BitVec 32 := Scalar.addi v867 c3_i32_571
  let c512_i32_610 : BitVec 32 := 512#32
  let v1183 : BitVec 32 := Scalar.muli v1146 c512_i32_610
  v1183
def k0_mult35 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c2_i32 : BitVec 32 := 2#32
  let c0_i32_191 : BitVec 32 := 0#32
  let v527 : BitVec 1 := Scalar.cmpi .eq c2_i32 c0_i32_191
  let c1_i32_192 : BitVec 32 := 1#32
  let v528 : BitVec 32 := Scalar.select v527 c1_i32_192 c2_i32
  let v529 : BitVec 32 := Scalar.remsi v526 v528
  let c0_i32_194 : BitVec 32 := 0#32
  let v531 : BitVec 1 := Scalar.cmpi .slt v529 c0_i32_194
  let c0_i32_195 : BitVec 32 := 0#32
  let v532 : BitVec 1 := Scalar.cmpi .slt v528 c0_i32_195
  let v533 : BitVec 1 := Scalar.xori v531 v532
  let c0_i32_193 : BitVec 32 := 0#32
  let v530 : BitVec 1 := Scalar.cmpi .ne v529 c0_i32_193
  let v534 : BitVec 1 := Scalar.andi v533 v530
  let v535 : BitVec 32 := Scalar.addi v529 v528
  let v536 : BitVec 32 := Scalar.select v534 v535 v529
  let c2_i32_345 : BitVec 32 := 2#32
  let c0_i32_240 : BitVec 32 := 0#32
  let v587 : BitVec 1 := Scalar.cmpi .sgt v526 c0_i32_240
  let v588 : BitVec 32 := Scalar.extui v587
  let c0_i32_241 : BitVec 32 := 0#32
  let v589 : BitVec 1 := Scalar.cmpi .slt v526 c0_i32_241
  let v590 : BitVec 32 := Scalar.extui v589
  let v591 : BitVec 32 := Scalar.subi v588 v590
  let c2_i32_239 : BitVec 32 := 2#32
  let c0_i32_242 : BitVec 32 := 0#32
  let v592 : BitVec 1 := Scalar.cmpi .sgt c2_i32_239 c0_i32_242
  let v593 : BitVec 32 := Scalar.extui v592
  let c0_i32_243 : BitVec 32 := 0#32
  let v594 : BitVec 1 := Scalar.cmpi .slt c2_i32_239 c0_i32_243
  let v595 : BitVec 32 := Scalar.extui v594
  let v596 : BitVec 32 := Scalar.subi v593 v595
  let v597 : BitVec 1 := Scalar.cmpi .ne v591 v596
  let v598 : BitVec 32 := Scalar.remsi v526 c2_i32_239
  let c0_i32_244 : BitVec 32 := 0#32
  let v599 : BitVec 1 := Scalar.cmpi .ne v598 c0_i32_244
  let v600 : BitVec 1 := Scalar.andi v597 v599
  let v586 : BitVec 32 := Scalar.divsi v526 c2_i32_239
  let c1_i32_245 : BitVec 32 := 1#32
  let v601 : BitVec 32 := Scalar.subi v586 c1_i32_245
  let v602 : BitVec 32 := Scalar.select v600 v601 v586
  let c2_i32_246 : BitVec 32 := 2#32
  let c0_i32_247 : BitVec 32 := 0#32
  let v603 : BitVec 1 := Scalar.cmpi .eq c2_i32_246 c0_i32_247
  let c1_i32_248 : BitVec 32 := 1#32
  let v604 : BitVec 32 := Scalar.select v603 c1_i32_248 c2_i32_246
  let v605 : BitVec 32 := Scalar.remsi v602 v604
  let c0_i32_250 : BitVec 32 := 0#32
  let v607 : BitVec 1 := Scalar.cmpi .slt v605 c0_i32_250
  let c0_i32_251 : BitVec 32 := 0#32
  let v608 : BitVec 1 := Scalar.cmpi .slt v604 c0_i32_251
  let v609 : BitVec 1 := Scalar.xori v607 v608
  let c0_i32_249 : BitVec 32 := 0#32
  let v606 : BitVec 1 := Scalar.cmpi .ne v605 c0_i32_249
  let v610 : BitVec 1 := Scalar.andi v609 v606
  let v611 : BitVec 32 := Scalar.addi v605 v604
  let v612 : BitVec 32 := Scalar.select v610 v611 v605
  let v864 : BitVec 32 := Scalar.muli c2_i32_345 v612
  let v865 : BitVec 32 := Scalar.addi v536 v864
  let c4_i32_346 : BitVec 32 := 4#32
  let c0_i32_261 : BitVec 32 := 0#32
  let c0_i32_254 : BitVec 32 := 0#32
  let v617 : BitVec 1 := Scalar.cmpi .sgt v526 c0_i32_254
  let v618 : BitVec 32 := Scalar.extui v617
  let c0_i32_255 : BitVec 32 := 0#32
  let v619 : BitVec 1 := Scalar.cmpi .slt v526 c0_i32_255
  let v620 : BitVec 32 := Scalar.extui v619
  let v621 : BitVec 32 := Scalar.subi v618 v620
  let c4_i32 : BitVec 32 := 4#32
  let c0_i32_256 : BitVec 32 := 0#32
  let v622 : BitVec 1 := Scalar.cmpi .sgt c4_i32 c0_i32_256
  let v623 : BitVec 32 := Scalar.extui v622
  let c0_i32_257 : BitVec 32 := 0#32
  let v624 : BitVec 1 := Scalar.cmpi .slt c4_i32 c0_i32_257
  let v625 : BitVec 32 := Scalar.extui v624
  let v626 : BitVec 32 := Scalar.subi v623 v625
  let v627 : BitVec 1 := Scalar.cmpi .ne v621 v626
  let v628 : BitVec 32 := Scalar.remsi v526 c4_i32
  let c0_i32_258 : BitVec 32 := 0#32
  let v629 : BitVec 1 := Scalar.cmpi .ne v628 c0_i32_258
  let v630 : BitVec 1 := Scalar.andi v627 v629
  let v616 : BitVec 32 := Scalar.divsi v526 c4_i32
  let c1_i32_259 : BitVec 32 := 1#32
  let v631 : BitVec 32 := Scalar.subi v616 c1_i32_259
  let v632 : BitVec 32 := Scalar.select v630 v631 v616
  let v633 : BitVec 32 := Scalar.subi v632 c0_i32_261
  let c1_i32_262 : BitVec 32 := 1#32
  let v635 : BitVec 32 := Scalar.divsi v633 c1_i32_262
  let v636 : BitVec 32 := Scalar.muli v635 c1_i32_262
  let v637 : BitVec 32 := Scalar.addi c0_i32_261 v636
  let c1_i32_264 : BitVec 32 := 1#32
  let arg18 : BitVec 32 := Scf.iv v637 c1_i32_264 k0_t2
  let v866 : BitVec 32 := Scalar.muli c4_i32_346 arg18
  let v867 : BitVec 32 := Scalar.addi v865 v866
  let c3_i32_571 : BitVec 32 := 3#32
  let v1146 : BitVec 32 := Scalar.addi v867 c3_i32_571
  let c512_i32_630 : BitVec 32 := 512#32
  let v1212 : BitVec 32 := Scalar.muli v1146 c512_i32_630
  v1212
def k0_mult36 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c512_i32_273 : BitVec 32 := 512#32
  let v653 : BitVec 32 := Scalar.muli v526 c512_i32_273
  v653
def k0_off24 (i : grid0.Coords) : Fin 2 → Nat :=
  let c0_280 : Index := 0#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c512_i32_273 : BitVec 32 := 512#32
  let v653 : BitVec 32 := Scalar.muli v526 c512_i32_273
  let v654 : BitVec 32 := v653
  let v665 : Index := Scalar.indexCast v654
  ![0, v665.toNat]
def k0_mult37 (i : grid0.Coords) : BitVec 32 :=
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c512_i32_294 : BitVec 32 := 512#32
  let v685 : BitVec 32 := Scalar.muli v526 c512_i32_294
  v685
def k0_off25 (i : grid0.Coords) : Fin 2 → Nat :=
  let c64_301 : Index := 64#32
  let arg1 : BitVec 32 := BitVec.ofNat 32 (i 1).val
  let c128_i32 : BitVec 32 := 128#32
  let v0 : BitVec 32 := Scalar.muli arg1 c128_i32
  let c0_i32_185 : BitVec 32 := 0#32
  let v511 : BitVec 1 := Scalar.cmpi .sgt v0 c0_i32_185
  let v512 : BitVec 32 := Scalar.extui v511
  let c0_i32_186 : BitVec 32 := 0#32
  let v513 : BitVec 1 := Scalar.cmpi .slt v0 c0_i32_186
  let v514 : BitVec 32 := Scalar.extui v513
  let v515 : BitVec 32 := Scalar.subi v512 v514
  let c512_i32_184 : BitVec 32 := 512#32
  let c0_i32_187 : BitVec 32 := 0#32
  let v516 : BitVec 1 := Scalar.cmpi .sgt c512_i32_184 c0_i32_187
  let v517 : BitVec 32 := Scalar.extui v516
  let c0_i32_188 : BitVec 32 := 0#32
  let v518 : BitVec 1 := Scalar.cmpi .slt c512_i32_184 c0_i32_188
  let v519 : BitVec 32 := Scalar.extui v518
  let v520 : BitVec 32 := Scalar.subi v517 v519
  let v521 : BitVec 1 := Scalar.cmpi .ne v515 v520
  let v522 : BitVec 32 := Scalar.remsi v0 c512_i32_184
  let c0_i32_189 : BitVec 32 := 0#32
  let v523 : BitVec 1 := Scalar.cmpi .ne v522 c0_i32_189
  let v524 : BitVec 1 := Scalar.andi v521 v523
  let v510 : BitVec 32 := Scalar.divsi v0 c512_i32_184
  let c1_i32_190 : BitVec 32 := 1#32
  let v525 : BitVec 32 := Scalar.subi v510 c1_i32_190
  let v526 : BitVec 32 := Scalar.select v524 v525 v510
  let c512_i32_294 : BitVec 32 := 512#32
  let v685 : BitVec 32 := Scalar.muli v526 c512_i32_294
  let v686 : BitVec 32 := v685
  let v697 : Index := Scalar.indexCast v686
  ![64, v697.toNat]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8192x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2.lean ====
abbrev S2x8192x2048 : Shape := ⟨3, ![2, 8192, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S16384x2048 : Shape := ⟨2, ![16384, 2048]⟩
abbrev S1x11264 : Shape := ⟨2, ![1, 11264]⟩
abbrev S1x2048 : Shape := ⟨2, ![1, 2048]⟩
abbrev S1024x2048 : Shape := ⟨2, ![1024, 2048]⟩
abbrev S8x2048 : Shape := ⟨2, ![8, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1032x2048 : Shape := ⟨2, ![1032, 2048]⟩
abbrev S1032x512 : Shape := ⟨2, ![1032, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 23
  | .smem => 0
  | _ => 0

abbrev bufTy : (tb : Table) → Fin (tcTables nBuf tb) → BufTy
  | .hbm, ⟨0, _⟩ => ⟨S2x8192x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S2048x11264, .bf16⟩
  | .hbm, ⟨9, _⟩ => ⟨S1x11264, .f32⟩
  | .hbm, ⟨10, _⟩ => ⟨S5632x2048, .bf16⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | .local _ .vmem, ⟨19, _⟩ => ⟨S1x2048, .f32⟩
  | .local _ .vmem, ⟨20, _⟩ => ⟨S1024x2048, .f32⟩
  | .local _ .vmem, ⟨21, _⟩ => ⟨S1024x2048, .f32⟩
  | .local _ .vmem, ⟨22, _⟩ => ⟨S1032x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S2x8192x2048 : Shape := ⟨3, ![2, 8192, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2x8192x11264 : Shape := ⟨3, ![2, 8192, 11264]⟩
abbrev S_ : Shape := ⟨0, ![]⟩
abbrev S2x8194x11264 : Shape := ⟨3, ![2, 8194, 11264]⟩
abbrev S1x11264 : Shape := ⟨2, ![1, 11264]⟩
abbrev S1x1x11264 : Shape := ⟨3, ![1, 1, 11264]⟩
abbrev S2x8192x5632 : Shape := ⟨3, ![2, 8192, 5632]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S2x8192x11264, .f32⟩
  | .hbm, ⟨8, _⟩ => ⟨S_, .i32⟩
  | .hbm, ⟨9, _⟩ => ⟨S_, .f32⟩
  | .hbm, ⟨10, _⟩ => ⟨S2x8194x11264, .f32⟩
  | .hbm, ⟨11, _⟩ => ⟨S2x8192x11264, .f32⟩
  | .hbm, ⟨12, _⟩ => ⟨S1x11264, .f32⟩
  | .hbm, ⟨13, _⟩ => ⟨S11264, .f32⟩
  | .hbm, ⟨14, _⟩ => ⟨S1x1x11264, .f32⟩
  | .hbm, ⟨15, _⟩ => ⟨S2x8192x11264, .f32⟩
  | .hbm, ⟨16, _⟩ => ⟨S2x8192x11264, .f32⟩
  | .hbm, ⟨17, _⟩ => ⟨S1x1x11264, .f32⟩
  | .hbm, ⟨18, _⟩ => ⟨S2x8192x11264, .f32⟩
  | .hbm, ⟨19, _⟩ => ⟨S2x8192x11264, .f32⟩
  | .hbm, ⟨20, _⟩ => ⟨S2x8192x11264, .f32⟩
  | .hbm, ⟨21, _⟩ => ⟨S1x11264, .f32⟩
  | .hbm, ⟨22, _⟩ => ⟨S11264, .f32⟩
  | .hbm, ⟨23, _⟩ => ⟨S1x1x11264, .f32⟩
  | .hbm, ⟨24, _⟩ => ⟨S2x8192x11264, .f32⟩
  | .hbm, ⟨25, _⟩ => ⟨S2x8192x11264, .f32⟩
  | .hbm, ⟨26, _⟩ => ⟨S2x8192x11264, .f32⟩
  | .hbm, ⟨27, _⟩ => ⟨S2x8192x11264, .f32⟩
  | .hbm, ⟨28, _⟩ => ⟨S1x11264, .f32⟩
  | .hbm, ⟨29, _⟩ => ⟨S11264, .f32⟩
  | .hbm, ⟨30, _⟩ => ⟨S1x1x11264, .f32⟩
  | .hbm, ⟨31, _⟩ => ⟨S2x8192x11264, .f32⟩
  | .hbm, ⟨32, _⟩ => ⟨S2x8192x11264, .f32⟩
  | .hbm, ⟨33, _⟩ => ⟨S2x8192x11264, .f32⟩
  | .hbm, ⟨34, _⟩ => ⟨S2x8192x5632, .f32⟩
  | .hbm, ⟨35, _⟩ => ⟨S2x8192x5632, .f32⟩
  | .hbm, ⟨36, _⟩ => ⟨S_, .f32⟩
  | .hbm, ⟨37, _⟩ => ⟨S2x8192x2048, .f32⟩
  | .hbm, ⟨38, _⟩ => ⟨S2x8192x2048, .f32⟩
  | .hbm, ⟨39, _⟩ => ⟨S2x8192x5632, .f32⟩
  | .hbm, ⟨40, _⟩ => ⟨S2x8192x5632, .f32⟩
  | .hbm, ⟨41, _⟩ => ⟨S_, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S_, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S_, .f32⟩
  | .hbm, ⟨50, _⟩ => ⟨S2x8192x5632, .f32⟩
  | .hbm, ⟨51, _⟩ => ⟨S2x8192x5632, .f32⟩
  | .hbm, ⟨52, _⟩ => ⟨S_, .f32⟩
  | .hbm, ⟨53, _⟩ => ⟨S2x8192x5632, .f32⟩
  | .hbm, ⟨54, _⟩ => ⟨S2x8192x5632, .f32⟩
  | .hbm, ⟨55, _⟩ => ⟨S2x8192x5632, .f32⟩
  | .hbm, ⟨56, _⟩ => ⟨S2x8192x5632, .f32⟩
  | .hbm, ⟨57, _⟩ => ⟨S2x8192x2048, .f32⟩
  | .hbm, ⟨58, _⟩ => ⟨S2x8192x2048, .f32⟩
  | .hbm, ⟨59, _⟩ => ⟨S_, .f32⟩
  | .hbm, ⟨60, _⟩ => ⟨S2x8192, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x2048, .f32⟩
  | .hbm, ⟨66, _⟩ => ⟨S2x8192x2048, .f32⟩
  | .hbm, ⟨67, _⟩ => ⟨S2x8192x2048, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S2x8192x2048, .f32⟩
  | .hbm, ⟨75, _⟩ => ⟨S2x8192x2048, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1, .f32⟩
  | .hbm, ⟨80, _⟩ => ⟨S2x8192x2048, .f32⟩
  | .hbm, ⟨81, _⟩ => ⟨S2x8192x2048, .f32⟩
  | .hbm, ⟨82, _⟩ => ⟨S1x1x2048, .f32⟩
  | .hbm, ⟨83, _⟩ => ⟨S2x8192x2048, .f32⟩
  | .hbm, ⟨84, _⟩ => ⟨S2x8192x2048, .f32⟩
  | .hbm, ⟨85, _⟩ => ⟨S1x1x2048, .f32⟩
  | .hbm, ⟨86, _⟩ => ⟨S2x8192x2048, .f32⟩
  | .hbm, ⟨87, _⟩ => ⟨S2x8192x2048, .f32⟩
  | .hbm, ⟨88, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x8192x1024 : Shape := ⟨3, ![2, 8192, 1024]⟩
abbrev S2x8192x512 : Shape := ⟨3, ![2, 8192, 512]⟩
abbrev S2048x2048 : Shape := ⟨2, ![2048, 2048]⟩
abbrev S2048 : Shape := ⟨1, ![2048]⟩
abbrev S16384x2048 : Shape := ⟨2, ![16384, 2048]⟩
abbrev S16384x1024 : Shape := ⟨2, ![16384, 1024]⟩
abbrev S16384x512 : Shape := ⟨2, ![16384, 512]⟩
abbrev S512x16384 : Shape := ⟨2, ![512, 16384]⟩
abbrev S1x2048 : Shape := ⟨2, ![1, 2048]⟩
abbrev S1024x2048 : Shape := ⟨2, ![1024, 2048]⟩
abbrev S1024x1024 : Shape := ⟨2, ![1024, 1024]⟩
abbrev S512x1024 : Shape := ⟨2, ![512, 1024]⟩
abbrev S256x1024 : Shape := ⟨2, ![256, 1024]⟩
abbrev S256x2048 : Shape := ⟨2, ![256, 2048]⟩
abbrev S512x256 : Shape := ⟨2, ![512, 256]⟩
abbrev S512x2048 : Shape := ⟨2, ![512, 2048]⟩
abbrev S256 : Shape := ⟨1, ![256]⟩
abbrev S256x1 : Shape := ⟨2, ![256, 1]⟩

abbrev nBuf : Space → Nat
  | .hbm => 20
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S2x8192x512, .f32⟩
  | .hbm, ⟨3, _⟩ => ⟨S2x8192x512, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x1024, .f32⟩
  | .hbm, ⟨9, _⟩ => ⟨S16384x1024, .bf16⟩
  | .hbm, ⟨10, _⟩ => ⟨S16384x512, .f32⟩
  | .hbm, ⟨11, _⟩ => ⟨S16384x512, .bf16⟩
  | .hbm, ⟨12, _⟩ => ⟨S512x16384, .bf16⟩
  | .hbm, ⟨13, _⟩ => ⟨S16384x512, .f32⟩
  | .hbm, ⟨14, _⟩ => ⟨S16384x512, .bf16⟩
  | .hbm, ⟨15, _⟩ => ⟨S512x16384, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x8192x2048 : Shape := ⟨3, ![2, 8192, 2048]⟩
abbrev S2x8192x1024 : Shape := ⟨3, ![2, 8192, 1024]⟩
abbrev S2x8192x512 : Shape := ⟨3, ![2, 8192, 512]⟩
abbrev S2048x2048 : Shape := ⟨2, ![2048, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S2x8192x512, .f32⟩
  | .hbm, ⟨3, _⟩ => ⟨S2x8192x512, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2x8192x2048, .f32⟩
  | .hbm, ⟨8, _⟩ => ⟨S2x8192x2048, .f32⟩
  | .hbm, ⟨9, _⟩ => ⟨S_, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x2048, .f32⟩
  | .hbm, ⟨29, _⟩ => ⟨S2x8192x2048, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x2048, .f32⟩
  | .hbm, ⟨35, _⟩ => ⟨S2x8192x2048, .f32⟩
  | .hbm, ⟨36, _⟩ => ⟨S1x1x2048, .f32⟩
  | .hbm, ⟨37, _⟩ => ⟨S2x8192x2048, .f32⟩
  | .hbm, ⟨38, _⟩ => ⟨S2x8192x2048, .f32⟩
  | .hbm, ⟨39, _⟩ => ⟨S1x1x2048, .f32⟩
  | .hbm, ⟨40, _⟩ => ⟨S2x8192x2048, .f32⟩
  | .hbm, ⟨41, _⟩ => ⟨S2x8192x2048, .f32⟩
  | .hbm, ⟨42, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel4.lean ====
abbrev S2x8192x2048 : Shape := ⟨3, ![2, 8192, 2048]⟩
abbrev S2048 : Shape := ⟨1, ![2048]⟩
abbrev S2048x3864 : Shape := ⟨2, ![2048, 3864]⟩
abbrev S2048x512 : Shape := ⟨2, ![2048, 512]⟩
abbrev S2048x24 : Shape := ⟨2, ![2048, 24]⟩
abbrev S2048x2x4x3 : Shape := ⟨4, ![2048, 2, 4, 3]⟩
abbrev S2x3x4x2048 : Shape := ⟨4, ![2, 3, 4, 2048]⟩
abbrev S_ : Shape := ⟨0, ![]⟩
abbrev S2x4x4x2048 : Shape := ⟨4, ![2, 4, 4, 2048]⟩
abbrev S32x2048 : Shape := ⟨2, ![32, 2048]⟩
abbrev S16384x2048 : Shape := ⟨2, ![16384, 2048]⟩
abbrev S1x2048 : Shape := ⟨2, ![1, 2048]⟩
abbrev S16384x1024 : Shape := ⟨2, ![16384, 1024]⟩
abbrev S16384x128 : Shape := ⟨2, ![16384, 128]⟩
abbrev S512x16384 : Shape := ⟨2, ![512, 16384]⟩
abbrev S128x16384 : Shape := ⟨2, ![128, 16384]⟩
abbrev S32x16384 : Shape := ⟨2, ![32, 16384]⟩
abbrev S512x2048 : Shape := ⟨2, ![512, 2048]⟩
abbrev S512x1024 : Shape := ⟨2, ![512, 1024]⟩
abbrev S512x128 : Shape := ⟨2, ![512, 128]⟩
abbrev S512x512 : Shape := ⟨2, ![512, 512]⟩
abbrev S128x512 : Shape := ⟨2, ![128, 512]⟩
abbrev S32x512 : Shape := ⟨2, ![32, 512]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S2048x256 : Shape := ⟨2, ![2048, 256]⟩
abbrev S512x256 : Shape := ⟨2, ![512, 256]⟩

abbrev nBuf : Space → Nat
  | .hbm => 29
  | .vmem => 31
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048, .f32⟩
  | .hbm, ⟨3, _⟩ => ⟨S2048x3864, .f32⟩
  | .hbm, ⟨4, _⟩ => ⟨S2048x3864, .bf16⟩
  | .hbm, ⟨5, _⟩ => ⟨S2048x512, .bf16⟩
  | .hbm, ⟨6, _⟩ => ⟨S2048x24, .f32⟩
  | .hbm, ⟨7, _⟩ => ⟨S2048x2x4x3, .f32⟩
  | .hbm, ⟨8, _⟩ => ⟨S2x3x4x2048, .f32⟩
  | .hbm, ⟨9, _⟩ => ⟨S_, .i32⟩
  | .hbm, ⟨10, _⟩ => ⟨S_, .f32⟩
  | .hbm, ⟨11, _⟩ => ⟨S2x4x4x2048, .f32⟩
  | .hbm, ⟨12, _⟩ => ⟨S32x2048, .f32⟩
  | .hbm, ⟨13, _⟩ => ⟨S32x2048, .bf16⟩
  | .hbm, ⟨14, _⟩ => ⟨S16384x2048, .f32⟩
  | .hbm, ⟨15, _⟩ => ⟨S1x2048, .f32⟩
  | .hbm, ⟨16, _⟩ => ⟨S1x2048, .f32⟩
  | .hbm, ⟨17, _⟩ => ⟨S16384x1024, .f32⟩
  | .hbm, ⟨18, _⟩ => ⟨S16384x1024, .f32⟩
  | .hbm, ⟨19, _⟩ => ⟨S16384x128, .f32⟩
  | .hbm, ⟨20, _⟩ => ⟨S16384x128, .f32⟩
  | .hbm, ⟨21, _⟩ => ⟨S16384x128, .bf16⟩
  | .hbm, ⟨22, _⟩ => ⟨S16384x128, .bf16⟩
  | .hbm, ⟨23, _⟩ => ⟨S512x16384, .bf16⟩
  | .hbm, ⟨24, _⟩ => ⟨S128x16384, .bf16⟩
  | .hbm, ⟨25, _⟩ => ⟨S128x16384, .bf16⟩
  | .hbm, ⟨26, _⟩ => ⟨S512x16384, .bf16⟩
  | .hbm, ⟨27, _⟩ => ⟨S32x16384, .f32⟩
  | .hbm, ⟨28, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x3864, .bf16⟩
  | .local _ .vmem, ⟨5, _⟩ => ⟨S2048x512, .bf16⟩
  | .local _ .vmem, ⟨6, _⟩ => ⟨S32x2048, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x512, .bf16⟩
  | .local _ .vmem, ⟨20, _⟩ => ⟨S512x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S512x512, .bf16⟩
  | .local _ .vmem, ⟨26, _⟩ => ⟨S512x512, .bf16⟩
  | .local _ .vmem, ⟨27, _⟩ => ⟨S32x512, .f32⟩
  | .local _ .vmem, ⟨28, _⟩ => ⟨S32x512, .f32⟩
  | .local _ .vmem, ⟨29, _⟩ => ⟨S512x2048, .f32⟩
  | .local _ .vmem, ⟨30, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev main_v11_6 : Ref sig .tc := ⟨.hbm, 23, rfl⟩
abbrev main_v11_7 : Ref sig .tc := ⟨.hbm, 24, rfl⟩
abbrev main_v11_8 : Ref sig .tc := ⟨.hbm, 25, rfl⟩
abbrev main_v11_9 : Ref sig .tc := ⟨.hbm, 26, rfl⟩
abbrev main_v11_10 : Ref sig .tc := ⟨.hbm, 27, rfl⟩
abbrev main_v11_11 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S2x8192x2048 : Shape := ⟨3, ![2, 8192, 2048]⟩
abbrev S2048 : Shape := ⟨1, ![2048]⟩
abbrev S2048x3864 : Shape := ⟨2, ![2048, 3864]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x3864 : Shape := ⟨3, ![2, 8192, 3864]⟩
abbrev S16384x3864 : Shape := ⟨2, ![16384, 3864]⟩
abbrev S16384x1024 : Shape := ⟨2, ![16384, 1024]⟩
abbrev S16384x512 : Shape := ⟨2, ![16384, 512]⟩
abbrev S16384x128 : Shape := ⟨2, ![16384, 128]⟩
abbrev S16384x24 : Shape := ⟨2, ![16384, 24]⟩
abbrev S16384x2x4x3 : Shape := ⟨4, ![16384, 2, 4, 3]⟩
abbrev S2x3x4x16384 : Shape := ⟨4, ![2, 3, 4, 16384]⟩
abbrev S2x4x4x16384 : Shape := ⟨4, ![2, 4, 4, 16384]⟩
abbrev S32x16384 : Shape := ⟨2, ![32, 16384]⟩
abbrev S512x16384 : Shape := ⟨2, ![512, 16384]⟩
abbrev S128x16384 : Shape := ⟨2, ![128, 16384]⟩
abbrev S16384x2048 : Shape := ⟨2, ![16384, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048, .f32⟩
  | .hbm, ⟨3, _⟩ => ⟨S2048x3864, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x2048, .f32⟩
  | .hbm, ⟨26, _⟩ => ⟨S2x8192x2048, .f32⟩
  | .hbm, ⟨27, _⟩ => ⟨S1x1x2048, .f32⟩
  | .hbm, ⟨28, _⟩ => ⟨S2x8192x2048, .f32⟩
  | .hbm, ⟨29, _⟩ => ⟨S2x8192x2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S2x8192x3864, .f32⟩
  | .hbm, ⟨34, _⟩ => ⟨S16384x3864, .f32⟩
  | .hbm, ⟨35, _⟩ => ⟨S16384x1024, .f32⟩
  | .hbm, ⟨36, _⟩ => ⟨S16384x1024, .f32⟩
  | .hbm, ⟨37, _⟩ => ⟨S16384x512, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x24, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x2x4x3, .f32⟩
  | .hbm, ⟨50, _⟩ => ⟨S2x3x4x16384, .f32⟩
  | .hbm, ⟨51, _⟩ => ⟨S_, .i32⟩
  | .hbm, ⟨52, _⟩ => ⟨S_, .f32⟩
  | .hbm, ⟨53, _⟩ => ⟨S2x4x4x16384, .f32⟩
  | .hbm, ⟨54, _⟩ => ⟨S32x16384, .f32⟩
  | .hbm, ⟨55, _⟩ => ⟨S16384x128, .bf16⟩
  | .hbm, ⟨56, _⟩ => ⟨S16384x128, .bf16⟩
  | .hbm, ⟨57, _⟩ => ⟨S512x16384, .f32⟩
  | .hbm, ⟨58, _⟩ => ⟨S512x16384, .bf16⟩
  | .hbm, ⟨59, _⟩ => ⟨S128x16384, .f32⟩
  | .hbm, ⟨60, _⟩ => ⟨S128x16384, .bf16⟩
  | .hbm, ⟨61, _⟩ => ⟨S128x16384, .f32⟩
  | .hbm, ⟨62, _⟩ => ⟨S128x16384, .bf16⟩
  | .hbm, ⟨63, _⟩ => ⟨S512x16384, .f32⟩
  | .hbm, ⟨64, _⟩ => ⟨S512x16384, .bf16⟩
  | .hbm, ⟨65, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_call0_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel5.lean ====
abbrev S2x8192x512 : Shape := ⟨3, ![2, 8192, 512]⟩
abbrev S2x256x512 : Shape := ⟨3, ![2, 256, 512]⟩
abbrev S16384x512 : Shape := ⟨2, ![16384, 512]⟩
abbrev S512x16384 : Shape := ⟨2, ![512, 16384]⟩
abbrev S2x512x256 : Shape := ⟨3, ![2, 512, 256]⟩
abbrev S512x1024 : Shape := ⟨2, ![512, 1024]⟩
abbrev S1x256x512 : Shape := ⟨3, ![1, 256, 512]⟩
abbrev S1x512x256 : Shape := ⟨3, ![1, 512, 256]⟩
abbrev S1x256x128 : Shape := ⟨3, ![1, 256, 128]⟩
abbrev S256x128 : Shape := ⟨2, ![256, 128]⟩
abbrev S128x1024 : Shape := ⟨2, ![128, 1024]⟩
abbrev S256x1024 : Shape := ⟨2, ![256, 1024]⟩
abbrev S1024 : Shape := ⟨1, ![1024]⟩
abbrev S1x1024 : Shape := ⟨2, ![1, 1024]⟩
abbrev S1x128x256 : Shape := ⟨3, ![1, 128, 256]⟩
abbrev S128x256 : Shape := ⟨2, ![128, 256]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x256x512, .f32⟩
  | .hbm, ⟨3, _⟩ => ⟨S16384x512, .f32⟩
  | .hbm, ⟨4, _⟩ => ⟨S16384x512, .bf16⟩
  | .hbm, ⟨5, _⟩ => ⟨S512x16384, .bf16⟩
  | .hbm, ⟨6, _⟩ => ⟨S2x256x512, .bf16⟩
  | .hbm, ⟨7, _⟩ => ⟨S2x512x256, .f32⟩
  | .hbm, ⟨8, _⟩ => ⟨S2x512x256, .bf16⟩
  | .hbm, ⟨9, _⟩ => ⟨S512x16384, .bf16⟩
  | .local _ .vmem, ⟨0, _⟩ => ⟨S512x1024, .bf16⟩
  | .local _ .vmem, ⟨1, _⟩ => ⟨S512x1024, .bf16⟩
  | .local _ .vmem, ⟨2, _⟩ => ⟨S1x256x512, .bf16⟩
  | .local _ .vmem, ⟨3, _⟩ => ⟨S1x256x512, .bf16⟩
  | .local _ .vmem, ⟨4, _⟩ => ⟨S1x512x256, .bf16⟩
  | .local _ .vmem, ⟨5, _⟩ => ⟨S1x512x256, .bf16⟩
  | .local _ .vmem, ⟨6, _⟩ => ⟨S512x1024, .bf16⟩
  | .local _ .vmem, ⟨7, _⟩ => ⟨S512x1024, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x8192x512 : Shape := ⟨3, ![2, 8192, 512]⟩
abbrev S2x256x512 : Shape := ⟨3, ![2, 256, 512]⟩
abbrev S2x8192x4x128 : Shape := ⟨4, ![2, 8192, 4, 128]⟩
abbrev S2x256x4x128 : Shape := ⟨4, ![2, 256, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x512 : Shape := ⟨2, ![16384, 512]⟩
abbrev S512x16384 : Shape := ⟨2, ![512, 16384]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x256x512, .f32⟩
  | .hbm, ⟨3, _⟩ => ⟨S2x8192x4x128, .f32⟩
  | .hbm, ⟨4, _⟩ => ⟨S2x256x4x128, .f32⟩
  | .hbm, ⟨5, _⟩ => ⟨S2x4x8192x256, .f32⟩
  | .hbm, ⟨6, _⟩ => ⟨S_, .f32⟩
  | .hbm, ⟨7, _⟩ => ⟨S2x4x8192x256, .f32⟩
  | .hbm, ⟨8, _⟩ => ⟨S2x4x8192x256, .f32⟩
  | .hbm, ⟨9, _⟩ => ⟨S_, .f32⟩
  | .hbm, ⟨10, _⟩ => ⟨S2x4x8192, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S2x4x8192x1, .f32⟩
  | .hbm, ⟨15, _⟩ => ⟨S2x4x8192x256, .f32⟩
  | .hbm, ⟨16, _⟩ => ⟨S2x4x8192x256, .f32⟩
  | .hbm, ⟨17, _⟩ => ⟨S2x4x8192x256, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x256, .f32⟩
  | .hbm, ⟨22, _⟩ => ⟨S2x4x8192x256, .f32⟩
  | .hbm, ⟨23, _⟩ => ⟨S2x256x4x128, .f32⟩
  | .hbm, ⟨24, _⟩ => ⟨S2x4x128x8192, .f32⟩
  | .hbm, ⟨25, _⟩ => ⟨S2x8192x4x128, .f32⟩
  | .hbm, ⟨26, _⟩ => ⟨S16384x512, .f32⟩
  | .hbm, ⟨27, _⟩ => ⟨S16384x512, .bf16⟩
  | .hbm, ⟨28, _⟩ => ⟨S512x16384, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S2x256x2048 : Shape := ⟨3, ![2, 256, 2048]⟩
abbrev S2048x1024 : Shape := ⟨2, ![2048, 1024]⟩
abbrev S2048x512 : Shape := ⟨2, ![2048, 512]⟩
abbrev S512x2048 : Shape := ⟨2, ![512, 2048]⟩
abbrev S2x256x512 : Shape := ⟨3, ![2, 256, 512]⟩
abbrev S2x512x256 : Shape := ⟨3, ![2, 512, 256]⟩
abbrev S1x256x2048 : Shape := ⟨3, ![1, 256, 2048]⟩
abbrev S1x256x512 : Shape := ⟨3, ![1, 256, 512]⟩
abbrev S1x512x256 : Shape := ⟨3, ![1, 512, 256]⟩
abbrev S256x2048 : Shape := ⟨2, ![256, 2048]⟩
abbrev S256x512 : Shape := ⟨2, ![256, 512]⟩
abbrev S512x256 : Shape := ⟨2, ![512, 256]⟩

abbrev nBuf : Space → Nat
  | .hbm => 9
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S2048x1024, .f32⟩
  | .hbm, ⟨2, _⟩ => ⟨S2048x512, .f32⟩
  | .hbm, ⟨3, _⟩ => ⟨S2048x512, .bf16⟩
  | .hbm, ⟨4, _⟩ => ⟨S2048x512, .f32⟩
  | .hbm, ⟨5, _⟩ => ⟨S512x2048, .f32⟩
  | .hbm, ⟨6, _⟩ => ⟨S512x2048, .bf16⟩
  | .hbm, ⟨7, _⟩ => ⟨S2x256x512, .bf16⟩
  | .hbm, ⟨8, _⟩ => ⟨S2x512x256, .bf16⟩
  | .local _ .vmem, ⟨0, _⟩ => ⟨S1x256x2048, .f32⟩
  | .local _ .vmem, ⟨1, _⟩ => ⟨S1x256x2048, .f32⟩
  | .local _ .vmem, ⟨2, _⟩ => ⟨S2048x512, .bf16⟩
  | .local _ .vmem, ⟨3, _⟩ => ⟨S512x2048, .bf16⟩
  | .local _ .vmem, ⟨4, _⟩ => ⟨S1x256x512, .bf16⟩
  | .local _ .vmem, ⟨5, _⟩ => ⟨S1x256x512, .bf16⟩
  | .local _ .vmem, ⟨6, _⟩ => ⟨S1x512x256, .bf16⟩
  | .local _ .vmem, ⟨7, _⟩ => ⟨S1x512x256, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S2x256x2048 : Shape := ⟨3, ![2, 256, 2048]⟩
abbrev S2048x1024 : Shape := ⟨2, ![2048, 1024]⟩
abbrev S2x256x1024 : Shape := ⟨3, ![2, 256, 1024]⟩
abbrev S2x256x512 : Shape := ⟨3, ![2, 256, 512]⟩
abbrev S2x512x256 : Shape := ⟨3, ![2, 512, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048x1024, .f32⟩
  | .hbm, ⟨2, _⟩ => ⟨S2x256x1024, .f32⟩
  | .hbm, ⟨3, _⟩ => ⟨S2x256x512, .f32⟩
  | .hbm, ⟨4, _⟩ => ⟨S2x256x512, .f32⟩
  | .hbm, ⟨5, _⟩ => ⟨S2x256x512, .bf16⟩
  | .hbm, ⟨6, _⟩ => ⟨S2x512x256, .f32⟩
  | .hbm, ⟨7, _⟩ => ⟨S2x512x256, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S2x8192x128 : Shape := ⟨3, ![2, 8192, 128]⟩
abbrev S32x64 : Shape := ⟨2, ![32, 64]⟩
abbrev S32x64x64 : Shape := ⟨3, ![32, 64, 64]⟩
abbrev S64x64 : Shape := ⟨2, ![64, 64]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S2x16x64x64 : Shape := ⟨4, ![2, 16, 64, 64]⟩
abbrev S_ : Shape := ⟨0, ![]⟩
abbrev S2x16x64x128 : Shape := ⟨4, ![2, 16, 64, 128]⟩
abbrev S2x16x1x64x128 : Shape := ⟨5, ![2, 16, 1, 64, 128]⟩
abbrev S2x16x2x64x128 : Shape := ⟨5, ![2, 16, 2, 64, 128]⟩
abbrev S2x2048x128 : Shape := ⟨3, ![2, 2048, 128]⟩
abbrev S64x128 : Shape := ⟨2, ![64, 128]⟩
abbrev S1x64x128 : Shape := ⟨3, ![1, 64, 128]⟩
abbrev S2x64x128 : Shape := ⟨3, ![2, 64, 128]⟩
abbrev S128x128 : Shape := ⟨2, ![128, 128]⟩
abbrev S16384x128 : Shape := ⟨2, ![16384, 128]⟩
abbrev S2x512x128 : Shape := ⟨3, ![2, 512, 128]⟩
abbrev S2x128x512 : Shape := ⟨3, ![2, 128, 512]⟩
abbrev S8192x128 : Shape := ⟨2, ![8192, 128]⟩
abbrev S1x512x128 : Shape := ⟨3, ![1, 512, 128]⟩
abbrev S1x128x512 : Shape := ⟨3, ![1, 128, 512]⟩
abbrev S512x128 : Shape := ⟨2, ![512, 128]⟩
abbrev S512x2048 : Shape := ⟨2, ![512, 2048]⟩
abbrev S1x2048 : Shape := ⟨2, ![1, 2048]⟩
abbrev S1x2048x128 : Shape := ⟨3, ![1, 2048, 128]⟩
abbrev S2048x128 : Shape := ⟨2, ![2048, 128]⟩
abbrev S128x512 : Shape := ⟨2, ![128, 512]⟩

abbrev nBuf : Space → Nat
  | .hbm => 57
  | .vmem => 14
  | .smem => 0
  | _ => 0

abbrev bufTy : (tb : Table) → Fin (tcTables nBuf tb) → BufTy
  | .hbm, ⟨0, _⟩ => ⟨S2x8192x128, .f32⟩
  | .hbm, ⟨1, _⟩ => ⟨S2x8192x128, .f32⟩
  | .hbm, ⟨2, _⟩ => ⟨S32x64, .f32⟩
  | .hbm, ⟨3, _⟩ => ⟨S32x64x64, .f32⟩
  | .hbm, ⟨4, _⟩ => ⟨S64x64, .f32⟩
  | .hbm, ⟨5, _⟩ => ⟨S32x64, .f32⟩
  | .hbm, ⟨6, _⟩ => ⟨S32x64x64, .f32⟩
  | .hbm, ⟨7, _⟩ => ⟨S64x64, .f32⟩
  | .hbm, ⟨8, _⟩ => ⟨S2x16x1x64, .f32⟩
  | .hbm, ⟨9, _⟩ => ⟨S2x16x2x64, .f32⟩
  | .hbm, ⟨10, _⟩ => ⟨S2x2048, .f32⟩
  | .hbm, ⟨11, _⟩ => ⟨S2x16x64x64, .f32⟩
  | .hbm, ⟨12, _⟩ => ⟨S_, .f32⟩
  | .hbm, ⟨13, _⟩ => ⟨S2x16x64x64, .f32⟩
  | .hbm, ⟨14, _⟩ => ⟨S2x16x64x128, .f32⟩
  | .hbm, ⟨15, _⟩ => ⟨S2x16x64x128, .f32⟩
  | .hbm, ⟨16, _⟩ => ⟨S2x16x1x64x128, .f32⟩
  | .hbm, ⟨17, _⟩ => ⟨S2x16x1x64x128, .f32⟩
  | .hbm, ⟨18, _⟩ => ⟨S2x16x2x64x128, .f32⟩
  | .hbm, ⟨19, _⟩ => ⟨S2x2048x128, .f32⟩
  | .hbm, ⟨20, _⟩ => ⟨S2x2048x128, .bf16⟩
  | .hbm, ⟨21, _⟩ => ⟨S_, .f32⟩
  | .hbm, ⟨22, _⟩ => ⟨S64x64, .f32⟩
  | .hbm, ⟨23, _⟩ => ⟨S64x128, .f32⟩
  | .hbm, ⟨24, _⟩ => ⟨S64x128, .f32⟩
  | .hbm, ⟨25, _⟩ => ⟨S1x64x128, .f32⟩
  | .hbm, ⟨26, _⟩ => ⟨S1x64x128, .f32⟩
  | .hbm, ⟨27, _⟩ => ⟨S2x64x128, .f32⟩
  | .hbm, ⟨28, _⟩ => ⟨S128x128, .f32⟩
  | .hbm, ⟨29, _⟩ => ⟨S2x16x1x64, .f32⟩
  | .hbm, ⟨30, _⟩ => ⟨S2x16x2x64, .f32⟩
  | .hbm, ⟨31, _⟩ => ⟨S2x2048, .f32⟩
  | .hbm, ⟨32, _⟩ => ⟨S2x16x64x64, .f32⟩
  | .hbm, ⟨33, _⟩ => ⟨S_, .f32⟩
  | .hbm, ⟨34, _⟩ => ⟨S2x16x64x64, .f32⟩
  | .hbm, ⟨35, _⟩ => ⟨S2x16x64x128, .f32⟩
  | .hbm, ⟨36, _⟩ => ⟨S2x16x64x128, .f32⟩
  | .hbm, ⟨37, _⟩ => ⟨S2x16x1x64x128, .f32⟩
  | .hbm, ⟨38, _⟩ => ⟨S2x16x1x64x128, .f32⟩
  | .hbm, ⟨39, _⟩ => ⟨S2x16x2x64x128, .f32⟩
  | .hbm, ⟨40, _⟩ => ⟨S2x2048x128, .f32⟩
  | .hbm, ⟨41, _⟩ => ⟨S2x2048x128, .bf16⟩
  | .hbm, ⟨42, _⟩ => ⟨S_, .f32⟩
  | .hbm, ⟨43, _⟩ => ⟨S64x64, .f32⟩
  | .hbm, ⟨44, _⟩ => ⟨S64x128, .f32⟩
  | .hbm, ⟨45, _⟩ => ⟨S64x128, .f32⟩
  | .hbm, ⟨46, _⟩ => ⟨S1x64x128, .f32⟩
  | .hbm, ⟨47, _⟩ => ⟨S1x64x128, .f32⟩
  | .hbm, ⟨48, _⟩ => ⟨S2x64x128, .f32⟩
  | .hbm, ⟨49, _⟩ => ⟨S128x128, .f32⟩
  | .hbm, ⟨50, _⟩ => ⟨S16384x128, .f32⟩
  | .hbm, ⟨51, _⟩ => ⟨S16384x128, .f32⟩
  | .hbm, ⟨52, _⟩ => ⟨S128x128, .bf16⟩
  | .hbm, ⟨53, _⟩ => ⟨S128x128, .f32⟩
  | .hbm, ⟨54, _⟩ => ⟨S128x128, .bf16⟩
  | .hbm, ⟨55, _⟩ => ⟨S2x512x128, .bf16⟩
  | .hbm, ⟨56, _⟩ => ⟨S2x128x512, .bf16⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S2x2048, .f32⟩
  | .local _ .vmem, ⟨5, _⟩ => ⟨S2x2048x128, .bf16⟩
  | .local _ .vmem, ⟨6, _⟩ => ⟨S128x128, .bf16⟩
  | .local _ .vmem, ⟨7, _⟩ => ⟨S2x2048, .f32⟩
  | .local _ .vmem, ⟨8, _⟩ => ⟨S2x2048x128, .bf16⟩
  | .local _ .vmem, ⟨9, _⟩ => ⟨S128x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x128x512, .bf16⟩
  | .local _ .vmem, ⟨13, _⟩ => ⟨S1x128x512, .bf16⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S2x8192x128 : Shape := ⟨3, ![2, 8192, 128]⟩
abbrev S32x64 : Shape := ⟨2, ![32, 64]⟩
abbrev S32x64x64 : Shape := ⟨3, ![32, 64, 64]⟩
abbrev S64x64 : Shape := ⟨2, ![64, 64]⟩
abbrev S2x512x16x2x64 : Shape := ⟨5, ![2, 512, 16, 2, 64]⟩
abbrev S2x511x16x2x64 : Shape := ⟨5, ![2, 511, 16, 2, 64]⟩
abbrev S2x1x16x2x64 : Shape := ⟨5, ![2, 1, 16, 2, 64]⟩
abbrev S2x512x32x2x64 : Shape := ⟨5, ![2, 512, 32, 2, 64]⟩
abbrev S1x1x32x1x64 : Shape := ⟨5, ![1, 1, 32, 1, 64]⟩
abbrev S64x2x512x2 : Shape := ⟨4, ![64, 2, 512, 2]⟩
abbrev S2x2x512x64 : Shape := ⟨4, ![2, 2, 512, 64]⟩
abbrev S_ : Shape := ⟨0, ![]⟩
abbrev S2x512x2x64 : Shape := ⟨4, ![2, 512, 2, 64]⟩
abbrev S2x512x128 : Shape := ⟨3, ![2, 512, 128]⟩
abbrev S2x128x512 : Shape := ⟨3, ![2, 128, 512]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S2x8192x128, .f32⟩
  | .hbm, ⟨2, _⟩ => ⟨S32x64, .f32⟩
  | .hbm, ⟨3, _⟩ => ⟨S32x64x64, .f32⟩
  | .hbm, ⟨4, _⟩ => ⟨S64x64, .f32⟩
  | .hbm, ⟨5, _⟩ => ⟨S32x64, .f32⟩
  | .hbm, ⟨6, _⟩ => ⟨S32x64x64, .f32⟩
  | .hbm, ⟨7, _⟩ => ⟨S64x64, .f32⟩
  | .hbm, ⟨8, _⟩ => ⟨S2x512x16x2x64, .f32⟩
  | .hbm, ⟨9, _⟩ => ⟨S2x511x16x2x64, .f32⟩
  | .hbm, ⟨10, _⟩ => ⟨S2x1x16x2x64, .f32⟩
  | .hbm, ⟨11, _⟩ => ⟨S2x512x16x2x64, .f32⟩
  | .hbm, ⟨12, _⟩ => ⟨S2x512x32x2x64, .f32⟩
  | .hbm, ⟨13, _⟩ => ⟨S1x1x32x1x64, .f32⟩
  | .hbm, ⟨14, _⟩ => ⟨S2x512x32x2x64, .f32⟩
  | .hbm, ⟨15, _⟩ => ⟨S2x512x32x2x64, .f32⟩
  | .hbm, ⟨16, _⟩ => ⟨S64x2x512x2, .f32⟩
  | .hbm, ⟨17, _⟩ => ⟨S2x2x512x64, .f32⟩
  | .hbm, ⟨18, _⟩ => ⟨S2x2x512x64, .f32⟩
  | .hbm, ⟨19, _⟩ => ⟨S2x2x512x64, .f32⟩
  | .hbm, ⟨20, _⟩ => ⟨S_, .f32⟩
  | .hbm, ⟨21, _⟩ => ⟨S2x2x512x64, .f32⟩
  | .hbm, ⟨22, _⟩ => ⟨S2x2x512x64, .f32⟩
  | .hbm, ⟨23, _⟩ => ⟨S2x2x512x64, .f32⟩
  | .hbm, ⟨24, _⟩ => ⟨S_, .f32⟩
  | .hbm, ⟨25, _⟩ => ⟨S2x2x512x64, .f32⟩
  | .hbm, ⟨26, _⟩ => ⟨S2x2x512x64, .f32⟩
  | .hbm, ⟨27, _⟩ => ⟨S2x2x512x64, .f32⟩
  | .hbm, ⟨28, _⟩ => ⟨S_, .f32⟩
  | .hbm, ⟨29, _⟩ => ⟨S2x2x512x64, .f32⟩
  | .hbm, ⟨30, _⟩ => ⟨S2x2x512x64, .f32⟩
  | .hbm, ⟨31, _⟩ => ⟨S_, .f32⟩
  | .hbm, ⟨32, _⟩ => ⟨S2x2x512x64, .f32⟩
  | .hbm, ⟨33, _⟩ => ⟨S2x2x512x64, .f32⟩
  | .hbm, ⟨34, _⟩ => ⟨S2x2x512x64, .f32⟩
  | .hbm, ⟨35, _⟩ => ⟨S2x2x512x64, .f32⟩
  | .hbm, ⟨36, _⟩ => ⟨S2x512x2x64, .f32⟩
  | .hbm, ⟨37, _⟩ => ⟨S2x512x128, .f32⟩
  | .hbm, ⟨38, _⟩ => ⟨S2x512x128, .bf16⟩
  | .hbm, ⟨39, _⟩ => ⟨S2x512x16x2x64, .f32⟩
  | .hbm, ⟨40, _⟩ => ⟨S2x511x16x2x64, .f32⟩
  | .hbm, ⟨41, _⟩ => ⟨S2x1x16x2x64, .f32⟩
  | .hbm, ⟨42, _⟩ => ⟨S2x512x16x2x64, .f32⟩
  | .hbm, ⟨43, _⟩ => ⟨S2x512x32x2x64, .f32⟩
  | .hbm, ⟨44, _⟩ => ⟨S1x1x32x1x64, .f32⟩
  | .hbm, ⟨45, _⟩ => ⟨S2x512x32x2x64, .f32⟩
  | .hbm, ⟨46, _⟩ => ⟨S2x512x32x2x64, .f32⟩
  | .hbm, ⟨47, _⟩ => ⟨S64x2x512x2, .f32⟩
  | .hbm, ⟨48, _⟩ => ⟨S2x2x512x64, .f32⟩
  | .hbm, ⟨49, _⟩ => ⟨S2x2x512x64, .f32⟩
  | .hbm, ⟨50, _⟩ => ⟨S2x2x512x64, .f32⟩
  | .hbm, ⟨51, _⟩ => ⟨S_, .f32⟩
  | .hbm, ⟨52, _⟩ => ⟨S2x2x512x64, .f32⟩
  | .hbm, ⟨53, _⟩ => ⟨S2x2x512x64, .f32⟩
  | .hbm, ⟨54, _⟩ => ⟨S2x2x512x64, .f32⟩
  | .hbm, ⟨55, _⟩ => ⟨S_, .f32⟩
  | .hbm, ⟨56, _⟩ => ⟨S2x2x512x64, .f32⟩
  | .hbm, ⟨57, _⟩ => ⟨S2x2x512x64, .f32⟩
  | .hbm, ⟨58, _⟩ => ⟨S2x2x512x64, .f32⟩
  | .hbm, ⟨59, _⟩ => ⟨S_, .f32⟩
  | .hbm, ⟨60, _⟩ => ⟨S2x2x512x64, .f32⟩
  | .hbm, ⟨61, _⟩ => ⟨S2x2x512x64, .f32⟩
  | .hbm, ⟨62, _⟩ => ⟨S_, .f32⟩
  | .hbm, ⟨63, _⟩ => ⟨S2x2x512x64, .f32⟩
  | .hbm, ⟨64, _⟩ => ⟨S2x2x512x64, .f32⟩
  | .hbm, ⟨65, _⟩ => ⟨S2x2x512x64, .f32⟩
  | .hbm, ⟨66, _⟩ => ⟨S2x2x512x64, .f32⟩
  | .hbm, ⟨67, _⟩ => ⟨S2x512x2x64, .f32⟩
  | .hbm, ⟨68, _⟩ => ⟨S2x512x128, .f32⟩
  | .hbm, ⟨69, _⟩ => ⟨S2x128x512, .f32⟩
  | .hbm, ⟨70, _⟩ => ⟨S2x128x512, .bf16⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Body.lean ====
/-
  The body of the sparse-attention call, run once at any value instance `F`: from its ten staged inputs at given contents and its
  output block and scratch at any contents, it returns with the inputs unchanged. The branch table (`lax.switch`) is taken at each
  of its four branches, the two guarded regions are run both ways, and the two counted loops go by their invariants.
-/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The elements of the memref `M` on core `c`, held at the contents `f`. -/
abbrev hold (c : Dev nD) {sp : Space} {S : Shape} {e : EltTy} (M : Memref sig .tc sp S e) (f : BufTy.Contents (Elt F) M.view.ty) : sProp 𝕄 :=
  M.view.loc (c : Thread nD τ) ↦[M.view.set]{fullShare} f

/-- Where the body keeps the scores of the step under way: the slot is the parity of the number of whole 512-key chunks before the
    tile. -/
instance (i : grid0.Coords) : ClosedOff (k0_off4 i) :=
  ⟨![0, (i 1).val / 4 % 2, 0, 0], by revert i; decide +kernel⟩
instance (i : grid0.Coords) : ClosedOff (k0_off5 i) :=
  ⟨![1, (i 1).val / 4 % 2, 0, 0], by revert i; decide +kernel⟩

set_option maxHeartbeats 1000000 in
/-- The stretch of the body that holds the branch table: whichever branch is taken, the compressed keys, the compressed values and the
    covering matrix are read and nothing is written. -/
theorem branches_run (c : Dev nD) (i : grid0.Coords) (arg2 : Memref sig .tc .vmem S512x128 .bf16) (harg2 : arg2.IsWhole) (arg3 : Memref sig .tc .vmem S32x128 .f32) (harg3 : arg3.IsWhole) (arg4 : Memref sig .tc .vmem S1x512x128 .bf16) (harg4 : arg4.IsWhole) (arg5 : Memref sig .tc .vmem S1x128x512 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S128x512 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S2x256x512 .bf16) (harg13 : arg13.IsWhole) (arg14 : Memref sig .tc .vmem S2x2x512x512 .f32) (harg14 : arg14.IsWhole) (arg15 : Memref sig .tc .vmem S2x80x512 .f32) (harg15 : arg15.IsWhole) (arg16 : Memref sig .tc .vmem S2x1x512 .f32) (harg16 : arg16.IsWhole) (arg17 : Memref sig .tc .vmem S2x1x512 .f32) (harg17 : arg17.IsWhole)
    (v0 : BitVec 32) (v7 : FVec F S128x512 .bf16) (v14 : FVec F S128x512 .bf16) (v17 : IVec S1x128 32) (v30 : BitVec 32)
    (f4 : BufTy.Contents (Elt F) arg4.view.ty) (f5 : BufTy.Contents (Elt F) arg5.view.ty) (f10 : BufTy.Contents (Elt F) arg10.view.ty) :
    (iprop(hold c arg4 f4 ∗ hold c arg5 f5 ∗ hold c arg10 f10) : sProp 𝕄)
      ⊢ wp frame (wpE (defs₀ (F := F)) Variants.none (c : Thread nD τ) none) Set.univ
          (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v7 v14 v17 v30) (fun _ => iprop(hold c arg4 f4 ∗ hold c arg5 f5 ∗ hold c arg10 f10)) := by
  simp only [k0_part41_eq_skeleton]; unfold k0_part41_skel
  by_cases h1 : Scalar.cmpi .ne v30 0#32 = 1#1
  · by_cases h2 : Scalar.cmpi .ne (Scalar.subi v30 1#32) 0#32 = 1#1
    · by_cases h3 : Scalar.cmpi .ne (Scalar.subi (Scalar.subi v30 1#32) 1#32) 0#32 = 1#1
      all_goals (iintro ⟨H4, H5, H10⟩; sl_exec; sl_step; sl_close)
    · iintro ⟨H4, H5, H10⟩; sl_exec; sl_step; sl_close
  · iintro ⟨H4, H5, H10⟩; sl_exec; sl_step; sl_close

set_option maxHeartbeats 4000000 in
/-- The whole body. -/
theorem kernel_run (c : Dev nD) (i : grid0.Coords) (arg2 : Memref sig .tc .vmem S512x128 .bf16) (harg2 : arg2.IsWhole) (arg3 : Memref sig .tc .vmem S32x128 .f32) (harg3 : arg3.IsWhole) (arg4 : Memref sig .tc .vmem S1x512x128 .bf16) (harg4 : arg4.IsWhole) (arg5 : Memref sig .tc .vmem S1x128x512 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S128x512 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S2x256x512 .bf16) (harg13 : arg13.IsWhole) (arg14 : Memref sig .tc .vmem S2x2x512x512 .f32) (harg14 : arg14.IsWhole) (arg15 : Memref sig .tc .vmem S2x80x512 .f32) (harg15 : arg15.IsWhole) (arg16 : Memref sig .tc .vmem S2x1x512 .f32) (harg16 : arg16.IsWhole) (arg17 : Memref sig .tc .vmem S2x1x512 .f32) (harg17 : arg17.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    (iprop(hold c arg2 f2 ∗ hold c arg3 f3 ∗ hold c arg4 f4 ∗ hold c arg5 f5 ∗ hold c arg6 f6 ∗ hold c arg7 f7 ∗ hold c arg8 f8 ∗ hold c arg9 f9 ∗ hold c arg10 f10 ∗ hold c arg11 f11 ∗ (∃ f, hold c arg12 f) ∗ (∃ f, hold c arg13 f) ∗ (∃ f, hold c arg14 f) ∗ (∃ f, hold c arg15 f) ∗ (∃ f, hold c arg16 f) ∗ (∃ f, hold c arg17 f)) : sProp 𝕄)
      ⊢ wp frame (wpE (defs₀ (F := F)) Variants.none (c : Thread nD τ) none) Set.univ
          (cc0_nsa_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop(hold c arg2 f2 ∗ hold c arg3 f3 ∗ hold c arg4 f4 ∗ hold c arg5 f5 ∗ hold c arg6 f6 ∗ hold c arg7 f7 ∗ hold c arg8 f8 ∗ hold c arg9 f9 ∗ hold c arg10 f10 ∗ hold c arg11 f11 ∗ (∃ f, hold c arg12 f) ∗ (∃ f, hold c arg13 f) ∗ (∃ f, hold c arg14 f) ∗ (∃ f, hold c arg15 f) ∗ (∃ f, hold c arg16 f) ∗ (∃ f, hold c arg17 f))) := by
  simp only [cc0_nsa_attn_eq_skeleton]; unfold cc0_nsa_attn_skel
  have hcut := fun v0 v7 v14 v17 v30 => branches_run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v7 v14 v17 v30 f4 f5 f10
  iintro ⟨H2, H3, H4, H5, H6, H7, H8, H9, H10, H11, ⟨%f12, H12⟩, ⟨%f13, H13⟩, ⟨%f14, H14⟩, ⟨%f15, H15⟩, ⟨%f16, H16⟩, ⟨%f17, H17⟩⟩
  sl_exec_parts
  sl_step
  sl_close

end Cert.KernelIdeal.Hand

end
-- ==== Proof.Run.lean ====
/-
  The run of the sparse-attention call, at any value instance `F`: the body (Body.lean) at every grid point, the launch over it, and
  what both frame claims read of it.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What the body may leave in a window's buffer: in the output's, anything; in an input's, what it found. -/
def leaves (w : Fin cfg0.W) (Y X : (cfg0.win w).block.Idx → Elt F (cfg0.win w).elt) : Prop := (cfg0.win w).isOut = false → X = Y

/-- The proof data of the call on core `c`: no scratch is carried from one point to the next, and of the output nothing is said. -/
def rdat (c : Dev nD) : RDat τ (Elt F) Unit ℕ (UR sig nD τ) ℕ cfg0 c where
  A w := V m c (Pipeline.arrRef spec0 w)
  after w _ Y X := leaves w Y X
  Φ _ := Pipeline.ΦA spec0 c
  q _ := fullShare
  owed _ := 0

/-- A whole buffer held. -/
theorem hold_whole (c : Dev nD) (b : Ref sig .tc) (f : b.ty.Contents (Elt F)) :
    (hold c (Memref.whole b) f : sProp 𝕄) = ((c : Thread nD τ).loc b) ↦{fullShare} f := by
  unfold hold; simp only [Memref.view_whole, View.set_whole]; try rfl

/-- The invariant, piece by piece: the five scratch buffers and the generator register. -/
theorem PhiA0_eq (c : Dev nD) :
    (Pipeline.ΦA (Val := Elt F) (U := UR sig nD τ) spec0 c : sProp 𝕄)
      = iprop(iprop((∃ f, hold c (Memref.whole cc0_scratch0) f) ∗ (∃ f, hold c (Memref.whole cc0_scratch1) f) ∗ (∃ f, hold c (Memref.whole cc0_scratch2) f) ∗ (∃ f, hold c (Memref.whole cc0_scratch3) f) ∗ (∃ f, hold c (Memref.whole cc0_scratch4) f)) ∗ ∃ r, prngReg c r) := by
  unfold Pipeline.ΦA; rw [scopedRest0_eq]; unfold hold; simp only [Memref.view_whole, View.set_whole]; try rfl

theorem owes_eq (c : Dev nD) (t : Fin cfg0.N) : (rdat m c).owesAt () t.succ = (rdat m c).owesAt () t.castSucc := rfl

/-- A run followed by whatever its result is for. -/
theorem run_then {c : Dev nD} {P Q R : sProp 𝕄} {p : Prog (TpuEff nD τ sig (Elt F) Λ₀ .tc) PUnit}
    (h : P ⊢ wp frame (wpE (defs₀ (F := F)) Variants.none (c : Thread nD τ) none) Set.univ p (fun _ => Q)) :
    iprop(P ∗ (Q -∗ R)) ⊢ wp frame (wpE (defs₀ (F := F)) Variants.none (c : Thread nD τ) none) Set.univ p (fun _ => R) := by
  iintro ⟨HP, HK⟩
  iapply (wp_wand_r frame (wpE (defs₀ (F := F)) Variants.none (c : Thread nD τ) none) Set.univ (Q := fun _ => Q))
  isplitl [HP]; · iapply h; iexact HP
  iintro %a HQ
  iapply HK; iexact HQ

/-- The body at point `t`, from its staging buffers at any contents: the inputs come back as they were. -/
theorem point_run (c : Dev nD) (t : Fin cfg0.N) (Y : (w : Fin cfg0.W) → (cfg0.win w).block.Idx → Elt F (cfg0.win w).elt) :
    (iprop((rdat m c).Φ t.castSucc ∗ (rdat m c).owesAt () t.castSucc
      ∗ owns (c : Thread nD τ) (win0_0.stage (cfg0.slots t 0)) fullShare (Y 0)
      ∗ owns (c : Thread nD τ) (win0_1.stage (cfg0.slots t 1)) fullShare (Y 1)
      ∗ owns (c : Thread nD τ) (win0_2.stage (cfg0.slots t 2)) fullShare (Y 2)
      ∗ owns (c : Thread nD τ) (win0_3.stage (cfg0.slots t 3)) fullShare (Y 3)
      ∗ owns (c : Thread nD τ) (win0_4.stage (cfg0.slots t 4)) fullShare (Y 4)
      ∗ owns (c : Thread nD τ) (win0_5.stage (cfg0.slots t 5)) fullShare (Y 5)
      ∗ owns (c : Thread nD τ) (win0_6.stage (cfg0.slots t 6)) fullShare (Y 6)
      ∗ owns (c : Thread nD τ) (win0_7.stage (cfg0.slots t 7)) fullShare (Y 7)
      ∗ owns (c : Thread nD τ) (win0_8.stage (cfg0.slots t 8)) fullShare (Y 8)
      ∗ owns (c : Thread nD τ) (win0_9.stage (cfg0.slots t 9)) fullShare (Y 9)
      ∗ owns (c : Thread nD τ) (win0_10.stage (cfg0.slots t 10)) fullShare (Y 10)) : sProp 𝕄)
    ⊢ wp frame (wpE (defs₀ (F := F)) Variants.none (c : Thread nD τ) none) Set.univ (bodyAt0 t) (fun _ => iprop((rdat m c).Φ t.succ ∗ (rdat m c).owesAt () t.succ
      ∗ owns (c : Thread nD τ) (win0_0.stage (cfg0.slots t 0)) fullShare (Y 0)
      ∗ owns (c : Thread nD τ) (win0_1.stage (cfg0.slots t 1)) fullShare (Y 1)
      ∗ owns (c : Thread nD τ) (win0_2.stage (cfg0.slots t 2)) fullShare (Y 2)
      ∗ owns (c : Thread nD τ) (win0_3.stage (cfg0.slots t 3)) fullShare (Y 3)
      ∗ owns (c : Thread nD τ) (win0_4.stage (cfg0.slots t 4)) fullShare (Y 4)
      ∗ owns (c : Thread nD τ) (win0_5.stage (cfg0.slots t 5)) fullShare (Y 5)
      ∗ owns (c : Thread nD τ) (win0_6.stage (cfg0.slots t 6)) fullShare (Y 6)
      ∗ owns (c : Thread nD τ) (win0_7.stage (cfg0.slots t 7)) fullShare (Y 7)
      ∗ owns (c : Thread nD τ) (win0_8.stage (cfg0.slots t 8)) fullShare (Y 8)
      ∗ owns (c : Thread nD τ) (win0_9.stage (cfg0.slots t 9)) fullShare (Y 9)
      ∗ (∃ X, owns (c : Thread nD τ) (win0_10.stage (cfg0.slots t 10)) fullShare X))) := by
  rw [owes_eq, show (rdat m c).Φ t.succ = Pipeline.ΦA spec0 c from rfl, show (rdat m c).Φ t.castSucc = Pipeline.ΦA spec0 c from rfl, PhiA0_eq]
  generalize (rdat m c).owesAt () t.castSucc = W
  unfold owns
  iintro ⟨⟨⟨S0, S1, S2, S3, S4⟩, HP⟩, HW, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, -, H10⟩⟩
  iapply (run_then (kernel_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 f8 f9))
  isplitl [H0 H1 H2 H3 H4 H5 H6 H7 H8 H9 H10 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S0]; · iexact S0
    isplitl [S1]; · iexact S1
    isplitl [S2]; · iexact S2
    isplitl [S3]; · iexact S3
    iexact S4
  iintro ⟨H0, H1, H2, H3, H4, H5, H6, H7, H8, H9, ⟨%g10, H10⟩, S0, S1, S2, S3, S4⟩
  isplitl [S0 S1 S2 S3 S4 HP]
  · isplitr [HP]; swap; · iexact HP
    isplitl [S0]; · iexact S0
    isplitl [S1]; · iexact S1
    isplitl [S2]; · iexact S2
    isplitl [S3]; · iexact S3
    iexact S4
  isplitl [HW]; · iexact HW
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  iexists _, g10; isplitr; · ipureintro; rfl
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row]
  refine triple_restated (point_run m c t Y) rfl .rfl fun _ => ?_

  iintro ⟨HP, HW, H0, H1, H2, H3, H4, H5, H6, H7, H8, H9, ⟨%X, H10⟩⟩
  isplitl [HP]; · iexact HP
  isplitl [HW]; · iexact HW
  isplitl [H0]
  · iexists Y 0; isplitr
    · ipureintro; exact fun _ => rfl
    iexact H0
  isplitl [H1]
  · iexists Y 1; isplitr
    · ipureintro; exact fun _ => rfl
    iexact H1
  isplitl [H2]
  · iexists Y 2; isplitr
    · ipureintro; exact fun _ => rfl
    iexact H2
  isplitl [H3]
  · iexists Y 3; isplitr
    · ipureintro; exact fun _ => rfl
    iexact H3
  isplitl [H4]
  · iexists Y 4; isplitr
    · ipureintro; exact fun _ => rfl
    iexact H4
  isplitl [H5]
  · iexists Y 5; isplitr
    · ipureintro; exact fun _ => rfl
    iexact H5
  isplitl [H6]
  · iexists Y 6; isplitr
    · ipureintro; exact fun _ => rfl
    iexact H6
  isplitl [H7]
  · iexists Y 7; isplitr
    · ipureintro; exact fun _ => rfl
    iexact H7
  isplitl [H8]
  · iexists Y 8; isplitr
    · ipureintro; exact fun _ => rfl
    iexact H8
  isplitl [H9]
  · iexists Y 9; isplitr
    · ipureintro; exact fun _ => rfl
    iexact H9
  iexists X; isplitr; · ipureintro; exact fun h => nomatch h
  iexact H10

set_option backward.isDefEq.respectTransparency.types false in
/-- From any memory with zero counters every weakly fair execution ends, with the inputs as they were and every counter at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl) (hΦ := fun _ _ => rfl)

/-- The arguments after the run, and the counters. -/
theorem run_kept :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨h.1.arr_in c 0 rfl,
      h.1.arr_in c 1 rfl,
      h.1.arr_in c 2 rfl,
      h.1.arr_in c 3 rfl,
      h.1.arr_in c 4 rfl,
      h.1.arr_in c 5 rfl,
      h.1.arr_in c 6 rfl,
      h.1.arr_in c 7 rfl,
      h.1.arr_in c 8 rfl,
      h.1.arr_in c 9 rfl⟩, h.2⟩) (run_main m ρ)

end Cert.KernelIdeal.Hand

end
-- ==== Proof.Same.lean ====
/-
  The attention kernel and its idealization have one text: their body tables are equal, so the frame of the one is the run of the
  other at the bit instance.
-/
module

public import proofs.«01_k».proof.Proof.Run
public import proofs.«01_k».proof.Proof.Gen.Kernel.Frame
public import proofs.«01_k».proof.Defs

@[expose] public section

noncomputable section

namespace Cert.Proof

open Idealize.ShloMosaic Idealize.SL.Sem

/-- The body's row of the two tables. -/
theorem rows_eq (a) (x) : (Cert.Kernel.defs₀ (F := Bits)) .tc a x = Cert.KernelIdeal.defs₀ (F := Bits) .tc a x := by
  match a, x with
  | 0, (t, s) => rfl
/-- The tables of bodies. -/
theorem defs₀_eq : (Cert.Kernel.defs₀ (F := Bits)) = Cert.KernelIdeal.defs₀ (F := Bits) := by
  funext p a x
  cases p
  · exact rows_eq a x
  all_goals rfl
/-- The tables with the pipeline's own rows. -/
theorem defs_eq : (Cert.Kernel.defs (F := Bits)) = Cert.KernelIdeal.defs (F := Bits) := by
  unfold Cert.Kernel.defs Cert.KernelIdeal.defs
  rw [defs₀_eq]; rfl
/-- The kernel's frame at the bit instance. -/
theorem frame_kernel : Cert.quiescent_Kernel := fun m ρ _ => by
  have h := (θ_run Cert.KernelIdeal.defs _ _).mono (fun _ h => h) (Cert.KernelIdeal.Hand.run_kept (F := Bits) m ρ)
  rw [← defs_eq] at h
  exact h

end Cert.Proof

end
-- ==== Proof.Ref2.lean ====
/- The second reference's run: its host operations in four groups — the gated projection with its causal
   convolution, the activation, the residual sum, the layer norm — each read as one function of arrays. -/
module

public import proofs.«01_k».proof.Proof.Gen.Reference2Ideal
public import Idealize.ShloMosaic.Lib.StableHlo.Run

@[expose] public section

noncomputable section

namespace Cert.Reference2Ideal.Staged

open Cert.Reference2Ideal Cert.Reference2Ideal.Gen Idealize.ShloMosaic Idealize.ShloMosaic.TcCoe Idealize.SL.Sem Idealize.ShloMosaic.StableHlo

variable {F : FTy → Type} [FloatOps F]

abbrev opsConv : List (HloOp τ sig (Elt F)) :=
  [ binary main_arg0 main_arg1 main_v0 ((fun l r => Host.dotGeneral dot_S2x8192x2048_S2048x11264_S2x8192x11264_2_0_01_1_n_n none l r) : (⟨S2x8192x2048, .f32⟩ : BufTy).Contents (Elt F) → (⟨S2048x11264, .f32⟩ : BufTy).Contents (Elt F) → (⟨S2x8192x11264, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x8192x11264, .f32⟩) main_v0) (TRef.of (T := ⟨S_, .f32⟩) main_call0_v0) (TRef.of (T := ⟨S2x8194x11264, .f32⟩) main_v1) (fun x v => pad S2x8194x11264 ![0, 2, 0] ![0, 0, 0] ![0, 0, 0] x v pads_S2x8192x11264_S2x8194x11264_000_200_000 h_S_),
    unary main_v1 main_v2 ((extractStridedSlice S2x8192x11264 ![0, 0, 0] · slices_S2x8194x11264_S2x8192x11264_0_0_0) : (⟨S2x8194x11264, .f32⟩ : BufTy).Contents (Elt F) → (⟨S2x8192x11264, .f32⟩ : BufTy).Contents (Elt F)),
    unary main_arg2 main_v3 ((extractStridedSlice S1x11264 ![0, 0] · slices_S3x11264_S1x11264_0_0) : (⟨S3x11264, .f32⟩ : BufTy).Contents (Elt F) → (⟨S1x11264, .f32⟩ : BufTy).Contents (Elt F)),
    reshape main_v3 main_v4 (rfl : (.f32 : EltTy) = .f32) shapeCasts_S1x11264_S11264,
    unary main_v4 main_v5 (broadcastInDim S1x1x11264 ![2] bcast_S11264_S1x1x11264_2 : (⟨S11264, .f32⟩ : BufTy).Contents (Elt F) → (⟨S1x1x11264, .f32⟩ : BufTy).Contents (Elt F)),
    unary main_v5 main_v6 (broadcastInDim S2x8192x11264 ![0, 1, 2] bcast_S1x1x11264_S2x8192x11264_0_1_2 : (⟨S1x1x11264, .f32⟩ : BufTy).Contents (Elt F) → (⟨S2x8192x11264, .f32⟩ : BufTy).Contents (Elt F)),
    binary main_v2 main_v6 main_v7 (mulf : (⟨S2x8192x11264, .f32⟩ : BufTy).Contents (Elt F) → (⟨S2x8192x11264, .f32⟩ : BufTy).Contents (Elt F) → (⟨S2x8192x11264, .f32⟩ : BufTy).Contents (Elt F)),
    unary main_arg3 main_v8 (broadcastInDim S1x1x11264 ![2] bcast_S11264_S1x1x11264_2 : (⟨S11264, .f32⟩ : BufTy).Contents (Elt F) → (⟨S1x1x11264, .f32⟩ : BufTy).Contents (Elt F)),
    unary main_v8 main_v9 (broadcastInDim S2x8192x11264 ![0, 1, 2] bcast_S1x1x11264_S2x8192x11264_0_1_2 : (⟨S1x1x11264, .f32⟩ : BufTy).Contents (Elt F) → (⟨S2x8192x11264, .f32⟩ : BufTy).Contents (Elt F)),
    binary main_v9 main_v7 main_v10 (addf : (⟨S2x8192x11264, .f32⟩ : BufTy).Contents (Elt F) → (⟨S2x8192x11264, .f32⟩ : BufTy).Contents (Elt F) → (⟨S2x8192x11264, .f32⟩ : BufTy).Contents (Elt F)),
    unary main_v1 main_v11 ((extractStridedSlice S2x8192x11264 ![0, 1, 0] · slices_S2x8194x11264_S2x8192x11264_0_1_0) : (⟨S2x8194x11264, .f32⟩ : BufTy).Contents (Elt F) → (⟨S2x8192x11264, .f32⟩ : BufTy).Contents (Elt F)),
    unary main_arg2 main_v12 ((extractStridedSlice S1x11264 ![1, 0] · slices_S3x11264_S1x11264_1_0) : (⟨S3x11264, .f32⟩ : BufTy).Contents (Elt F) → (⟨S1x11264, .f32⟩ : BufTy).Contents (Elt F)),
    reshape main_v12 main_v13 (rfl : (.f32 : EltTy) = .f32) shapeCasts_S1x11264_S11264,
    unary main_v13 main_v14 (broadcastInDim S1x1x11264 ![2] bcast_S11264_S1x1x11264_2 : (⟨S11264, .f32⟩ : BufTy).Contents (Elt F) → (⟨S1x1x11264, .f32⟩ : BufTy).Contents (Elt F)),
    unary main_v14 main_v15 (broadcastInDim S2x8192x11264 ![0, 1, 2] bcast_S1x1x11264_S2x8192x11264_0_1_2 : (⟨S1x1x11264, .f32⟩ : BufTy).Contents (Elt F) → (⟨S2x8192x11264, .f32⟩ : BufTy).Contents (Elt F)),
    binary main_v11 main_v15 main_v16 (mulf : (⟨S2x8192x11264, .f32⟩ : BufTy).Contents (Elt F) → (⟨S2x8192x11264, .f32⟩ : BufTy).Contents (Elt F) → (⟨S2x8192x11264, .f32⟩ : BufTy).Contents (Elt F)),
    binary main_v10 main_v16 main_v17 (addf : (⟨S2x8192x11264, .f32⟩ : BufTy).Contents (Elt F) → (⟨S2x8192x11264, .f32⟩ : BufTy).Contents (Elt F) → (⟨S2x8192x11264, .f32⟩ : BufTy).Contents (Elt F)),
    unary main_v1 main_v18 ((extractStridedSlice S2x8192x11264 ![0, 2, 0] · slices_S2x8194x11264_S2x8192x11264_0_2_0) : (⟨S2x8194x11264, .f32⟩ : BufTy).Contents (Elt F) → (⟨S2x8192x11264, .f32⟩ : BufTy).Contents (Elt F)),
    unary main_arg2 main_v19 ((extractStridedSlice S1x11264 ![2, 0] · slices_S3x11264_S1x11264_2_0) : (⟨S3x11264, .f32⟩ : BufTy).Contents (Elt F) → (⟨S1x11264, .f32⟩ : BufTy).Contents (Elt F)),
    reshape main_v19 main_v20 (rfl : (.f32 : EltTy) = .f32) shapeCasts_S1x11264_S11264,
    unary main_v20 main_v21 (broadcastInDim S1x1x11264 ![2] bcast_S11264_S1x1x11264_2 : (⟨S11264, .f32⟩ : BufTy).Contents (Elt F) → (⟨S1x1x11264, .f32⟩ : BufTy).Contents (Elt F)),
    unary main_v21 main_v22 (broadcastInDim S2x8192x11264 ![0, 1, 2] bcast_S1x1x11264_S2x8192x11264_0_1_2 : (⟨S1x1x11264, .f32⟩ : BufTy).Contents (Elt F) → (⟨S2x8192x11264, .f32⟩ : BufTy).Contents (Elt F)),
    binary main_v18 main_v22 main_v23 (mulf : (⟨S2x8192x11264, .f32⟩ : BufTy).Contents (Elt F) → (⟨S2x8192x11264, .f32⟩ : BufTy).Contents (Elt F) → (⟨S2x8192x11264, .f32⟩ : BufTy).Contents (Elt F)),
    binary main_v17 main_v23 main_v24 (addf : (⟨S2x8192x11264, .f32⟩ : BufTy).Contents (Elt F) → (⟨S2x8192x11264, .f32⟩ : BufTy).Contents (Elt F) → (⟨S2x8192x11264, .f32⟩ : BufTy).Contents (Elt F)) ]

abbrev opsAct : List (HloOp τ sig (Elt F)) :=
  [ unary main_v24 main_v25 ((extractStridedSlice S2x8192x5632 ![0, 0, 0] · slices_S2x8192x11264_S2x8192x5632_0_0_0) : (⟨S2x8192x11264, .f32⟩ : BufTy).Contents (Elt F) → (⟨S2x8192x5632, .f32⟩ : BufTy).Contents (Elt F)),
    unary main_v24 main_v26 ((extractStridedSlice S2x8192x5632 ![0, 0, 5632] · slices_S2x8192x11264_S2x8192x5632_0_0_5632) : (⟨S2x8192x11264, .f32⟩ : BufTy).Contents (Elt F) → (⟨S2x8192x5632, .f32⟩ : BufTy).Contents (Elt F)),
    nullary main_cst (constant S_ .f32 0x3F9837F0#32),
    unary main_cst main_v27 (broadcastInDim S2x8192x2048 ![] bcast_S_S2x8192x2048 : (⟨S_, .f32⟩ : BufTy).Contents (Elt F) → (⟨S2x8192x2048, .f32⟩ : BufTy).Contents (Elt F)),
    binary main_v27 main_arg0 main_v28 (mulf : (⟨S2x8192x2048, .f32⟩ : BufTy).Contents (Elt F) → (⟨S2x8192x2048, .f32⟩ : BufTy).Contents (Elt F) → (⟨S2x8192x2048, .f32⟩ : BufTy).Contents (Elt F)),
    binary main_v25 main_v25 main_v29 (mulf : (⟨S2x8192x5632, .f32⟩ : BufTy).Contents (Elt F) → (⟨S2x8192x5632, .f32⟩ : BufTy).Contents (Elt F) → (⟨S2x8192x5632, .f32⟩ : BufTy).Contents (Elt F)),
    binary main_v29 main_v25 main_v30 (mulf : (⟨S2x8192x5632, .f32⟩ : BufTy).Contents (Elt F) → (⟨S2x8192x5632, .f32⟩ : BufTy).Contents (Elt F) → (⟨S2x8192x5632, .f32⟩ : BufTy).Contents (Elt F)),
    nullary main_cst_0 (constant S_ .f32 0x3D372713#32),
    unary main_cst_0 main_v31 (broadcastInDim S2x8192x5632 ![] bcast_S_S2x8192x5632 : (⟨S_, .f32⟩ : BufTy).Contents (Elt F) → (⟨S2x8192x5632, .f32⟩ : BufTy).Contents (Elt F)),
    binary main_v31 main_v30 main_v32 (mulf : (⟨S2x8192x5632, .f32⟩ : BufTy).Contents (Elt F) → (⟨S2x8192x5632, .f32⟩ : BufTy).Contents (Elt F) → (⟨S2x8192x5632, .f32⟩ : BufTy).Contents (Elt F)),
    binary main_v25 main_v32 main_v33 (addf : (⟨S2x8192x5632, .f32⟩ : BufTy).Contents (Elt F) → (⟨S2x8192x5632, .f32⟩ : BufTy).Contents (Elt F) → (⟨S2x8192x5632, .f32⟩ : BufTy).Contents (Elt F)),
    nullary main_cst_1 (constant S_ .f32 0x3F4C422A#32),
    unary main_cst_1 main_v34 (broadcastInDim S2x8192x5632 ![] bcast_S_S2x8192x5632 : (⟨S_, .f32⟩ : BufTy).Contents (Elt F) → (⟨S2x8192x5632, .f32⟩ : BufTy).Contents (Elt F)),
    binary main_v34 main_v33 main_v35 (mulf : (⟨S2x8192x5632, .f32⟩ : BufTy).Contents (Elt F) → (⟨S2x8192x5632, .f32⟩ : BufTy).Contents (Elt F) → (⟨S2x8192x5632, .f32⟩ : BufTy).Contents (Elt F)),
    unary main_v35 main_v36 (Host.tanh : (⟨S2x8192x5632, .f32⟩ : BufTy).Contents (Elt F) → (⟨S2x8192x5632, .f32⟩ : BufTy).Contents (Elt F)),
    nullary main_cst_2 (constant S_ .f32 0x3F800000#32),
    unary main_cst_2 main_v37 (broadcastInDim S2x8192x5632 ![] bcast_S_S2x8192x5632 : (⟨S_, .f32⟩ : BufTy).Contents (Elt F) → (⟨S2x8192x5632, .f32⟩ : BufTy).Contents (Elt F)),
    binary main_v37 main_v36 main_v38 (addf : (⟨S2x8192x5632, .f32⟩ : BufTy).Contents (Elt F) → (⟨S2x8192x5632, .f32⟩ : BufTy).Contents (Elt F) → (⟨S2x8192x5632, .f32⟩ : BufTy).Contents (Elt F)),
    nullary main_cst_3 (constant S_ .f32 0x3F000000#32),
    unary main_cst_3 main_v39 (broadcastInDim S2x8192x5632 ![] bcast_S_S2x8192x5632 : (⟨S_, .f32⟩ : BufTy).Contents (Elt F) → (⟨S2x8192x5632, .f32⟩ : BufTy).Contents (Elt F)),
    binary main_v39 main_v38 main_v40 (mulf : (⟨S2x8192x5632, .f32⟩ : BufTy).Contents (Elt F) → (⟨S2x8192x5632, .f32⟩ : BufTy).Contents (Elt F) → (⟨S2x8192x5632, .f32⟩ : BufTy).Contents (Elt F)),
    binary main_v25 main_v40 main_v41 (mulf : (⟨S2x8192x5632, .f32⟩ : BufTy).Contents (Elt F) → (⟨S2x8192x5632, .f32⟩ : BufTy).Contents (Elt F) → (⟨S2x8192x5632, .f32⟩ : BufTy).Contents (Elt F)),
    binary main_v41 main_v26 main_v42 (mulf : (⟨S2x8192x5632, .f32⟩ : BufTy).Contents (Elt F) → (⟨S2x8192x5632, .f32⟩ : BufTy).Contents (Elt F) → (⟨S2x8192x5632, .f32⟩ : BufTy).Contents (Elt F)) ]

abbrev opsRes : List (HloOp τ sig (Elt F)) :=
  [ binary main_v42 main_arg4 main_v43 ((fun l r => Host.dotGeneral dot_S2x8192x5632_S5632x2048_S2x8192x2048_2_0_01_1_n_n none l r) : (⟨S2x8192x5632, .f32⟩ : BufTy).Contents (Elt F) → (⟨S5632x2048, .f32⟩ : BufTy).Contents (Elt F) → (⟨S2x8192x2048, .f32⟩ : BufTy).Contents (Elt F)),
    binary main_v28 main_v43 main_v44 (addf : (⟨S2x8192x2048, .f32⟩ : BufTy).Contents (Elt F) → (⟨S2x8192x2048, .f32⟩ : BufTy).Contents (Elt F) → (⟨S2x8192x2048, .f32⟩ : BufTy).Contents (Elt F)) ]

abbrev opsNorm : List (HloOp τ sig (Elt F)) :=
  [ nullary main_cst_4 (constant S_ .f32 0x00000000#32),
    binary main_v44 main_cst_4 main_v45 ((fun x v => Host.reduceAdd x v reducesTo_S2x8192x2048_S2x8192_d2 h_S_) : (⟨S2x8192x2048, .f32⟩ : BufTy).Contents (Elt F) → (⟨S_, .f32⟩ : BufTy).Contents (Elt F) → (⟨S2x8192, .f32⟩ : BufTy).Contents (Elt F)),
    unary main_v45 main_v46 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_5 (constant S_ .f32 0x45000000#32),
    unary main_cst_5 main_v47 (broadcastInDim S2x8192x1 ![] bcast_S_S2x8192x1 : (⟨S_, .f32⟩ : BufTy).Contents (Elt F) → (⟨S2x8192x1, .f32⟩ : BufTy).Contents (Elt F)),
    binary main_v46 main_v47 main_v48 (Host.divf : (⟨S2x8192x1, .f32⟩ : BufTy).Contents (Elt F) → (⟨S2x8192x1, .f32⟩ : BufTy).Contents (Elt F) → (⟨S2x8192x1, .f32⟩ : BufTy).Contents (Elt F)),
    unary main_v48 main_v49 (broadcastInDim S2x8192x2048 ![0, 1, 2] bcast_S2x8192x1_S2x8192x2048_0_1_2 : (⟨S2x8192x1, .f32⟩ : BufTy).Contents (Elt F) → (⟨S2x8192x2048, .f32⟩ : BufTy).Contents (Elt F)),
    binary main_v44 main_v49 main_v50 (subf : (⟨S2x8192x2048, .f32⟩ : BufTy).Contents (Elt F) → (⟨S2x8192x2048, .f32⟩ : BufTy).Contents (Elt F) → (⟨S2x8192x2048, .f32⟩ : BufTy).Contents (Elt F)),
    binary main_v50 main_v50 main_v51 (mulf : (⟨S2x8192x2048, .f32⟩ : BufTy).Contents (Elt F) → (⟨S2x8192x2048, .f32⟩ : BufTy).Contents (Elt F) → (⟨S2x8192x2048, .f32⟩ : BufTy).Contents (Elt F)),
    nullary main_cst_6 (constant S_ .f32 0x00000000#32),
    binary main_v51 main_cst_6 main_v52 ((fun x v => Host.reduceAdd x v reducesTo_S2x8192x2048_S2x8192_d2 h_S_) : (⟨S2x8192x2048, .f32⟩ : BufTy).Contents (Elt F) → (⟨S_, .f32⟩ : BufTy).Contents (Elt F) → (⟨S2x8192, .f32⟩ : BufTy).Contents (Elt F)),
    unary main_v52 main_v53 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_7 (constant S_ .f32 0x45000000#32),
    unary main_cst_7 main_v54 (broadcastInDim S2x8192x1 ![] bcast_S_S2x8192x1 : (⟨S_, .f32⟩ : BufTy).Contents (Elt F) → (⟨S2x8192x1, .f32⟩ : BufTy).Contents (Elt F)),
    binary main_v53 main_v54 main_v55 (Host.divf : (⟨S2x8192x1, .f32⟩ : BufTy).Contents (Elt F) → (⟨S2x8192x1, .f32⟩ : BufTy).Contents (Elt F) → (⟨S2x8192x1, .f32⟩ : BufTy).Contents (Elt F)),
    unary main_v48 main_v56 (broadcastInDim S2x8192x2048 ![0, 1, 2] bcast_S2x8192x1_S2x8192x2048_0_1_2 : (⟨S2x8192x1, .f32⟩ : BufTy).Contents (Elt F) → (⟨S2x8192x2048, .f32⟩ : BufTy).Contents (Elt F)),
    binary main_v44 main_v56 main_v57 (subf : (⟨S2x8192x2048, .f32⟩ : BufTy).Contents (Elt F) → (⟨S2x8192x2048, .f32⟩ : BufTy).Contents (Elt F) → (⟨S2x8192x2048, .f32⟩ : BufTy).Contents (Elt F)),
    nullary main_cst_8 (constant S_ .f32 0x3727C5AC#32),
    unary main_cst_8 main_v58 (broadcastInDim S2x8192x1 ![] bcast_S_S2x8192x1 : (⟨S_, .f32⟩ : BufTy).Contents (Elt F) → (⟨S2x8192x1, .f32⟩ : BufTy).Contents (Elt F)),
    binary main_v55 main_v58 main_v59 (addf : (⟨S2x8192x1, .f32⟩ : BufTy).Contents (Elt F) → (⟨S2x8192x1, .f32⟩ : BufTy).Contents (Elt F) → (⟨S2x8192x1, .f32⟩ : BufTy).Contents (Elt F)),
    unary main_v59 main_v60 (Host.rsqrt : (⟨S2x8192x1, .f32⟩ : BufTy).Contents (Elt F) → (⟨S2x8192x1, .f32⟩ : BufTy).Contents (Elt F)),
    unary main_v60 main_v61 (broadcastInDim S2x8192x2048 ![0, 1, 2] bcast_S2x8192x1_S2x8192x2048_0_1_2 : (⟨S2x8192x1, .f32⟩ : BufTy).Contents (Elt F) → (⟨S2x8192x2048, .f32⟩ : BufTy).Contents (Elt F)),
    binary main_v57 main_v61 main_v62 (mulf : (⟨S2x8192x2048, .f32⟩ : BufTy).Contents (Elt F) → (⟨S2x8192x2048, .f32⟩ : BufTy).Contents (Elt F) → (⟨S2x8192x2048, .f32⟩ : BufTy).Contents (Elt F)),
    unary main_arg5 main_v63 (broadcastInDim S1x1x2048 ![2] bcast_S2048_S1x1x2048_2 : (⟨S2048, .f32⟩ : BufTy).Contents (Elt F) → (⟨S1x1x2048, .f32⟩ : BufTy).Contents (Elt F)),
    unary main_v63 main_v64 (broadcastInDim S2x8192x2048 ![0, 1, 2] bcast_S1x1x2048_S2x8192x2048_0_1_2 : (⟨S1x1x2048, .f32⟩ : BufTy).Contents (Elt F) → (⟨S2x8192x2048, .f32⟩ : BufTy).Contents (Elt F)),
    binary main_v62 main_v64 main_v65 (mulf : (⟨S2x8192x2048, .f32⟩ : BufTy).Contents (Elt F) → (⟨S2x8192x2048, .f32⟩ : BufTy).Contents (Elt F) → (⟨S2x8192x2048, .f32⟩ : BufTy).Contents (Elt F)),
    unary main_arg6 main_v66 (broadcastInDim S1x1x2048 ![2] bcast_S2048_S1x1x2048_2 : (⟨S2048, .f32⟩ : BufTy).Contents (Elt F) → (⟨S1x1x2048, .f32⟩ : BufTy).Contents (Elt F)),
    unary main_v66 main_v67 (broadcastInDim S2x8192x2048 ![0, 1, 2] bcast_S1x1x2048_S2x8192x2048_0_1_2 : (⟨S1x1x2048, .f32⟩ : BufTy).Contents (Elt F) → (⟨S2x8192x2048, .f32⟩ : BufTy).Contents (Elt F)),
    binary main_v65 main_v67 main_v68 (addf : (⟨S2x8192x2048, .f32⟩ : BufTy).Contents (Elt F) → (⟨S2x8192x2048, .f32⟩ : BufTy).Contents (Elt F) → (⟨S2x8192x2048, .f32⟩ : BufTy).Contents (Elt F)),
    reshape main_v68 main_v69 (rfl : (.f32 : EltTy) = .f32) shapeCasts_S2x8192x2048_S16384x2048 ]

abbrev allOps : List (HloOp τ sig (Elt F)) := opsConv ++ (opsAct ++ (opsRes ++ opsNorm))

set_option maxRecDepth 8192 in
set_option maxHeartbeats 4000000 in
theorem main_seq (c : Dev nD) : main (F := F) c = seq allOps := rfl
theorem no_scoped_refs : (Finset.univ.filter fun b : Ref sig .tc => b.isScoped) = ∅ := by decide
theorem no_scoped_sems : (Finset.univ.filter fun sm : SemLoc sig => sm.isScoped .tc) = ∅ := by decide

set_option maxRecDepth 8192 in
theorem opsConv_bufs : (opsConv : List (HloOp τ sig (Elt F))).Forall fun op => op.bufs ⊆ tcRefs τ sig :=
  ⟨binary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
theorem opsConv_fresh : ∀ op ∈ (opsConv : List (HloOp τ sig (Elt F))), op.fresh = ∅ := by
  intro _ h; (repeat (cases h with | head => rfl | tail _ h => ?_)); exact nomatch h

set_option maxRecDepth 8192 in
theorem opsAct_bufs : (opsAct : List (HloOp τ sig (Elt F))).Forall fun op => op.bufs ⊆ tcRefs τ sig :=
  ⟨unary_bufs_sub .., unary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub ..⟩
theorem opsAct_fresh : ∀ op ∈ (opsAct : List (HloOp τ sig (Elt F))), op.fresh = ∅ := by
  intro _ h; (repeat (cases h with | head => rfl | tail _ h => ?_)); exact nomatch h

set_option maxRecDepth 8192 in
theorem opsRes_bufs : (opsRes : List (HloOp τ sig (Elt F))).Forall fun op => op.bufs ⊆ tcRefs τ sig :=
  ⟨binary_bufs_sub .., binary_bufs_sub ..⟩
theorem opsRes_fresh : ∀ op ∈ (opsRes : List (HloOp τ sig (Elt F))), op.fresh = ∅ := by
  intro _ h; (repeat (cases h with | head => rfl | tail _ h => ?_)); exact nomatch h

set_option maxRecDepth 8192 in
theorem opsNorm_bufs : (opsNorm : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub ..⟩
theorem opsNorm_fresh : ∀ op ∈ (opsNorm : List (HloOp τ sig (Elt F))), op.fresh = ∅ := by
  intro _ h; (repeat (cases h with | head => rfl | tail _ h => ?_)); exact nomatch h

theorem allOps_bufs : (allOps : List (HloOp τ sig (Elt F))).Forall fun op => op.bufs ⊆ tcRefs τ sig :=
  List.forall_append.2 ⟨opsConv_bufs, List.forall_append.2 ⟨opsAct_bufs, List.forall_append.2 ⟨opsRes_bufs, opsNorm_bufs⟩⟩⟩

theorem allOps_fresh : ∀ op ∈ (allOps : List (HloOp τ sig (Elt F))), op.fresh = ∅ := by
  intro op h
  rcases List.mem_append.1 h with h | h
  · exact opsConv_fresh op h
  rcases List.mem_append.1 h with h | h
  · exact opsAct_fresh op h
  rcases List.mem_append.1 h with h | h
  · exact opsRes_fresh op h
  · exact opsNorm_fresh op h

/-- One row of three of the convolution's weights, over every row of the projection. -/
def tap (w : Vec F S1x11264 .f32) : Vec F S2x8192x11264 .f32 :=
  broadcastInDim S2x8192x11264 ![0, 1, 2] bcast_S1x1x11264_S2x8192x11264_0_1_2
    (broadcastInDim S1x1x11264 ![2] bcast_S11264_S1x1x11264_2 (shapeCast S11264 w shapeCasts_S1x11264_S11264))

/-- The projection with two rows of zeros in front. -/
def padded (h : Vec F S2x8192x2048 .f32) (w : Vec F S2048x11264 .f32) : Vec F S2x8194x11264 .f32 :=
  pad S2x8194x11264 ![0, 2, 0] ![0, 0, 0] ![0, 0, 0] (Host.dotGeneral dot_S2x8192x2048_S2048x11264_S2x8192x11264_2_0_01_1_n_n none h w) (sitofp .f32 (constantI S_ 32 0#32)) pads_S2x8192x11264_S2x8194x11264_000_200_000 h_S_

/-- The causal convolution of the projection, the bias first. -/
def conv (h : Vec F S2x8192x2048 .f32) (w : Vec F S2048x11264 .f32) (cw : Vec F S3x11264 .f32) (cb : Vec F S11264 .f32) : Vec F S2x8192x11264 .f32 :=
  addf (addf (addf
      (broadcastInDim S2x8192x11264 ![0, 1, 2] bcast_S1x1x11264_S2x8192x11264_0_1_2 (broadcastInDim S1x1x11264 ![2] bcast_S11264_S1x1x11264_2 cb))
      (mulf (extractStridedSlice S2x8192x11264 ![0, 0, 0] (padded h w) slices_S2x8194x11264_S2x8192x11264_0_0_0) (tap (extractStridedSlice S1x11264 ![0, 0] cw slices_S3x11264_S1x11264_0_0))))
      (mulf (extractStridedSlice S2x8192x11264 ![0, 1, 0] (padded h w) slices_S2x8194x11264_S2x8192x11264_0_1_0) (tap (extractStridedSlice S1x11264 ![1, 0] cw slices_S3x11264_S1x11264_1_0))))
    (mulf (extractStridedSlice S2x8192x11264 ![0, 2, 0] (padded h w) slices_S2x8194x11264_S2x8192x11264_0_2_0) (tap (extractStridedSlice S1x11264 ![2, 0] cw slices_S3x11264_S1x11264_2_0)))

/-- A number at every place of the activation. -/
def lit (b : BitVec 32) : Vec F S2x8192x5632 .f32 := broadcastInDim S2x8192x5632 ![] bcast_S_S2x8192x5632 (constant S_ .f32 b)

/-- GELU by its tanh formula. -/
def gelu (x : Vec F S2x8192x5632 .f32) : Vec F S2x8192x5632 .f32 :=
  mulf x (mulf (lit 0x3F000000#32) (addf (lit 0x3F800000#32)
    (Host.tanh (mulf (lit 0x3F4C422A#32) (addf x (mulf (lit 0x3D372713#32) (mulf (mulf x x) x)))))))

/-- The activation: GELU of the first half of the columns times the second half. -/
def act (y : Vec F S2x8192x11264 .f32) : Vec F S2x8192x5632 .f32 :=
  mulf (gelu (extractStridedSlice S2x8192x5632 ![0, 0, 0] y slices_S2x8192x11264_S2x8192x5632_0_0_0))
    (extractStridedSlice S2x8192x5632 ![0, 0, 5632] y slices_S2x8192x11264_S2x8192x5632_0_0_5632)

/-- The scaled residual plus the product with the second weights. -/
def res (s : Vec F S2x8192x2048 .f32) (a : Vec F S2x8192x5632 .f32) (w : Vec F S5632x2048 .f32) : Vec F S2x8192x2048 .f32 :=
  addf s (Host.dotGeneral dot_S2x8192x5632_S5632x2048_S2x8192x2048_2_0_01_1_n_n none a w)

/-- The scaled residual. -/
def scaled (h : Vec F S2x8192x2048 .f32) : Vec F S2x8192x2048 .f32 :=
  mulf (broadcastInDim S2x8192x2048 ![] bcast_S_S2x8192x2048 (constant S_ .f32 0x3F9837F0#32)) h

/-- A row's mean, in a column. -/
def mean (z : Vec F S2x8192x2048 .f32) : Vec F S2x8192x1 .f32 :=
  Host.divf (broadcastInDim S2x8192x1 ![0, 1] bcast_S2x8192_S2x8192x1_0_1 (Host.reduceAdd z (constant S_ .f32 0x00000000#32) reducesTo_S2x8192x2048_S2x8192_d2 h_S_))
    (broadcastInDim S2x8192x1 ![] bcast_S_S2x8192x1 (constant S_ .f32 0x45000000#32))

/-- The rows less their means. -/
def centred (z : Vec F S2x8192x2048 .f32) : Vec F S2x8192x2048 .f32 :=
  subf z (broadcastInDim S2x8192x2048 ![0, 1, 2] bcast_S2x8192x1_S2x8192x2048_0_1_2 (mean z))

/-- The layer norm of the rows. -/
def norm (z : Vec F S2x8192x2048 .f32) (g b : Vec F S2048 .f32) : Vec F S2x8192x2048 .f32 :=
  addf (mulf (mulf (centred z) (broadcastInDim S2x8192x2048 ![0, 1, 2] bcast_S2x8192x1_S2x8192x2048_0_1_2
      (Host.rsqrt (addf (mean (mulf (centred z) (centred z))) (broadcastInDim S2x8192x1 ![] bcast_S_S2x8192x1 (constant S_ .f32 0x3727C5AC#32))))))
    (broadcastInDim S2x8192x2048 ![0, 1, 2] bcast_S1x1x2048_S2x8192x2048_0_1_2 (broadcastInDim S1x1x2048 ![2] bcast_S2048_S1x1x2048_2 g)))
    (broadcastInDim S2x8192x2048 ![0, 1, 2] bcast_S1x1x2048_S2x8192x2048_0_1_2 (broadcastInDim S1x1x2048 ![2] bcast_S2048_S1x1x2048_2 b))

/-- Two lines of operations, one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

variable (V : Valuation τ sig (Elt F))

set_option maxRecDepth 8192 in
set_option maxHeartbeats 8000000 in
theorem conv_eq : after opsConv V (Proc.devRef .tc main_v24) = conv (V (Proc.devRef .tc main_arg0)) (V (Proc.devRef .tc main_arg1)) (V (Proc.devRef .tc main_arg2)) (V (Proc.devRef .tc main_arg3)) := by
  simp only [opsConv, TRef.binary, TRef.unary, TRef.toBuf, TRef.ofBuf, cast_eq]; after_results_simp <;> rfl

set_option maxRecDepth 8192 in
set_option maxHeartbeats 8000000 in
theorem opsConv_arg0 : after opsConv V (Proc.devRef .tc main_arg0) = V (Proc.devRef .tc main_arg0) := by
  simp only [opsConv, TRef.binary, TRef.unary, TRef.toBuf, TRef.ofBuf, cast_eq]; after_results_simp <;> rfl

set_option maxRecDepth 8192 in
set_option maxHeartbeats 8000000 in
theorem opsConv_arg1 : after opsConv V (Proc.devRef .tc main_arg1) = V (Proc.devRef .tc main_arg1) := by
  simp only [opsConv, TRef.binary, TRef.unary, TRef.toBuf, TRef.ofBuf, cast_eq]; after_results_simp <;> rfl

set_option maxRecDepth 8192 in
set_option maxHeartbeats 8000000 in
theorem opsConv_arg2 : after opsConv V (Proc.devRef .tc main_arg2) = V (Proc.devRef .tc main_arg2) := by
  simp only [opsConv, TRef.binary, TRef.unary, TRef.toBuf, TRef.ofBuf, cast_eq]; after_results_simp <;> rfl

set_option maxRecDepth 8192 in
set_option maxHeartbeats 8000000 in
theorem opsConv_arg3 : after opsConv V (Proc.devRef .tc main_arg3) = V (Proc.devRef .tc main_arg3) := by
  simp only [opsConv, TRef.binary, TRef.unary, TRef.toBuf, TRef.ofBuf, cast_eq]; after_results_simp <;> rfl

set_option maxRecDepth 8192 in
set_option maxHeartbeats 8000000 in
theorem opsConv_arg4 : after opsConv V (Proc.devRef .tc main_arg4) = V (Proc.devRef .tc main_arg4) := by
  simp only [opsConv, TRef.binary, TRef.unary, TRef.toBuf, TRef.ofBuf, cast_eq]; after_results_simp <;> rfl

set_option maxRecDepth 8192 in
set_option maxHeartbeats 8000000 in
theorem opsConv_arg5 : after opsConv V (Proc.devRef .tc main_arg5) = V (Proc.devRef .tc main_arg5) := by
  simp only [opsConv, TRef.binary, TRef.unary, TRef.toBuf, TRef.ofBuf, cast_eq]; after_results_simp <;> rfl

set_option maxRecDepth 8192 in
set_option maxHeartbeats 8000000 in
theorem opsConv_arg6 : after opsConv V (Proc.devRef .tc main_arg6) = V (Proc.devRef .tc main_arg6) := by
  simp only [opsConv, TRef.binary, TRef.unary, TRef.toBuf, TRef.ofBuf, cast_eq]; after_results_simp <;> rfl

set_option maxRecDepth 8192 in
set_option maxHeartbeats 8000000 in
theorem act_eq : after opsAct V (Proc.devRef .tc main_v42) = act (V (Proc.devRef .tc main_v24)) := by
  simp only [opsAct, TRef.binary, TRef.unary, TRef.toBuf, TRef.ofBuf, cast_eq]; after_results_simp <;> rfl

set_option maxRecDepth 8192 in
set_option maxHeartbeats 8000000 in
theorem scaled_eq : after opsAct V (Proc.devRef .tc main_v28) = scaled (V (Proc.devRef .tc main_arg0)) := by
  simp only [opsAct, TRef.binary, TRef.unary, TRef.toBuf, TRef.ofBuf, cast_eq]; after_results_simp <;> rfl

set_option maxRecDepth 8192 in
set_option maxHeartbeats 8000000 in
theorem opsAct_arg0 : after opsAct V (Proc.devRef .tc main_arg0) = V (Proc.devRef .tc main_arg0) := by
  simp only [opsAct, TRef.binary, TRef.unary, TRef.toBuf, TRef.ofBuf, cast_eq]; after_results_simp <;> rfl

set_option maxRecDepth 8192 in
set_option maxHeartbeats 8000000 in
theorem opsAct_arg1 : after opsAct V (Proc.devRef .tc main_arg1) = V (Proc.devRef .tc main_arg1) := by
  simp only [opsAct, TRef.binary, TRef.unary, TRef.toBuf, TRef.ofBuf, cast_eq]; after_results_simp <;> rfl

set_option maxRecDepth 8192 in
set_option maxHeartbeats 8000000 in
theorem opsAct_arg2 : after opsAct V (Proc.devRef .tc main_arg2) = V (Proc.devRef .tc main_arg2) := by
  simp only [opsAct, TRef.binary, TRef.unary, TRef.toBuf, TRef.ofBuf, cast_eq]; after_results_simp <;> rfl

set_option maxRecDepth 8192 in
set_option maxHeartbeats 8000000 in
theorem opsAct_arg3 : after opsAct V (Proc.devRef .tc main_arg3) = V (Proc.devRef .tc main_arg3) := by
  simp only [opsAct, TRef.binary, TRef.unary, TRef.toBuf, TRef.ofBuf, cast_eq]; after_results_simp <;> rfl

set_option maxRecDepth 8192 in
set_option maxHeartbeats 8000000 in
theorem opsAct_arg4 : after opsAct V (Proc.devRef .tc main_arg4) = V (Proc.devRef .tc main_arg4) := by
  simp only [opsAct, TRef.binary, TRef.unary, TRef.toBuf, TRef.ofBuf, cast_eq]; after_results_simp <;> rfl

set_option maxRecDepth 8192 in
set_option maxHeartbeats 8000000 in
theorem opsAct_arg5 : after opsAct V (Proc.devRef .tc main_arg5) = V (Proc.devRef .tc main_arg5) := by
  simp only [opsAct, TRef.binary, TRef.unary, TRef.toBuf, TRef.ofBuf, cast_eq]; after_results_simp <;> rfl

set_option maxRecDepth 8192 in
set_option maxHeartbeats 8000000 in
theorem opsAct_arg6 : after opsAct V (Proc.devRef .tc main_arg6) = V (Proc.devRef .tc main_arg6) := by
  simp only [opsAct, TRef.binary, TRef.unary, TRef.toBuf, TRef.ofBuf, cast_eq]; after_results_simp <;> rfl

set_option maxRecDepth 8192 in
set_option maxHeartbeats 8000000 in
theorem res_eq : after opsRes V (Proc.devRef .tc main_v44) = res (V (Proc.devRef .tc main_v28)) (V (Proc.devRef .tc main_v42)) (V (Proc.devRef .tc main_arg4)) := by
  simp only [opsRes, TRef.binary, TRef.unary, TRef.toBuf, TRef.ofBuf, cast_eq]; after_results_simp <;> rfl

set_option maxRecDepth 8192 in
set_option maxHeartbeats 8000000 in
theorem opsRes_arg0 : after opsRes V (Proc.devRef .tc main_arg0) = V (Proc.devRef .tc main_arg0) := by
  simp only [opsRes, TRef.binary, TRef.unary, TRef.toBuf, TRef.ofBuf, cast_eq]; after_results_simp <;> rfl

set_option maxRecDepth 8192 in
set_option maxHeartbeats 8000000 in
theorem opsRes_arg1 : after opsRes V (Proc.devRef .tc main_arg1) = V (Proc.devRef .tc main_arg1) := by
  simp only [opsRes, TRef.binary, TRef.unary, TRef.toBuf, TRef.ofBuf, cast_eq]; after_results_simp <;> rfl

set_option maxRecDepth 8192 in
set_option maxHeartbeats 8000000 in
theorem opsRes_arg2 : after opsRes V (Proc.devRef .tc main_arg2) = V (Proc.devRef .tc main_arg2) := by
  simp only [opsRes, TRef.binary, TRef.unary, TRef.toBuf, TRef.ofBuf, cast_eq]; after_results_simp <;> rfl

set_option maxRecDepth 8192 in
set_option maxHeartbeats 8000000 in
theorem opsRes_arg3 : after opsRes V (Proc.devRef .tc main_arg3) = V (Proc.devRef .tc main_arg3) := by
  simp only [opsRes, TRef.binary, TRef.unary, TRef.toBuf, TRef.ofBuf, cast_eq]; after_results_simp <;> rfl

set_option maxRecDepth 8192 in
set_option maxHeartbeats 8000000 in
theorem opsRes_arg4 : after opsRes V (Proc.devRef .tc main_arg4) = V (Proc.devRef .tc main_arg4) := by
  simp only [opsRes, TRef.binary, TRef.unary, TRef.toBuf, TRef.ofBuf, cast_eq]; after_results_simp <;> rfl

set_option maxRecDepth 8192 in
set_option maxHeartbeats 8000000 in
theorem opsRes_arg5 : after opsRes V (Proc.devRef .tc main_arg5) = V (Proc.devRef .tc main_arg5) := by
  simp only [opsRes, TRef.binary, TRef.unary, TRef.toBuf, TRef.ofBuf, cast_eq]; after_results_simp <;> rfl

set_option maxRecDepth 8192 in
set_option maxHeartbeats 8000000 in
theorem opsRes_arg6 : after opsRes V (Proc.devRef .tc main_arg6) = V (Proc.devRef .tc main_arg6) := by
  simp only [opsRes, TRef.binary, TRef.unary, TRef.toBuf, TRef.ofBuf, cast_eq]; after_results_simp <;> rfl

set_option maxRecDepth 8192 in
set_option maxHeartbeats 8000000 in
theorem norm_eq : after opsNorm V (Proc.devRef .tc main_v69) = shapeCast S16384x2048 (norm (V (Proc.devRef .tc main_v44)) (V (Proc.devRef .tc main_arg5)) (V (Proc.devRef .tc main_arg6))) shapeCasts_S2x8192x2048_S16384x2048 := by
  simp only [opsNorm, TRef.binary, TRef.unary, TRef.toBuf, TRef.ofBuf, cast_eq]; after_results_simp <;> rfl

set_option maxRecDepth 8192 in
set_option maxHeartbeats 8000000 in
theorem opsNorm_arg0 : after opsNorm V (Proc.devRef .tc main_arg0) = V (Proc.devRef .tc main_arg0) := by
  simp only [opsNorm, TRef.binary, TRef.unary, TRef.toBuf, TRef.ofBuf, cast_eq]; after_results_simp <;> rfl

set_option maxRecDepth 8192 in
set_option maxHeartbeats 8000000 in
theorem opsNorm_arg1 : after opsNorm V (Proc.devRef .tc main_arg1) = V (Proc.devRef .tc main_arg1) := by
  simp only [opsNorm, TRef.binary, TRef.unary, TRef.toBuf, TRef.ofBuf, cast_eq]; after_results_simp <;> rfl

set_option maxRecDepth 8192 in
set_option maxHeartbeats 8000000 in
theorem opsNorm_arg2 : after opsNorm V (Proc.devRef .tc main_arg2) = V (Proc.devRef .tc main_arg2) := by
  simp only [opsNorm, TRef.binary, TRef.unary, TRef.toBuf, TRef.ofBuf, cast_eq]; after_results_simp <;> rfl

set_option maxRecDepth 8192 in
set_option maxHeartbeats 8000000 in
theorem opsNorm_arg3 : after opsNorm V (Proc.devRef .tc main_arg3) = V (Proc.devRef .tc main_arg3) := by
  simp only [opsNorm, TRef.binary, TRef.unary, TRef.toBuf, TRef.ofBuf, cast_eq]; after_results_simp <;> rfl

set_option maxRecDepth 8192 in
set_option maxHeartbeats 8000000 in
theorem opsNorm_arg4 : after opsNorm V (Proc.devRef .tc main_arg4) = V (Proc.devRef .tc main_arg4) := by
  simp only [opsNorm, TRef.binary, TRef.unary, TRef.toBuf, TRef.ofBuf, cast_eq]; after_results_simp <;> rfl

set_option maxRecDepth 8192 in
set_option maxHeartbeats 8000000 in
theorem opsNorm_arg5 : after opsNorm V (Proc.devRef .tc main_arg5) = V (Proc.devRef .tc main_arg5) := by
  simp only [opsNorm, TRef.binary, TRef.unary, TRef.toBuf, TRef.ofBuf, cast_eq]; after_results_simp <;> rfl

set_option maxRecDepth 8192 in
set_option maxHeartbeats 8000000 in
theorem opsNorm_arg6 : after opsNorm V (Proc.devRef .tc main_arg6) = V (Proc.devRef .tc main_arg6) := by
  simp only [opsNorm, TRef.binary, TRef.unary, TRef.toBuf, TRef.ofBuf, cast_eq]; after_results_simp <;> rfl

/-- The reference's result as a function of its arguments. -/
def out (h : Vec F S2x8192x2048 .f32) (wu : Vec F S2048x11264 .f32) (cw : Vec F S3x11264 .f32) (cb : Vec F S11264 .f32)
    (wd : Vec F S5632x2048 .f32) (g b : Vec F S2048 .f32) : Vec F S16384x2048 .f32 :=
  shapeCast S16384x2048 (norm (res (scaled h) (act (conv h wu cw cb)) wd) g b) shapeCasts_S2x8192x2048_S16384x2048

theorem out_eq : after allOps V (Proc.devRef .tc main_v69) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_two, after_two, after_two, norm_eq, res_eq, opsRes_arg5, opsRes_arg6, act_eq, scaled_eq, opsAct_arg4, opsAct_arg5,
    opsAct_arg6, conv_eq, opsConv_arg0, opsConv_arg4, opsConv_arg5, opsConv_arg6]
  rfl

theorem arg0_eq : after allOps V (Proc.devRef .tc main_arg0) = V (Proc.devRef .tc main_arg0) := by
  rw [after_two, after_two, after_two, opsNorm_arg0, opsRes_arg0, opsAct_arg0, opsConv_arg0]

theorem arg1_eq : after allOps V (Proc.devRef .tc main_arg1) = V (Proc.devRef .tc main_arg1) := by
  rw [after_two, after_two, after_two, opsNorm_arg1, opsRes_arg1, opsAct_arg1, opsConv_arg1]

theorem arg2_eq : after allOps V (Proc.devRef .tc main_arg2) = V (Proc.devRef .tc main_arg2) := by
  rw [after_two, after_two, after_two, opsNorm_arg2, opsRes_arg2, opsAct_arg2, opsConv_arg2]

theorem arg3_eq : after allOps V (Proc.devRef .tc main_arg3) = V (Proc.devRef .tc main_arg3) := by
  rw [after_two, after_two, after_two, opsNorm_arg3, opsRes_arg3, opsAct_arg3, opsConv_arg3]

theorem arg4_eq : after allOps V (Proc.devRef .tc main_arg4) = V (Proc.devRef .tc main_arg4) := by
  rw [after_two, after_two, after_two, opsNorm_arg4, opsRes_arg4, opsAct_arg4, opsConv_arg4]

theorem arg5_eq : after allOps V (Proc.devRef .tc main_arg5) = V (Proc.devRef .tc main_arg5) := by
  rw [after_two, after_two, after_two, opsNorm_arg5, opsRes_arg5, opsAct_arg5, opsConv_arg5]

theorem arg6_eq : after allOps V (Proc.devRef .tc main_arg6) = V (Proc.devRef .tc main_arg6) := by
  rw [after_two, after_two, after_two, opsNorm_arg6, opsRes_arg6, opsAct_arg6, opsConv_arg6]

/-- The reference's run: its result is `out` of its arguments, which it leaves as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v69).trans (out_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_seq no_scoped_refs no_scoped_sems defs main (fun _ => allOps) main_seq (fun _ => allOps_bufs) m ρ (fun _ => allOps_fresh))

end Cert.Reference2Ideal.Staged

end
-- ==== Proof.FfnSpec.lean ====
/- The gated feed-forward layer as functions of numbers, with no tiling: the projection of a row, its causal convolution,
   the activation, the residual sum, the layer norm. Both programs are shown equal to these. -/
module

public import Idealize.ShloMosaic.Lib.Pointwise

@[expose] public section

noncomputable section

namespace Cert.Ffn

open Idealize.ShloMosaic

/-- The projection of row `q - 2` of sequence `b`, the two rows before the first being zero. -/
def up (h : Fin 2 → Fin 8192 → Fin 2048 → EReal) (w : Fin 2048 → Fin 11264 → EReal) (b : Fin 2) (q : ℕ) (e : Fin 11264) : EReal :=
  if hq : 2 ≤ q ∧ q - 2 < 8192 then ∑ x, h b ⟨q - 2, hq.2⟩ x * w x e else 0

/-- The convolution over the rows `q - 2`, `q - 1` and `q`, the bias first. -/
def conv (h : Fin 2 → Fin 8192 → Fin 2048 → EReal) (w : Fin 2048 → Fin 11264 → EReal) (cw : Fin 3 → Fin 11264 → EReal)
    (cb : Fin 11264 → EReal) (b : Fin 2) (q : ℕ) (e : Fin 11264) : EReal :=
  cb e + up h w b q e * cw 0 e + up h w b (1 + q) e * cw 1 e + up h w b (2 + q) e * cw 2 e

/-- GELU of `x` by its tanh formula, times `y`. -/
def glu (x y : EReal) : EReal :=
  x * (Ideal.ofBits .f32 0x3F000000#32 * (1 + Ideal.tanh (Ideal.ofBits .f32 0x3F4C422A#32 *
    (x + Ideal.ofBits .f32 0x3D372713#32 * (x * x * x))))) * y

/-- The activation: GELU of the first half of the columns times the second half. -/
def act (h : Fin 2 → Fin 8192 → Fin 2048 → EReal) (w : Fin 2048 → Fin 11264 → EReal) (cw : Fin 3 → Fin 11264 → EReal)
    (cb : Fin 11264 → EReal) (b : Fin 2) (q : ℕ) (e : Fin 5632) : EReal :=
  glu (conv h w cw cb b q ⟨e.val, by omega⟩) (conv h w cw cb b q ⟨5632 + e.val, by omega⟩)

/-- The layer norm of a row `z` at its entry `e`, with gain `g` and shift `d`. -/
def norm (z : Fin 2048 → EReal) (g d : EReal) (e : Fin 2048) : EReal :=
  (z e - Ideal.div (∑ x, z x) (Ideal.ofBits .f32 0x45000000#32)) *
    Ideal.rsqrt (Ideal.div (∑ x, (z x - Ideal.div (∑ x, z x) (Ideal.ofBits .f32 0x45000000#32)) *
        (z x - Ideal.div (∑ x, z x) (Ideal.ofBits .f32 0x45000000#32))) (Ideal.ofBits .f32 0x45000000#32)
      + Ideal.ofBits .f32 0x3727C5AC#32) * g + d

/-- The scaled residual plus the activation's product with the second weights. -/
def mixed (h : Fin 2 → Fin 8192 → Fin 2048 → EReal) (w : Fin 2048 → Fin 11264 → EReal) (cw : Fin 3 → Fin 11264 → EReal)
    (cb : Fin 11264 → EReal) (wd : Fin 5632 → Fin 2048 → EReal) (b : Fin 2) (q : Fin 8192) (e : Fin 2048) : EReal :=
  Ideal.ofBits .f32 0x3F9837F0#32 * h b q e + ∑ x, act h w cw cb b q x * wd x e

/-- The layer's result at row `r` of all the sequences' rows. -/
def out (h : Fin 2 → Fin 8192 → Fin 2048 → EReal) (w : Fin 2048 → Fin 11264 → EReal) (cw : Fin 3 → Fin 11264 → EReal)
    (cb : Fin 11264 → EReal) (wd : Fin 5632 → Fin 2048 → EReal) (g d : Fin 2048 → EReal) (r : Fin 16384) (e : Fin 2048) : EReal :=
  norm (mixed h w cw cb wd ⟨r.val / 8192, by omega⟩ ⟨r.val % 8192, Nat.mod_lt _ (by decide)⟩) (g e) (d e) e

/-- A sum over all the columns of the activation, taken 512 at a time. -/
theorem sum_chunks (f : Fin 5632 → EReal) :
    ∑ e, f e = ∑ k ∈ Finset.range 11, ∑ x : Fin 512, if h : 512 * k + x.val < 5632 then f ⟨512 * k + x.val, h⟩ else 0 := by
  rw [Finset.sum_range (f := fun k => ∑ x : Fin 512, if h : 512 * k + x.val < 5632 then f ⟨512 * k + x.val, h⟩ else 0)]
  rw [← Fintype.sum_prod_type']
  refine (Fintype.sum_equiv (finProdFinEquiv (m := 11) (n := 512)) _ _ fun p => ?_).symm
  obtain ⟨a, b⟩ := p
  have hb : 512 * a.val + b.val < 5632 := by omega
  simp only [dif_pos hb]
  refine congrArg f (Fin.ext ?_)
  simp only [finProdFinEquiv_apply_val]
  omega

end Cert.Ffn
-- ==== Proof.FfnRef.lean ====
/- The reference's result at an index is the feed-forward layer's. -/
module

public import proofs.«01_k».proof.Proof.Ref2
public import proofs.«01_k».proof.Proof.FfnSpec

@[expose] public section

noncomputable section

namespace Cert.Reference2Ideal.Staged

open Cert.Reference2Ideal Cert.Reference2Ideal.Gen Idealize.ShloMosaic

variable (h : Vec Ideal S2x8192x2048 .f32) (wu : Vec Ideal S2048x11264 .f32) (cw : Vec Ideal S3x11264 .f32)
  (cb : Vec Ideal S11264 .f32) (wd : Vec Ideal S5632x2048 .f32) (g d : Vec Ideal S2048 .f32)

theorem padded_at (b : Fin 2) (q : ℕ) (hq : q < 8194) (e : Fin 11264) :
    padded h wu (ix3 b ⟨q, hq⟩ e) = Ffn.up (fun b q x => h (ix3 b q x)) (fun x e => wu (ix2 x e)) b q e := by
  pointwise [padded, Ffn.up]
  split
  · rfl
  · show ((((0#32 : BitVec 32).toInt : ℝ) : EReal)) = 0
    simp

theorem conv_at (b : Fin 2) (q : Fin 8192) (e : Fin 11264) : conv h wu cw cb (ix3 b q e) =
    Ffn.conv (fun b q x => h (ix3 b q x)) (fun x e => wu (ix2 x e)) (fun k e => cw (ix2 k e)) (fun e => cb (ix1 e)) b q e := by
  pointwise [conv, tap]
  simp only [padded_at, Ffn.conv]

theorem act_at (b : Fin 2) (q : Fin 8192) (e : Fin 5632) : act (conv h wu cw cb) (ix3 b q e) =
    Ffn.act (fun b q x => h (ix3 b q x)) (fun x e => wu (ix2 x e)) (fun k e => cw (ix2 k e)) (fun e => cb (ix1 e)) b q e := by
  pointwise [act, gelu, lit]
  simp only [conv_at, Ffn.act, Ffn.glu]

theorem res_at (b : Fin 2) (q : Fin 8192) (e : Fin 2048) : res (scaled h) (act (conv h wu cw cb)) wd (ix3 b q e) =
    Ffn.mixed (fun b q x => h (ix3 b q x)) (fun x e => wu (ix2 x e)) (fun k e => cw (ix2 k e)) (fun e => cb (ix1 e))
      (fun x e => wd (ix2 x e)) b q e := by
  pointwise [res, scaled]
  simp only [act_at, Ffn.mixed]

theorem norm_at (z : Vec Ideal S2x8192x2048 .f32) (b : Fin 2) (q : Fin 8192) (e : Fin 2048) :
    norm z g d (ix3 b q e) = Ffn.norm (fun x => z (ix3 b q x)) (g (ix1 e)) (d (ix1 e)) e := by
  pointwise [norm, mean, centred]
  rfl

theorem out_at (r : Fin 16384) (e : Fin 2048) : out h wu cw cb wd g d (ix2 r e) =
    Ffn.out (fun b q x => h (ix3 b q x)) (fun x e => wu (ix2 x e)) (fun k e => cw (ix2 k e)) (fun e => cb (ix1 e))
      (fun x e => wd (ix2 x e)) (fun e => g (ix1 e)) (fun e => d (ix1 e)) r e := by
  pointwise [out]
  rw [norm_at]
  simp only [res_at, Ffn.out]

end Cert.Reference2Ideal.Staged

end
-- ==== Proof.FfnTile.lean ====
/- The second call's payloads and input blocks at an index: what one grid point computes from its blocks, and which
   elements of the arguments the blocks hold. -/
module

public import proofs.«01_k».proof.Proof.Gen.Kernel2Ideal.Frame.Runs
public import proofs.«01_k».proof.Proof.FfnSpec
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe

/-! ## The payloads -/

section Payloads
variable (L : Vec Ideal S1032x2048 .bf16) (w w' : Vec Ideal S2048x512 .bf16) (b w0 w1 w2 b' w0' w1' w2' : Vec Ideal S1x512 .f32)

/-- A row of the window's product with a chunk of the first weights. -/
def prod (p : Fin 1032) (f : Fin 512) : EReal := ∑ x, L (ix2 p x) * w (ix2 x f)

/-- The convolution of three rows of the product, the bias first. -/
def taps (s : Fin 1024) (f : Fin 512) : EReal :=
  b (ix2 0 f) + prod L w ⟨6 + s.val, by omega⟩ f * w0 (ix2 0 f) + prod L w ⟨7 + s.val, by omega⟩ f * w1 (ix2 0 f)
    + prod L w ⟨8 + s.val, by omega⟩ f * w2 (ix2 0 f)

theorem row6 (s : Fin 1024) (h) : (⟨(8 + s.val + 1032 - 2) % 1032, h⟩ : Fin 1032) = ⟨6 + s.val, by omega⟩ := Fin.ext (by simp only; omega)
theorem row7 (s : Fin 1024) (h) : (⟨(8 + s.val + 1032 - 1) % 1032, h⟩ : Fin 1032) = ⟨7 + s.val, by omega⟩ := Fin.ext (by simp only; omega)

theorem pay6_at (s : Fin 1024) (f : Fin 512) : k0_pay6 L w b w0 w1 w2 (ix2 s f) = taps L w b w0 w1 w2 s f := by
  pointwise [k0_pay6]
  simp only [row6, row7, taps, prod]

/-- One point's contribution to its output block. -/
theorem pay8_at (o : Vec Ideal S1024x2048 .f32) (wd : Vec Ideal S512x2048 .bf16) (s : Fin 1024) (e : Fin 2048) :
    k0_pay8 L (k0_pay6 L w b w0 w1 w2) (k0_pay7 L w b w0 w1 w2) w' b' w0' w1' w2' o wd (ix2 s e) =
      o (ix2 s e) + ∑ f, Cert.Ffn.glu (taps L w b w0 w1 w2 s f) (taps L w' b' w0' w1' w2' s f) * wd (ix2 f e) := by
  pointwise [k0_pay8, k0_pay7]
  simp only [pay6_at, row6, row7]
  refine congrArg _ (Finset.sum_congr rfl fun f _ => ?_)
  simp only [Cert.Ffn.glu, mul_assoc]
  rfl

theorem pay5_at (x : Vec Ideal S1024x2048 .f32) (s : Fin 1024) (e : Fin 2048) :
    k0_pay5 x (ix2 s e) = Ideal.ofBits .f32 0x3F9837F0#32 * x (ix2 s e) := by
  pointwise [k0_pay5, k0_pay3]

theorem pay4_at (x : Vec Ideal S1024x2048 .f32) (s : Fin 1024) (e : Fin 2048) : k0_pay4 x (ix2 s e) = x (ix2 s e) := by
  pointwise [k0_pay4, k0_pay3]

theorem pay1_at (z : Vec Ideal S1024x2048 .f32) (g d : Vec Ideal S1x2048 .f32) (s : Fin 1024) (e : Fin 2048) :
    k0_pay1 z g d (ix2 s e) = Cert.Ffn.norm (fun x => z (ix2 s x)) (g (ix2 0 e)) (d (ix2 0 e)) e := by
  pointwise [k0_pay1]
  rfl

theorem head_word : ∀ n : Fin 16, (Scalar.cmpi .eq
        (Scalar.select
          (Scalar.andi
            (Scalar.xori
              (Scalar.cmpi .slt (Scalar.remsi (BitVec.ofNat 32 n.val) (Scalar.select (Scalar.cmpi .eq 8#32 0#32) 1#32 8#32)) 0#32)
              (Scalar.cmpi .slt (Scalar.select (Scalar.cmpi .eq 8#32 0#32) 1#32 8#32) 0#32))
            (Scalar.cmpi .ne (Scalar.remsi (BitVec.ofNat 32 n.val) (Scalar.select (Scalar.cmpi .eq 8#32 0#32) 1#32 8#32)) 0#32))
          (Scalar.addi
            (Scalar.remsi (BitVec.ofNat 32 n.val) (Scalar.select (Scalar.cmpi .eq 8#32 0#32) 1#32 8#32))
            (Scalar.select (Scalar.cmpi .eq 8#32 0#32) 1#32 8#32))
          (Scalar.remsi (BitVec.ofNat 32 n.val) (Scalar.select (Scalar.cmpi .eq 8#32 0#32) 1#32 8#32)))
        0#32) = BitVec.ofBool (decide (n.val % 8 = 0)) := by decide

/-- The eight rows before the block: zero where the block begins a sequence. -/
theorem pay2_at (i : grid0.Coords) (x : Vec Ideal S8x2048 .f32) (p : Fin 8) (e : Fin 2048) :
    k0_pay2 i x (ix2 p e) = if (i 0).val % 8 = 0 then 0 else x (ix2 p e) := by
  pointwise [k0_pay2]
  rw [head_word (i 0)]
  by_cases h : (i 0).val % 8 = 0 <;> simp [h, Scalar.select]

end Payloads

/-! ## The blocks -/

theorem idx : ∀ t : Fin cfg0.N, win0_0.index t = ![t.val / 11, 0] ∧ win0_1.index t = ![128 * (t.val / 11) - 1, 0]
    ∧ win0_2.index t = ![0, t.val % 11] ∧ win0_3.index t = ![0, 11 + t.val % 11]
    ∧ win0_4.index t = ![0, t.val % 11] ∧ win0_5.index t = ![0, 11 + t.val % 11]
    ∧ win0_6.index t = ![0, t.val % 11] ∧ win0_7.index t = ![0, 11 + t.val % 11]
    ∧ win0_8.index t = ![t.val % 11, 0] ∧ win0_9.index t = ![0, 0] ∧ win0_10.index t = ![0, 0] :=
  (by decide +kernel : ∀ t : Fin grid0.N, _)

theorem coord0 : ∀ t : Fin cfg0.N, (grid0.coords t 0).val = t.val / 11 := (by decide +kernel : ∀ t : Fin grid0.N, _)

theorem points (t : Fin cfg0.N) : t.val < 176 := lt_of_lt_of_eq t.isLt (show cfg0.N = 176 from N_0)

variable (m : (ℓ : Loc nD τ sig) → Buf (Elt Ideal) ℓ) (c : Dev nD)

abbrev argH : Fin 2 → Fin 8192 → Fin 2048 → EReal := fun b q x => m ((c : Thread nD τ).loc main_arg0) (ix3 b q x)
abbrev argU : Fin 2048 → Fin 11264 → EReal := fun x e => m ((c : Thread nD τ).loc main_arg1) (ix2 x e)
abbrev argC : Fin 3 → Fin 11264 → EReal := fun k e => m ((c : Thread nD τ).loc main_arg2) (ix2 k e)
abbrev argB : Fin 11264 → EReal := fun e => m ((c : Thread nD τ).loc main_arg3) (ix1 e)
abbrev argD : Fin 5632 → Fin 2048 → EReal := fun x e => m ((c : Thread nD τ).loc main_arg4) (ix2 x e)
abbrev argG : Fin 2048 → EReal := fun e => m ((c : Thread nD τ).loc main_arg5) (ix1 e)
abbrev argS : Fin 2048 → EReal := fun e => m ((c : Thread nD τ).loc main_arg6) (ix1 e)

/-- The rows of all sequences, one after the other. -/
def flat (h : Fin 2 → Fin 8192 → Fin 2048 → EReal) (r : ℕ) (d : Fin 2048) : EReal :=
  if hr : r < 16384 then h ⟨r / 8192, by omega⟩ ⟨r % 8192, Nat.mod_lt _ (by decide)⟩ d else 0

theorem blk0 (t : Fin cfg0.N) (s : Fin 1024) (d : Fin 2048) :
    iblk m c 0 t (ix2 s d) = flat (argH m c) (1024 * (t.val / 11) + s.val) d := by
  have := points t
  rw [flat, dif_pos (by omega)]
  blk_ext! [iblk, V, idx t]

theorem blk1 (t : Fin cfg0.N) (ht : t.val / 11 % 8 ≠ 0) (p : Fin 8) (d : Fin 2048) :
    iblk m c 1 t (ix2 p d) = flat (argH m c) (1024 * (t.val / 11) + p.val - 8) d := by
  have := points t
  rw [flat, dif_pos (by omega)]
  blk_ext! [iblk, V, idx t]

theorem blk2 (t : Fin cfg0.N) (x : Fin 2048) (f : Fin 512) :
    iblk m c 2 t (ix2 x f) = argU m c x ⟨512 * (t.val % 11) + f.val, by omega⟩ := by
  blk_ext! [iblk, V, idx t]
theorem blk3 (t : Fin cfg0.N) (x : Fin 2048) (f : Fin 512) :
    iblk m c 3 t (ix2 x f) = argU m c x ⟨5632 + (512 * (t.val % 11) + f.val), by omega⟩ := by
  blk_ext! [iblk, V, idx t]
theorem blk4 (t : Fin cfg0.N) (x : Fin 3) (f : Fin 512) :
    iblk m c 4 t (ix2 x f) = argC m c x ⟨512 * (t.val % 11) + f.val, by omega⟩ := by
  blk_ext! [iblk, V, idx t]
theorem blk5 (t : Fin cfg0.N) (x : Fin 3) (f : Fin 512) :
    iblk m c 5 t (ix2 x f) = argC m c x ⟨5632 + (512 * (t.val % 11) + f.val), by omega⟩ := by
  blk_ext! [iblk, V, idx t]
theorem blk6 (t : Fin cfg0.N) (f : Fin 512) :
    iblk m c 6 t (ix2 0 f) = argB m c ⟨512 * (t.val % 11) + f.val, by omega⟩ := by
  blk_ext! [iblk, V, idx t]
theorem blk7 (t : Fin cfg0.N) (f : Fin 512) :
    iblk m c 7 t (ix2 0 f) = argB m c ⟨5632 + (512 * (t.val % 11) + f.val), by omega⟩ := by
  blk_ext! [iblk, V, idx t]
theorem blk8 (t : Fin cfg0.N) (f : Fin 512) (d : Fin 2048) :
    iblk m c 8 t (ix2 f d) = argD m c ⟨512 * (t.val % 11) + f.val, by omega⟩ d := by
  blk_ext! [iblk, V, idx t]
theorem blk9 (t : Fin cfg0.N) (d : Fin 2048) : iblk m c 9 t (ix2 0 d) = argG m c d := by
  blk_ext! [iblk, V, idx t]
theorem blk10 (t : Fin cfg0.N) (d : Fin 2048) : iblk m c 10 t (ix2 0 d) = argS m c d := by
  blk_ext! [iblk, V, idx t]

/-! ## The window of rows -/

/-- The rows a block works on: the eight before it, zero where it begins a sequence, then its own. -/
def rows (h : Fin 2 → Fin 8192 → Fin 2048 → EReal) (i : ℕ) : Vec Ideal S1032x2048 .bf16 := fun j =>
  if (j 0).val < 8 ∧ i % 8 = 0 then 0 else flat h (1024 * i + (j 0).val - 8) (j 1)

theorem rows_at (h : Fin 2 → Fin 8192 → Fin 2048 → EReal) (i : ℕ) (p : Fin 1032) (x : Fin 2048) :
    rows h i (ix2 p x) = if p.val < 8 ∧ i % 8 = 0 then 0 else flat h (1024 * i + p.val - 8) x := rfl

theorem flat_of_lt (h : Fin 2 → Fin 8192 → Fin 2048 → EReal) (r : ℕ) (hr : r < 16384) (d : Fin 2048) :
    flat h r d = h ⟨r / 8192, by omega⟩ ⟨r % 8192, Nat.mod_lt _ (by decide)⟩ d := dif_pos hr

/-- A row of the window times the first weights is the projection of that row. -/
theorem rows_up (h : Fin 2 → Fin 8192 → Fin 2048 → EReal) (w : Fin 2048 → Fin 11264 → EReal) (i : ℕ) (hi : i < 16)
    (s : Fin 1024) (k : ℕ) (hk : k < 3) (e : Fin 11264) :
    ∑ x, rows h i (ix2 ⟨6 + k + s.val, by omega⟩ x) * w x e =
      Cert.Ffn.up h w ⟨(1024 * i + s.val) / 8192, by omega⟩ (k + (1024 * i + s.val) % 8192) e := by
  simp only [rows_at, Cert.Ffn.up]
  by_cases hz : 6 + k + s.val < 8 ∧ i % 8 = 0
  · rw [dif_neg (by omega)]
    refine Finset.sum_eq_zero fun x _ => ?_
    rw [if_pos hz, zero_mul]
  · rw [dif_pos (by omega)]
    refine Finset.sum_congr rfl fun x _ => ?_
    rw [if_neg hz, flat_of_lt _ _ (by omega)]
    have e1 : (⟨(1024 * i + (6 + k + s.val) - 8) / 8192, by omega⟩ : Fin 2) = ⟨(1024 * i + s.val) / 8192, by omega⟩ := Fin.ext (by show _ = _; dsimp only; omega)
    have e2 : (⟨(1024 * i + (6 + k + s.val) - 8) % 8192, by omega⟩ : Fin 8192) = ⟨k + (1024 * i + s.val) % 8192 - 2, by omega⟩ := Fin.ext (by show _ = _; dsimp only; omega)
    rw [e1, e2]

end Cert.Kernel2Ideal.Ffn

end
-- ==== Proof.FfnValue.lean ====
/- The second call's result: what each grid point leaves in its output block and in the carried window of rows, summed
   over the eleven chunks of a block, is the feed-forward layer's result. -/
module

public import proofs.«01_k».proof.Proof.FfnTile
public import proofs.«01_k».proof.Proof.Gen.Kernel2Ideal.Value
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe

variable (m : (ℓ : Loc nD τ sig) → Buf (Elt Ideal) ℓ) (c : Dev nD)

/-! ## The window of rows that the first point of a block stores -/

theorem window_eq (t : Fin cfg0.N) :
    View.canon (Val := Elt Ideal) (s := S1032x2048) (e := .bf16)
      [⟨Rect.unit ![8, 0] ![1024, 2048] inb_S1032x2048_S1024x2048_8_0, k0_pay4 (F := Ideal) (iblk m c 0 t)⟩,
        ⟨Rect.unit ![0, 0] ![8, 2048] inb_S1032x2048_S8x2048_0_0, k0_pay2 (F := Ideal) (grid0.coords t) (iblk m c 1 t)⟩] =
      rows (argH m c) (t.val / 11) := by
  funext j
  obtain ⟨p, x, rfl⟩ : ∃ (p : Fin 1032) (x : Fin 2048), j = ix2 p x := ⟨j 0, j 1, eq_ix2 j⟩
  rw [rows_at]
  by_cases hp : p.val < 8
  · have hj : (ix2 p x : S1032x2048.Idx) =
        (Rect.unit (s := S1032x2048) ![0, 0] ![8, 2048] inb_S1032x2048_S8x2048_0_0).emb (ix2 ⟨p.val, hp⟩ x) := by
      funext a; apply Fin.ext; match a with
      | ⟨0, _⟩ => simp [Rect.emb, Rect.unit]
      | ⟨1, _⟩ => simp [Rect.emb, Rect.unit]
    rw [View.canon_cons_of_not_mem _ _ (by
      intro h
      have h8 : (8 : ℕ) ≤ p.val := ((Rect.mem_set_unit (inb := inb_S1032x2048_S1024x2048_8_0)).1 h 0).1
      omega), hj, View.canon_cons_emb, pay2_at, coord0]
    by_cases hi : t.val / 11 % 8 = 0
    · rw [if_pos hi, if_pos ⟨hp, hi⟩]
    · rw [if_neg hi, if_neg (fun h => hi h.2), blk1 m c t hi]
  · have hj : (ix2 p x : S1032x2048.Idx) =
        (Rect.unit (s := S1032x2048) ![8, 0] ![1024, 2048] inb_S1032x2048_S1024x2048_8_0).emb (ix2 ⟨p.val - 8, by omega⟩ x) := by
      funext a; apply Fin.ext; match a with
      | ⟨0, _⟩ => simp [Rect.emb, Rect.unit]; omega
      | ⟨1, _⟩ => simp [Rect.emb, Rect.unit]
    rw [hj, View.canon_cons_emb, pay4_at, blk0, if_neg (fun h => hp h.1)]
    congr 1
    show 1024 * (t.val / 11) + (p.val - 8) = _
    omega

theorem window_read (t : Fin cfg0.N) :
    (View.whole cc0_scratch0).readCov (Val := Elt Ideal)
      [⟨Rect.unit ![8, 0] ![1024, 2048] inb_S1032x2048_S1024x2048_8_0, k0_pay4 (F := Ideal) (iblk m c 0 t)⟩,
        ⟨Rect.unit ![0, 0] ![8, 2048] inb_S1032x2048_S8x2048_0_0, k0_pay2 (F := Ideal) (grid0.coords t) (iblk m c 1 t)⟩]
      (Rect.unit ![0, 0] ![1032, 2048] inb_S1032x2048_S1032x2048_0_0).toLoadRect =
      rows (argH m c) (t.val / 11) := by
  rw [View.readCov_eq_canon', window_eq]
  exact View.ld_unit_lit _ _ (by decide)

/-! ## One point's contribution -/

theorem tap_at (v : Vec Ideal S3x512 .f32) (f : Fin 512) :
    View.ld (Val := Elt Ideal) (e' := .f32) v (Rect.unit ![0, 0] ![1, 512] inb_S3x512_S1x512_0_0) (ix2 0 f) = v (ix2 0 f)
    ∧ View.ld (Val := Elt Ideal) (e' := .f32) v (Rect.unit ![1, 0] ![1, 512] inb_S3x512_S1x512_1_0) (ix2 0 f) = v (ix2 1 f)
    ∧ View.ld (Val := Elt Ideal) (e' := .f32) v (Rect.unit ![2, 0] ![1, 512] inb_S3x512_S1x512_2_0) (ix2 0 f) = v (ix2 2 f) := by
  refine ⟨?_, ?_, ?_⟩ <;> pointwise

theorem row_up (t : Fin cfg0.N) (w : Vec Ideal S2048x512 .bf16) (f : Fin 512) (e : Fin 11264)
    (hw : ∀ x, w (ix2 x f) = argU m c x e) (s : Fin 1024) (k : ℕ) (hk : k < 3) :
    prod (rows (argH m c) (t.val / 11)) w ⟨6 + k + s.val, by omega⟩ f =
      Cert.Ffn.up (argH m c) (argU m c) ⟨(1024 * (t.val / 11) + s.val) / 8192, by have := points t; omega⟩
        (k + (1024 * (t.val / 11) + s.val) % 8192) e := by
  simp only [prod, hw]
  exact rows_up (argH m c) (argU m c) (t.val / 11) (by have := points t; omega) s k hk e

theorem taps_at (t : Fin cfg0.N) (w : Vec Ideal S2048x512 .bf16) (b : Vec Ideal S1x512 .f32) (v : Vec Ideal S3x512 .f32) (f : Fin 512)
    (e : Fin 11264) (hw : ∀ x, w (ix2 x f) = argU m c x e) (hb : b (ix2 0 f) = argB m c e) (hv : ∀ k, v (ix2 k f) = argC m c k e)
    (s : Fin 1024) :
    taps (rows (argH m c) (t.val / 11)) w b
        (View.ld (Val := Elt Ideal) (e' := .f32) v (Rect.unit ![0, 0] ![1, 512] inb_S3x512_S1x512_0_0))
        (View.ld (Val := Elt Ideal) (e' := .f32) v (Rect.unit ![1, 0] ![1, 512] inb_S3x512_S1x512_1_0))
        (View.ld (Val := Elt Ideal) (e' := .f32) v (Rect.unit ![2, 0] ![1, 512] inb_S3x512_S1x512_2_0)) s f =
      Cert.Ffn.conv (argH m c) (argU m c) (argC m c) (argB m c) ⟨(1024 * (t.val / 11) + s.val) / 8192, by have := points t; omega⟩
        ((1024 * (t.val / 11) + s.val) % 8192) e := by
  have h0 := row_up m c t w f e hw s 0 (by omega)
  have h1 := row_up m c t w f e hw s 1 (by omega)
  have h2 := row_up m c t w f e hw s 2 (by omega)
  rw [zero_add] at h0
  obtain ⟨v0, v1, v2⟩ := tap_at v f
  unfold taps Cert.Ffn.conv
  rw [v0, v1, v2, hb, hv, hv, hv]
  exact congrArg₂ (· + ·) (congrArg₂ (· + ·) (congrArg₂ (· + ·) rfl (congrArg (· * _) h0)) (congrArg (· * _) h1)) (congrArg (· * _) h2)

/-- The part of a row's second product that chunk `k` of block `i` adds. -/
def chunk (i k : ℕ) (j : S1024x2048.Idx) : EReal :=
  if hr : 1024 * i + (j 0).val < 16384 then
    ∑ x : Fin 512, if h : 512 * k + x.val < 5632 then
      Cert.Ffn.act (argH m c) (argU m c) (argC m c) (argB m c) ⟨(1024 * i + (j 0).val) / 8192, by omega⟩ ((1024 * i + (j 0).val) % 8192)
        ⟨512 * k + x.val, h⟩ * argD m c ⟨512 * k + x.val, h⟩ (j 1) else 0
  else 0

theorem point (t : Fin cfg0.N) (o : Vec Ideal S1024x2048 .f32) :
    k0_pay8 (F := Ideal) (rows (argH m c) (t.val / 11))
      (k0_pay6 (rows (argH m c) (t.val / 11)) (iblk m c 2 t) (iblk m c 6 t)
        (View.ld (iblk m c 4 t) (Rect.unit ![0, 0] ![1, 512] inb_S3x512_S1x512_0_0))
        (View.ld (iblk m c 4 t) (Rect.unit ![1, 0] ![1, 512] inb_S3x512_S1x512_1_0))
        (View.ld (iblk m c 4 t) (Rect.unit ![2, 0] ![1, 512] inb_S3x512_S1x512_2_0)))
      (k0_pay7 (rows (argH m c) (t.val / 11)) (iblk m c 2 t) (iblk m c 6 t)
        (View.ld (iblk m c 4 t) (Rect.unit ![0, 0] ![1, 512] inb_S3x512_S1x512_0_0))
        (View.ld (iblk m c 4 t) (Rect.unit ![1, 0] ![1, 512] inb_S3x512_S1x512_1_0))
        (View.ld (iblk m c 4 t) (Rect.unit ![2, 0] ![1, 512] inb_S3x512_S1x512_2_0)))
      (iblk m c 3 t) (iblk m c 7 t) (View.ld (iblk m c 5 t) (Rect.unit ![0, 0] ![1, 512] inb_S3x512_S1x512_0_0))
      (View.ld (iblk m c 5 t) (Rect.unit ![1, 0] ![1, 512] inb_S3x512_S1x512_1_0))
      (View.ld (iblk m c 5 t) (Rect.unit ![2, 0] ![1, 512] inb_S3x512_S1x512_2_0)) o (iblk m c 8 t) =
    fun j => o j + chunk m c (t.val / 11) (t.val % 11) j := by
  have ht := points t
  funext j
  obtain ⟨s, e, rfl⟩ : ∃ (s : Fin 1024) (e : Fin 2048), j = ix2 s e := ⟨j 0, j 1, eq_ix2 j⟩
  rw [pay8_at]
  have hr : 1024 * (t.val / 11) + s.val < 16384 := by omega
  have hc : chunk m c (t.val / 11) (t.val % 11) (ix2 s e) = ∑ x : Fin 512, if h : 512 * (t.val % 11) + x.val < 5632 then
      Cert.Ffn.act (argH m c) (argU m c) (argC m c) (argB m c) ⟨(1024 * (t.val / 11) + s.val) / 8192, by omega⟩
        ((1024 * (t.val / 11) + s.val) % 8192) ⟨512 * (t.val % 11) + x.val, h⟩ * argD m c ⟨512 * (t.val % 11) + x.val, h⟩ e
      else 0 := dif_pos hr
  rw [hc]
  refine congrArg _ (Finset.sum_congr rfl fun f _ => ?_)
  have hf : 512 * (t.val % 11) + f.val < 5632 := by omega
  refine .trans ?_ (dif_pos hf).symm
  exact congrArg₂ (· * ·) (congrArg₂ Cert.Ffn.glu
    (taps_at m c t (iblk m c 2 t) (iblk m c 6 t) (iblk m c 4 t) f ⟨512 * (t.val % 11) + f.val, by omega⟩
      (fun x => blk2 m c t x f) (blk6 m c t f) (fun k => blk4 m c t k f) s)
    (taps_at m c t (iblk m c 3 t) (iblk m c 7 t) (iblk m c 5 t) f ⟨5632 + (512 * (t.val % 11) + f.val), by omega⟩
      (fun x => blk3 m c t x f) (blk7 m c t f) (fun k => blk5 m c t k f) s)) (blk8 m c t f e)

/-! ## The points, one after the other -/

theorem first (t : Fin cfg0.N) (h0 : t.val % 11 = 0) :
    (outsAt0 m c t.val t.isLt).1 = (fun j => k0_pay5 (F := Ideal) (iblk m c 0 t) j + chunk m c (t.val / 11) (t.val % 11) j)
    ∧ (outsAt0 m c t.val t.isLt).2 = rows (argH m c) (t.val / 11) := by
  constructor
  · rw [Gen.outsAt0_A m c t h0 (by omega)]
    frame_out
    rw [window_read]
    exact point m c t _
  · rw [Gen.outsAt0_A m c t h0 (by omega)]
    frame_out
    exact window_eq m c t

theorem kept (t : Fin cfg0.N) (h0 : ¬t.val % 11 = 0) :
    (outsAt0 m c t.val t.isLt).2 = (outsAt0 m c (t.val - 1) (Nat.lt_of_le_of_lt (Nat.sub_le _ _) t.isLt)).2 := by
  by_cases h1 : t.val % 11 = 10
  · rw [Gen.outsAt0_C m c t h0 h1]; rfl
  · rw [Gen.outsAt0_B m c t h0 h1]; rfl

/-- The carried window is the block's rows after every point. -/
theorem window (n : ℕ) : ∀ h : n < cfg0.N, (outsAt0 m c n h).2 = rows (argH m c) (n / 11) := by
  induction n with
  | zero => exact fun h => (first m c ⟨0, h⟩ (Nat.zero_mod _)).2
  | succ n ih =>
    intro h
    by_cases h0 : (n + 1) % 11 = 0
    · exact (first m c ⟨n + 1, h⟩ h0).2
    · refine (kept m c ⟨n + 1, h⟩ h0).trans ((ih (Nat.lt_of_succ_lt h)).trans ?_)
      rw [show n / 11 = (n + 1) / 11 by omega]

theorem before (t : Fin cfg0.N) (h0 : ¬t.val % 11 = 0) :
    (outsAt0 m c (t.val - 1) (Nat.lt_of_le_of_lt (Nat.sub_le _ _) t.isLt)).2 = rows (argH m c) (t.val / 11) := by
  rw [window, show (t.val - 1) / 11 = t.val / 11 by omega]

theorem middle (t : Fin cfg0.N) (h0 : ¬t.val % 11 = 0) (h1 : ¬t.val % 11 = 10) :
    (outsAt0 m c t.val t.isLt).1 = fun j =>
      (outsAt0 m c (t.val - 1) (Nat.lt_of_le_of_lt (Nat.sub_le _ _) t.isLt)).1 j + chunk m c (t.val / 11) (t.val % 11) j := by
  rw [Gen.outsAt0_B m c t h0 h1]
  frame_out
  simp only [read_unread_whole, before m c t h0]
  exact point m c t _

theorem last (t : Fin cfg0.N) (h1 : t.val % 11 = 10) :
    (outsAt0 m c t.val t.isLt).1 = k0_pay1 (F := Ideal) (fun j =>
      (outsAt0 m c (t.val - 1) (Nat.lt_of_le_of_lt (Nat.sub_le _ _) t.isLt)).1 j + chunk m c (t.val / 11) (t.val % 11) j)
      (iblk m c 9 t) (iblk m c 10 t) := by
  have h0 : ¬t.val % 11 = 0 := by omega
  rw [Gen.outsAt0_C m c t h0 h1]
  frame_out
  simp only [read_unread_whole, before m c t h0]
  exact congrArg (fun z => k0_pay1 (F := Ideal) z (iblk m c 9 t) (iblk m c 10 t)) (point m c t _)

/-! ## The block's sum -/

/-- The output block after point `n`, the last point's layer norm left out. -/
def sumTo (n : ℕ) (h : n < cfg0.N) : Vec Ideal S1024x2048 .f32 :=
  if n % 11 = 10 then fun j => (outsAt0 m c (n - 1) (Nat.lt_of_le_of_lt (Nat.sub_le _ _) h)).1 j + chunk m c (n / 11) (n % 11) j
  else (outsAt0 m c n h).1

theorem sumTo_eq (t : Fin cfg0.N) (j : S1024x2048.Idx) :
    sumTo m c t.val t.isLt j = (fun _ => (0 : EReal)) j + ∑ k ∈ Finset.range (t.val % 11 + 1),
      ((if k = 0 then Ideal.ofBits .f32 0x3F9837F0#32 * flat (argH m c) (1024 * (t.val / 11) + (j 0).val) (j 1) else 0)
        + chunk m c (t.val / 11) k j) := by
  refine Pipeline.eq_sum_of_reset_step_apply_divmod (M := EReal) (ι := S1024x2048.Idx) (fun n h => sumTo m c n h) 11 (fun _ => (0 : EReal))
    (fun i k j => (if k = 0 then Ideal.ofBits .f32 0x3F9837F0#32 * flat (argH m c) (1024 * i + (j 0).val) (j 1) else 0) + chunk m c i k j)
    (fun t h j => ?_) (fun t h j => ?_) t j
  · simp only [sumTo]
    rw [if_neg (by omega), (first m c t h).1, zero_add, if_pos h]
    obtain ⟨s, e, rfl⟩ : ∃ (s : Fin 1024) (e : Fin 2048), j = ix2 s e := ⟨j 0, j 1, eq_ix2 j⟩
    exact congrArg₂ (· + ·) ((pay5_at _ s e).trans (congrArg _ (blk0 m c t s e))) rfl
  · simp only [sumTo]
    rw [if_neg (show ¬(t.val - 1) % 11 = 10 by omega), if_neg h, zero_add]
    by_cases h1 : t.val % 11 = 10
    · rw [if_pos h1]
    · rw [if_neg h1, middle m c t h h1]

/-- A block's rows before their layer norm are the layer's. -/
theorem sumTo_last (t : Fin cfg0.N) (h1 : t.val % 11 = 10) (s : Fin 1024) (e : Fin 2048) :
    sumTo m c t.val t.isLt (ix2 s e) = Cert.Ffn.mixed (argH m c) (argU m c) (argC m c) (argB m c) (argD m c)
      ⟨(1024 * (t.val / 11) + s.val) / 8192, by have := points t; omega⟩ ⟨(1024 * (t.val / 11) + s.val) % 8192, Nat.mod_lt _ (by decide)⟩ e := by
  have ht := points t
  have hr : 1024 * (t.val / 11) + s.val < 16384 := by omega
  rw [sumTo_eq, h1, zero_add, Finset.sum_add_distrib, Finset.sum_ite_eq' (Finset.range (10 + 1)) 0, if_pos (by decide)]
  unfold Cert.Ffn.mixed
  rw [Cert.Ffn.sum_chunks]
  refine congrArg₂ (· + ·) (congrArg _ (flat_of_lt _ _ hr _)) (Finset.sum_congr rfl fun k _ => ?_)
  exact dif_pos hr

/-- What the last point of a block leaves. -/
theorem last_at (t : Fin cfg0.N) (h1 : t.val % 11 = 10) (s : Fin 1024) (e : Fin 2048) (r : Fin 16384) (hr : r.val = 1024 * (t.val / 11) + s.val) :
    (outsAt0 m c t.val t.isLt).1 (ix2 s e) =
      Cert.Ffn.out (argH m c) (argU m c) (argC m c) (argB m c) (argD m c) (argG m c) (argS m c) r e := by
  have h : (fun j => (outsAt0 m c (t.val - 1) (Nat.lt_of_le_of_lt (Nat.sub_le _ _) t.isLt)).1 j + chunk m c (t.val / 11) (t.val % 11) j) =
      sumTo m c t.val t.isLt := (if_pos h1).symm
  rw [last m c t h1, h, pay1_at, blk9, blk10]
  simp only [sumTo_last m c t h1, Cert.Ffn.out, hr]

/-- The call's result at an index. -/
theorem result_at (r : Fin 16384) (e : Fin 2048) : Value.G11 m c (ix2 r e) =
    Cert.Ffn.out (argH m c) (argU m c) (argC m c) (argB m c) (argD m c) (argG m c) (argS m c) r e := by
  have hN : cfg0.N = 176 := N_0
  have hp : Value.pt11Of (ix2 r e) = 11 * (r.val / 1024) + 10 := by
    have he : e.val / 2048 = 0 := Nat.div_eq_of_lt e.isLt
    show 11 * (1 * (r.val / 1024 - 0) + 1 * (e.val / 2048 - 0)) + 10 = _
    rw [he]; omega
  have hlt : Value.pt11Of (ix2 r e) < cfg0.N := by rw [hp, hN]; omega
  unfold Value.G11
  rw [dif_pos hlt, ← Value.outsAt0_sweep m c _ hlt]
  have hl : Value.loc11Of (ix2 r e) = ix2 ⟨r.val % 1024, Nat.mod_lt _ (by decide)⟩ e := by
    funext a; apply Fin.ext; match a with
    | ⟨0, _⟩ => rfl
    | ⟨1, _⟩ => exact Nat.mod_eq_of_lt e.isLt
  rw [hl]
  refine last_at m c ⟨_, hlt⟩ ?_ _ e r ?_
  · show Value.pt11Of (ix2 r e) % 11 = 10
    rw [hp]; omega
  · show r.val = 1024 * (Value.pt11Of (ix2 r e) / 11) + r.val % 1024
    rw [hp]; omega

end Cert.Kernel2Ideal.Ffn

end
-- ==== Proof.OutSpec.lean ====
/- The out-projection with its residual and layer norm as functions of numbers: the three mixers' outputs side by side, times the
   weights. -/
module

public import proofs.«01_k».proof.Proof.FfnSpec

@[expose] public section

noncomputable section

namespace Cert.OutProj

open Idealize.ShloMosaic

/-- Row `q` of sequence `b` before its layer norm. -/
def mixed (h : Fin 2 → Fin 8192 → Fin 2048 → EReal) (l : Fin 2 → Fin 8192 → Fin 1024 → EReal) (n o : Fin 2 → Fin 8192 → Fin 512 → EReal)
    (w : Fin 2048 → Fin 2048 → EReal) (b : Fin 2) (q : Fin 8192) (e : Fin 2048) : EReal :=
  Ideal.ofBits .f32 0x3F9837F0#32 * h b q e + (∑ a : Fin 1024, l b q a * w ⟨a.val, by omega⟩ e
    + ∑ a : Fin 512, n b q a * w ⟨1024 + a.val, by omega⟩ e + ∑ a : Fin 512, o b q a * w ⟨1536 + a.val, by omega⟩ e)

/-- The layer's result at row `r` of all the sequences' rows. -/
def out (h : Fin 2 → Fin 8192 → Fin 2048 → EReal) (l : Fin 2 → Fin 8192 → Fin 1024 → EReal) (n o : Fin 2 → Fin 8192 → Fin 512 → EReal)
    (w : Fin 2048 → Fin 2048 → EReal) (g d : Fin 2048 → EReal) (r : Fin 16384) (e : Fin 2048) : EReal :=
  Cert.Ffn.norm (mixed h l n o w ⟨r.val / 8192, by omega⟩ ⟨r.val % 8192, Nat.mod_lt _ (by decide)⟩) (g e) (d e) e

/-- A sum over all the columns, taken as the sums over the first 1024, the next 512 and the last 512. -/
theorem sum_split (f : Fin 2048 → EReal) : ∑ x, f x = ∑ a : Fin 1024, f ⟨a.val, by omega⟩
    + ∑ a : Fin 512, f ⟨1024 + a.val, by omega⟩ + ∑ a : Fin 512, f ⟨1536 + a.val, by omega⟩ :=
  (Fin.sum_univ_add (a := 1536) (b := 512) f).trans (congrArg (· + _) (Fin.sum_univ_add (a := 1024) (b := 512) fun x => f (Fin.castAdd 512 x)))

end Cert.OutProj
end
-- ==== Proof.OutRef.lean ====
/- The out-projection's reference read at an index: it is the layer of OutSpec. -/
module

public import proofs.«01_k».proof.Proof.Gen.Reference3Ideal.Run
public import proofs.«01_k».proof.Proof.OutSpec

@[expose] public section

set_option maxRecDepth 16384

noncomputable section

namespace Cert.Reference3Ideal.Out

open Cert.Reference3Ideal Cert.Reference3Ideal.Gen Idealize.ShloMosaic

/-- The three mixers' outputs side by side. -/
def joined (l : Vec Ideal S2x8192x1024 .f32) (n o : Vec Ideal S2x8192x512 .f32) : Vec Ideal S2x8192x2048 .f32 :=
  concatenate (α := Elt Ideal .f32) S2x8192x2048 2 [⟨S2x8192x1024, l⟩, ⟨S2x8192x512, n⟩, ⟨S2x8192x512, o⟩]
    concatenates_S2x8192x1024_S2x8192x512_S2x8192x512_S2x8192x2048_d2

section
variable (l : Vec Ideal S2x8192x1024 .f32) (n o : Vec Ideal S2x8192x512 .f32)

theorem joined_first (b : Fin 2) (q : Fin 8192) (a : Fin 1024) : joined l n o (ix3 b q ⟨a.val, by omega⟩) = l (ix3 b q a) := by
  pointwise [joined]

theorem joined_second (b : Fin 2) (q : Fin 8192) (a : Fin 512) : joined l n o (ix3 b q ⟨1024 + a.val, by omega⟩) = n (ix3 b q a) := by
  pointwise [joined]

theorem joined_third (b : Fin 2) (q : Fin 8192) (a : Fin 512) : joined l n o (ix3 b q ⟨1536 + a.val, by omega⟩) = o (ix3 b q a) := by
  pointwise [joined]
  rw [dif_neg (by omega), dif_neg (by omega)]
  exact congrArg (fun x => o (ix3 b q x)) (Fin.ext (by show 1536 + a.val - 1024 - 512 = a.val; omega))

end

/-- The result at an index, over the joined outputs. -/
theorem result_joined (m : (ℓ : Loc nD τ sig) → Buf (Elt Ideal) ℓ) (c : Dev nD) (r : Fin 16384) (e : Fin 2048) :
    Value.res_main_v29 m c (ix2 r e) =
      Cert.Ffn.norm (fun x => Ideal.ofBits .f32 0x3F9837F0#32 * m ((c.tc : Thread nD τ).loc main_arg0) (ix3 ⟨r.val / 8192, by omega⟩ ⟨r.val % 8192, Nat.mod_lt _ (by decide)⟩ x)
        + ∑ a, joined (m ((c.tc : Thread nD τ).loc main_arg1)) (m ((c.tc : Thread nD τ).loc main_arg2)) (m ((c.tc : Thread nD τ).loc main_arg3))
            (ix3 ⟨r.val / 8192, by omega⟩ ⟨r.val % 8192, Nat.mod_lt _ (by decide)⟩ a) * m ((c.tc : Thread nD τ).loc main_arg4) (ix2 a x))
        (m ((c.tc : Thread nD τ).loc main_arg5) (ix1 e)) (m ((c.tc : Thread nD τ).loc main_arg6) (ix1 e)) e := by
  unfold Value.res_main_v29
  generalize hJ : (concatenate (α := Elt Ideal .f32) S2x8192x2048 2 _ _ : Vec Ideal S2x8192x2048 .f32) = J
  pointwise
  subst hJ
  rfl

theorem result_at (m : (ℓ : Loc nD τ sig) → Buf (Elt Ideal) ℓ) (c : Dev nD) (r : Fin 16384) (e : Fin 2048) :
    Value.res_main_v29 m c (ix2 r e) =
      Cert.OutProj.out (fun b q x => m ((c.tc : Thread nD τ).loc main_arg0) (ix3 b q x)) (fun b q x => m ((c.tc : Thread nD τ).loc main_arg1) (ix3 b q x)) (fun b q x => m ((c.tc : Thread nD τ).loc main_arg2) (ix3 b q x))
        (fun b q x => m ((c.tc : Thread nD τ).loc main_arg3) (ix3 b q x)) (fun x e => m ((c.tc : Thread nD τ).loc main_arg4) (ix2 x e)) (fun e => m ((c.tc : Thread nD τ).loc main_arg5) (ix1 e)) (fun e => m ((c.tc : Thread nD τ).loc main_arg6) (ix1 e)) r e := by
  rw [result_joined]
  unfold Cert.OutProj.out Cert.OutProj.mixed
  simp only [Cert.OutProj.sum_split, joined_first, joined_second, joined_third]

end Cert.Reference3Ideal.Out
end
-- ==== Proof.OutTile.lean ====
module

public import proofs.«01_k».proof.Proof.Gen.Kernel3Ideal.Value
public import proofs.«01_k».proof.Proof.FfnSpec
public import Idealize.ShloMosaic.Lib.Pipeline.ValueKit
public import Idealize.ShloMosaic.Lib.Pipeline.Value
public import Idealize.ShloMosaic.Lib.Claim

@[expose] public section

set_option maxRecDepth 16384

noncomputable section

namespace Cert.Kernel3Ideal.Out

open Cert.Kernel3Ideal Cert.Kernel3Ideal.Gen Idealize.ShloMosaic Idealize.ShloMosaic.TcCoe

section Tile
variable (x0 : Vec Ideal S1024x2048 .f32) (x1 : Vec Ideal S1024x1024 .bf16) (x2 x3 : Vec Ideal S512x1024 .bf16)
  (x4 : Vec Ideal S2048x2048 .bf16) (x5 x6 : Vec Ideal S1x2048 .f32)

/-- A row of the tile before its layer norm. -/
def row (s : Fin 1024) (e : Fin 2048) : EReal :=
  Ideal.ofBits .f32 0x3F9837F0#32 * x0 (ix2 s e) + (∑ a : Fin 1024, x1 (ix2 s a) * x4 (ix2 ⟨a.val, by omega⟩ e)
    + ∑ a : Fin 512, x2 (ix2 a s) * x4 (ix2 ⟨1024 + a.val, by omega⟩ e) + ∑ a : Fin 512, x3 (ix2 a s) * x4 (ix2 ⟨1536 + a.val, by omega⟩ e))

def tile : Vec Ideal S1024x2048 .f32 := fun j => Cert.Ffn.norm (row x0 x1 x2 x3 x4 (j 0)) (x5 (ix2 0 (j 1))) (x6 (ix2 0 (j 1))) (j 1)

theorem part0 (p : Fin 256) (e : Fin 2048) :
    k0_pay6 (k0_pay2 (View.ld x5 r0_6)) (k0_pay3 (View.ld x6 r0_6))
      (k0_pay4 (View.ld x1 r0_0) (View.ld x4 r0_1) (View.ld x2 r0_2) (View.ld x4 r0_3) (View.ld x3 r0_2) (View.ld x4 r0_4) (View.ld x0 r0_5))
      (k0_pay5 (View.ld x1 r0_0) (View.ld x4 r0_1) (View.ld x2 r0_2) (View.ld x4 r0_3) (View.ld x3 r0_2) (View.ld x4 r0_4) (View.ld x0 r0_5)) (ix2 p e) =
      Cert.Ffn.norm (row x0 x1 x2 x3 x4 ⟨p.val, by omega⟩) (x5 (ix2 0 e)) (x6 (ix2 0 e)) e := by
  pointwise [r0_6, r0_4, r0_3, r0_1, r0_0, r0_2, r0_5, k0_pay6, k0_pay2, k0_pay3, k0_pay4, k0_pay5]
  rfl

theorem part1 (p : Fin 256) (e : Fin 2048) :
    k0_pay8 (k0_pay7 (View.ld x1 r0_7) (View.ld x4 r0_1) (View.ld x2 r0_8) (View.ld x4 r0_3) (View.ld x3 r0_8) (View.ld x4 r0_4) (View.ld x0 r0_9))
      (View.ld x5 r0_6) (View.ld x6 r0_6) (ix2 p e) =
      Cert.Ffn.norm (row x0 x1 x2 x3 x4 ⟨256 + p.val, by omega⟩) (x5 (ix2 0 e)) (x6 (ix2 0 e)) e := by
  pointwise [r0_6, r0_4, r0_3, r0_1, r0_7, r0_8, r0_9, k0_pay8, k0_pay7]
  rfl

theorem part2 (p : Fin 256) (e : Fin 2048) :
    k0_pay11 (k0_pay9 (View.ld x1 r0_10) (View.ld x4 r0_1) (View.ld x2 r0_11) (View.ld x4 r0_3))
      (k0_pay10 (View.ld x3 r0_11)) (View.ld x4 r0_4) (View.ld x0 r0_12) (View.ld x5 r0_6) (View.ld x6 r0_6) (ix2 p e) =
      Cert.Ffn.norm (row x0 x1 x2 x3 x4 ⟨512 + p.val, by omega⟩) (x5 (ix2 0 e)) (x6 (ix2 0 e)) e := by
  pointwise [r0_6, r0_4, r0_3, r0_1, r0_10, r0_11, r0_12, k0_pay11, k0_pay10, k0_pay9]
  rfl

theorem part3 (p : Fin 256) (e : Fin 2048) :
    k0_pay1 (k0_pay14 (View.ld x5 r0_6)) (k0_pay15 (View.ld x6 r0_6))
      (k0_pay16 (k0_pay18 x0 x1 x2 x3 x4 x5 x6) (k0_pay19 x0 x1 x2 x3 x4 x5 x6) (View.ld x2 r0_14) (View.ld x4 r0_3)
        (View.ld x3 r0_14) (View.ld x4 r0_4) (View.ld x0 r0_15))
      (k0_pay17 (k0_pay18 x0 x1 x2 x3 x4 x5 x6) (k0_pay19 x0 x1 x2 x3 x4 x5 x6) (View.ld x2 r0_14) (View.ld x4 r0_3)
        (View.ld x3 r0_14) (View.ld x4 r0_4) (View.ld x0 r0_15)) (ix2 p e) =
      Cert.Ffn.norm (row x0 x1 x2 x3 x4 ⟨768 + p.val, by omega⟩) (x5 (ix2 0 e)) (x6 (ix2 0 e)) e := by
  pointwise [r0_6, r0_4, r0_3, r0_1, r0_13, r0_14, r0_15, k0_pay1, k0_pay14, k0_pay15, k0_pay16, k0_pay17, k0_pay18, k0_pay19, k0_pay12, k0_pay13]
  rfl

theorem out_eq : out0_7 x0 x1 x2 x3 x4 x5 x6 = tile x0 x1 x2 x3 x4 x5 x6 := by
  funext y
  refine View.canon_apply_of_pieces (tile x0 x1 x2 x3 x4 x5 x6) _ ?_ y (cover0_7 _ _ _ _ y)
  simp only [List.mem_cons, List.not_mem_nil, or_false, forall_eq_or_imp, forall_eq]
  refine ⟨fun x => ?_, fun x => ?_, fun x => ?_, fun x => ?_⟩ <;>
    obtain ⟨p, e, rfl⟩ : ∃ (p : Fin 256) (e : Fin 2048), x = ix2 p e := ⟨x 0, x 1, eq_ix2 x⟩
  · refine (part3 x0 x1 x2 x3 x4 x5 x6 p e).trans ?_
    have h : r0_15.emb (ix2 p e) = ix2 ⟨768 + p.val, by omega⟩ e := by
      funext a
      apply Fin.ext
      match a with
      | ⟨0, _⟩ => show 768 + 1 * p.val = 768 + p.val; omega
      | ⟨1, _⟩ => show 0 + 1 * e.val = e.val; omega
    rw [h]; rfl
  · refine (part2 x0 x1 x2 x3 x4 x5 x6 p e).trans ?_
    have h : r0_12.emb (ix2 p e) = ix2 ⟨512 + p.val, by omega⟩ e := by
      funext a
      apply Fin.ext
      match a with
      | ⟨0, _⟩ => show 512 + 1 * p.val = 512 + p.val; omega
      | ⟨1, _⟩ => show 0 + 1 * e.val = e.val; omega
    rw [h]; rfl
  · refine (part1 x0 x1 x2 x3 x4 x5 x6 p e).trans ?_
    have h : r0_9.emb (ix2 p e) = ix2 ⟨256 + p.val, by omega⟩ e := by
      funext a
      apply Fin.ext
      match a with
      | ⟨0, _⟩ => show 256 + 1 * p.val = 256 + p.val; omega
      | ⟨1, _⟩ => show 0 + 1 * e.val = e.val; omega
    rw [h]; rfl
  · refine (part0 x0 x1 x2 x3 x4 x5 x6 p e).trans ?_
    have h : r0_5.emb (ix2 p e) = ix2 ⟨p.val, by omega⟩ e := by
      funext a
      apply Fin.ext
      match a with
      | ⟨0, _⟩ => show 0 + 1 * p.val = p.val; omega
      | ⟨1, _⟩ => show 0 + 1 * e.val = e.val; omega
    rw [h]; rfl

end Tile
end Cert.Kernel3Ideal.Out
end
-- ==== Proof.OutValue.lean ====
/- The out-projection call's result at an index is the layer of OutSpec. -/
module

public import proofs.«01_k».proof.Proof.OutTile
public import proofs.«01_k».proof.Proof.OutSpec

@[expose] public section

set_option maxRecDepth 16384

noncomputable section

namespace Cert.Kernel3Ideal.Out

open Cert.Kernel3Ideal Cert.Kernel3Ideal.Gen Idealize.ShloMosaic Idealize.ShloMosaic.TcCoe Idealize.SL.Sem

theorem idx : ∀ t : Fin cfg0.N, win0_0.index t = ![t.val, 0] ∧ win0_1.index t = ![t.val, 0] ∧ win0_2.index t = ![0, t.val]
    ∧ win0_3.index t = ![0, t.val] ∧ win0_4.index t = ![0, 0] ∧ win0_5.index t = ![0, 0] ∧ win0_6.index t = ![0, 0] :=
  (by decide +kernel : ∀ t : Fin grid0.N, _)

theorem idx_out : ∀ t : Fin cfg0.N, win0_7.index t (0 : Fin 2) = t.val ∧ win0_7.index t (1 : Fin 2) = 0 :=
  (by decide +kernel : ∀ t : Fin grid0.N, _)

theorem points (t : Fin cfg0.N) : t.val < 16 := lt_of_lt_of_eq t.isLt (show cfg0.N = 16 from N_0)

variable (m : (ℓ : Loc nD τ sig) → Buf (Elt Ideal) ℓ) (c : Dev nD)

abbrev argH : Fin 2 → Fin 8192 → Fin 2048 → EReal := fun b q x => m ((c : Thread nD τ).loc main_arg0) (ix3 b q x)
abbrev argL : Fin 2 → Fin 8192 → Fin 1024 → EReal := fun b q x => m ((c : Thread nD τ).loc main_arg1) (ix3 b q x)
abbrev argN : Fin 2 → Fin 8192 → Fin 512 → EReal := fun b q x => m ((c : Thread nD τ).loc main_arg2) (ix3 b q x)
abbrev argO : Fin 2 → Fin 8192 → Fin 512 → EReal := fun b q x => m ((c : Thread nD τ).loc main_arg3) (ix3 b q x)
abbrev argW : Fin 2048 → Fin 2048 → EReal := fun x e => m ((c : Thread nD τ).loc main_arg4) (ix2 x e)
abbrev argG : Fin 2048 → EReal := fun e => m ((c : Thread nD τ).loc main_arg5) (ix1 e)
abbrev argS : Fin 2048 → EReal := fun e => m ((c : Thread nD τ).loc main_arg6) (ix1 e)

section Blocks
variable (t : Fin cfg0.N) (s : Fin 1024) (b : Fin 2) (q : Fin 8192) (h : b.val * 8192 + q.val = 1024 * t.val + s.val)
include h

theorem blk0 (d : Fin 2048) : iblk m c 0 t (ix2 s d) = argH m c b q d := by blk_ext! [iblk, V, idx t]
theorem blk1 (d : Fin 1024) : iblk m c 1 t (ix2 s d) = argL m c b q d := by blk_ext! [iblk, V, idx t]
theorem blk2 (d : Fin 512) : iblk m c 2 t (ix2 d s) = argN m c b q d := by blk_ext! [iblk, V, idx t]
theorem blk3 (d : Fin 512) : iblk m c 3 t (ix2 d s) = argO m c b q d := by blk_ext! [iblk, V, idx t]

end Blocks

theorem blk4 (t : Fin cfg0.N) (x e : Fin 2048) : iblk m c 4 t (ix2 x e) = argW m c x e := by blk_ext! [iblk, V, idx t]
theorem blk5 (t : Fin cfg0.N) (e : Fin 2048) : iblk m c 5 t (ix2 0 e) = argG m c e := by blk_ext! [iblk, V, idx t]
theorem blk6 (t : Fin cfg0.N) (e : Fin 2048) : iblk m c 6 t (ix2 0 e) = argS m c e := by blk_ext! [iblk, V, idx t]

theorem row_eq (t : Fin cfg0.N) (s : Fin 1024) (b : Fin 2) (q : Fin 8192) (h : b.val * 8192 + q.val = 1024 * t.val + s.val) (e : Fin 2048) :
    row (iblk m c 0 t) (iblk m c 1 t) (iblk m c 2 t) (iblk m c 3 t) (iblk m c 4 t) s e =
      Cert.OutProj.mixed (argH m c) (argL m c) (argN m c) (argO m c) (argW m c) b q e := by
  unfold row Cert.OutProj.mixed
  refine congrArg₂ (· + ·) (congrArg (_ * ·) (blk0 m c t s b q h e)) (congrArg₂ (· + ·) (congrArg₂ (· + ·)
    (Finset.sum_congr rfl fun a _ => ?_) (Finset.sum_congr rfl fun a _ => ?_)) (Finset.sum_congr rfl fun a _ => ?_))
  · exact congrArg₂ (· * ·) (blk1 m c t s b q h a) (blk4 m c t _ e)
  · exact congrArg₂ (· * ·) (blk2 m c t s b q h a) (blk4 m c t _ e)
  · exact congrArg₂ (· * ·) (blk3 m c t s b q h a) (blk4 m c t _ e)

theorem block_at (t : Fin cfg0.N) (s : Fin 1024) (e : Fin 2048) (r : Fin 16384) (hr : r.val = 1024 * t.val + s.val) :
    (dats m 0 c).flushed 7 t (ix2 s e) =
      Cert.OutProj.out (argH m c) (argL m c) (argN m c) (argO m c) (argW m c) (argG m c) (argS m c) r e := by
  rw [Value.flushed7, out_eq]
  show Cert.Ffn.norm (row (iblk m c 0 t) (iblk m c 1 t) (iblk m c 2 t) (iblk m c 3 t) (iblk m c 4 t) s)
    (iblk m c 5 t (ix2 0 e)) (iblk m c 6 t (ix2 0 e)) e = _
  rw [funext (row_eq m c t s ⟨r.val / 8192, by omega⟩ ⟨r.val % 8192, Nat.mod_lt _ (by decide)⟩ (by show r.val / 8192 * 8192 + r.val % 8192 = _; omega))]
  exact congrArg₂ (fun g d => Cert.Ffn.norm _ g d e) (blk5 m c t e) (blk6 m c t e)

theorem result_at (r : Fin 16384) (e : Fin 2048) : (dats m 0 c).arrAt 7 cfg0.N (ix2 r e) =
    Cert.OutProj.out (argH m c) (argL m c) (argN m c) (argO m c) (argW m c) (argG m c) (argS m c) r e := by
  have hN : cfg0.N = 16 := N_0
  let t : Fin cfg0.N := ⟨r.val / 1024, by omega⟩
  let s : Fin 1024 := ⟨r.val % 1024, Nat.mod_lt _ (by decide)⟩
  have hr : r.val = 1024 * t.val + s.val := by show r.val = 1024 * (r.val / 1024) + r.val % 1024; omega
  have hi : (ix2 r e : S16384x2048.Idx) = ((cfg0.win 7).blk t).view.emb (ix2 s e) := by
    funext a
    apply Fin.ext
    match a with
    | ⟨0, _⟩ => show r.val = win0_7.index t (0 : Fin 2) * 1024 + 1 * s.val; rw [(idx_out t).1]; omega
    | ⟨1, _⟩ => show e.val = win0_7.index t (1 : Fin 2) * 2048 + 1 * e.val; rw [(idx_out t).2]; omega
  rw [hi]
  exact (congrFun (Value.blocks7 m c t (flush0_7 t)) (ix2 s e)).trans (block_at m c t s e r hr)

end Cert.Kernel3Ideal.Out

end
-- ==== Proof.ProjSpec.lean ====
/- The input projection as functions of numbers: the layer norm of a row of the activations, and its product with a column of the
   weights. -/
module

public import proofs.«01_k».proof.Proof.FfnSpec

@[expose] public section

noncomputable section

namespace Cert.Proj

open Idealize.ShloMosaic

/-- The normalised activations at row `r` of all the sequences' rows. -/
def hid (x : Fin 2 → Fin 8192 → Fin 2048 → EReal) (g d : Fin 2048 → EReal) (r : Fin 16384) (e : Fin 2048) : EReal :=
  Cert.Ffn.norm (x ⟨r.val / 8192, by omega⟩ ⟨r.val % 8192, Nat.mod_lt _ (by decide)⟩) (g e) (d e) e

/-- Their product with column `j` of the weights. -/
def col (x : Fin 2 → Fin 8192 → Fin 2048 → EReal) (g d : Fin 2048 → EReal) (w : Fin 2048 → Fin 3864 → EReal) (r : Fin 16384)
    (j : Fin 3864) : EReal :=
  ∑ a, hid x g d r a * w a j

/-- The gates by key-value head, kind and query head: sixteen rows to a key-value head, the fourth kind's being zero. -/
def gate (x : Fin 2 → Fin 8192 → Fin 2048 → EReal) (g d : Fin 2048 → EReal) (w : Fin 2048 → Fin 3864 → EReal) (p : Fin 32)
    (r : Fin 16384) : EReal :=
  if h : p.val / 4 % 4 < 3 then col x g d w r ⟨3328 + (p.val / 16 * 12 + p.val % 4 * 3 + p.val / 4 % 4), by omega⟩ else 0

end Cert.Proj
end
-- ==== Proof.ProjRef.lean ====
/- The projection's reference read at an index: its results are the functions of ProjSpec. -/
module

public import proofs.«01_k».proof.Proof.Gen.Reference4Ideal.Run
public import proofs.«01_k».proof.Proof.ProjSpec

@[expose] public section

set_option maxRecDepth 16384

noncomputable section

namespace Cert.Reference4Ideal.Proj

open Cert.Reference4Ideal Cert.Reference4Ideal.Gen Idealize.ShloMosaic Idealize.ShloMosaic.TcCoe Idealize.SL.Sem

variable (m : (ℓ : Loc nD τ sig) → Buf (Elt Ideal) ℓ) (c : Dev nD)

abbrev argX : Fin 2 → Fin 8192 → Fin 2048 → EReal := fun b q x => m ((c.tc : Thread nD τ).loc main_arg0) (ix3 b q x)
abbrev argG : Fin 2048 → EReal := fun e => m ((c.tc : Thread nD τ).loc main_arg1) (ix1 e)
abbrev argD : Fin 2048 → EReal := fun e => m ((c.tc : Thread nD τ).loc main_arg2) (ix1 e)
abbrev argW : Fin 2048 → Fin 3864 → EReal := fun x e => m ((c.tc : Thread nD τ).loc main_arg3) (ix2 x e)

theorem flat_at (x : Vec Ideal S2x8192x2048 .f32) (r : Fin 16384) (d : Fin 2048) :
    shapeCast S16384x2048 x shapeCasts_S2x8192x2048_S16384x2048 (ix2 r d) =
      x (ix3 ⟨r.val / 8192, by omega⟩ ⟨r.val % 8192, Nat.mod_lt _ (by decide)⟩ d) := by
  pointwise

set_option maxHeartbeats 4000000 in
/-- Every result of the run at every index. -/
theorem run_at (ρ : Dev nD → PrngReg) :
    θ_run defs (onTc (τ := τ) (main (F := Ideal))) ⟨m, fun _ => 0, ρ⟩ fun s => ∀ c : Dev nD,
      (∀ (r : Fin 16384) (e : Fin 1024), s.2.mem ((c.tc : Thread nD τ).loc main_v26) (ix2 r e) = Cert.Proj.col (argX m c) (argG m c) (argD m c) (argW m c) r ⟨e.val, by omega⟩)
      ∧ (∀ (r : Fin 16384) (e : Fin 1024), s.2.mem ((c.tc : Thread nD τ).loc main_v27) (ix2 r e) = Cert.Proj.col (argX m c) (argG m c) (argD m c) (argW m c) r ⟨1024 + e.val, by omega⟩)
      ∧ (∀ (r : Fin 16384) (e : Fin 128), s.2.mem ((c.tc : Thread nD τ).loc main_v29) (ix2 r e) = Cert.Proj.col (argX m c) (argG m c) (argD m c) (argW m c) r ⟨2560 + e.val, by omega⟩)
      ∧ (∀ (r : Fin 16384) (e : Fin 128), s.2.mem ((c.tc : Thread nD τ).loc main_v30) (ix2 r e) = Cert.Proj.col (argX m c) (argG m c) (argD m c) (argW m c) r ⟨2688 + e.val, by omega⟩)
      ∧ (∀ (r : Fin 16384) (e : Fin 128), s.2.mem ((c.tc : Thread nD τ).loc main_v43) (ix2 r e) = Cert.Proj.col (argX m c) (argG m c) (argD m c) (argW m c) r ⟨2816 + e.val, by omega⟩)
      ∧ (∀ (r : Fin 16384) (e : Fin 128), s.2.mem ((c.tc : Thread nD τ).loc main_v44) (ix2 r e) = Cert.Proj.col (argX m c) (argG m c) (argD m c) (argW m c) r ⟨3072 + e.val, by omega⟩)
      ∧ (∀ (r : Fin 16384) (e : Fin 512), s.2.mem ((c.tc : Thread nD τ).loc main_v46) (ix2 e r) = Cert.Proj.col (argX m c) (argG m c) (argD m c) (argW m c) r ⟨2048 + e.val, by omega⟩ * Ideal.ofBits .f32 0x3E38AA3B#32)
      ∧ (∀ (r : Fin 16384) (e : Fin 128), s.2.mem ((c.tc : Thread nD τ).loc main_v48) (ix2 e r) = Cert.Proj.col (argX m c) (argG m c) (argD m c) (argW m c) r ⟨2944 + e.val, by omega⟩)
      ∧ (∀ (r : Fin 16384) (e : Fin 128), s.2.mem ((c.tc : Thread nD τ).loc main_v50) (ix2 e r) = Cert.Proj.col (argX m c) (argG m c) (argD m c) (argW m c) r ⟨3200 + e.val, by omega⟩)
      ∧ (∀ (r : Fin 16384) (e : Fin 512), s.2.mem ((c.tc : Thread nD τ).loc main_v52) (ix2 e r) = Cert.Proj.col (argX m c) (argG m c) (argD m c) (argW m c) r ⟨3352 + e.val, by omega⟩)
      ∧ (∀ (r : Fin 16384) (e : Fin 32), s.2.mem ((c.tc : Thread nD τ).loc main_v42) (ix2 e r) = Cert.Proj.gate (argX m c) (argG m c) (argD m c) (argW m c) e r)
      ∧ (∀ (r : Fin 16384) (e : Fin 2048), s.2.mem ((c.tc : Thread nD τ).loc main_v53) (ix2 r e) = Cert.Proj.hid (argX m c) (argG m c) (argD m c) r e)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3) := by
  refine (θ_run defs _ _).mono (fun s h c => ?_) (Value.run (F := Ideal) m ρ)
  obtain ⟨h26, h27, h29, h30, h43, h44, h46, h48, h50, h52, h42, h53, hargs⟩ := h c
  refine ⟨?_, ?_, ?_, ?_, ?_, ?_, ?_, ?_, ?_, ?_, ?_, ?_, hargs⟩ <;> intro r e
  · rw [h26]
    pointwise
    rfl
  · rw [h27]
    pointwise
    rfl
  · rw [h29]
    pointwise
    rfl
  · rw [h30]
    pointwise
    rfl
  · rw [h43]
    pointwise
    rfl
  · rw [h44]
    pointwise
    rfl
  · rw [h46]
    pointwise
    rfl
  · rw [h48]
    pointwise
    rfl
  · rw [h50]
    pointwise
    rfl
  · rw [h52]
    pointwise
    rfl
  · rw [h42]
    pointwise
    clear hargs h26 h27 h29 h30 h43 h44 h46 h48 h50 h52 h42 h53 h
    unfold Cert.Proj.gate
    by_cases h3 : e.val / 4 % 4 < 3
    · refine (dif_pos ⟨by omega, h3, by omega⟩).trans (.trans ?_ (dif_pos h3).symm)
      unfold Cert.Proj.col
      refine Finset.sum_congr (M := EReal) rfl fun x _ => ?_
      rfl
    · refine (dif_neg (fun h => h3 h.2.1)).trans (.trans ?_ (dif_neg h3).symm)
      show ((((0#32 : BitVec 32).toInt : ℝ) : EReal)) = 0
      simp
  · rw [h53]
    refine (flat_at _ r e).trans ?_
    unfold Cert.Proj.hid
    generalize (⟨r.val / 8192, by omega⟩ : Fin 2) = b
    generalize (⟨r.val % 8192, Nat.mod_lt _ (by decide)⟩ : Fin 8192) = q
    pointwise
    rfl

end Cert.Reference4Ideal.Proj

end
-- ==== Proof.ProjTile.lean ====
/- The projection call's block of 512 rows: every output window's block as a function of the input blocks. -/
module

public import proofs.«01_k».proof.Proof.Gen.Kernel4Ideal.Value
public import proofs.«01_k».proof.Proof.ProjSpec
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe

section Payloads
variable (a : FVec Ideal S512x2048 .bf16)

theorem pay11 (y : FVec Ideal S256x2048 .bf16) (v : FVec Ideal S256x2048 .f32) (g d : Vec Ideal S1x2048 .f32) (w : Vec Ideal S2048x1024 .bf16)
    (s : Fin 512) (e : Fin 1024) : k0_pay11 y v g d w (ix2 s e) = ∑ x, k0_pay10 y v g d (ix2 s x) * w (ix2 x e) := by
  pointwise [k0_pay11]

theorem pay15 (w : Vec Ideal S2048x256 .bf16) (s : Fin 512) (e : Fin 128) : k0_pay15 a w (ix2 s e) = ∑ x, a (ix2 s x) * w (ix2 x ⟨e.val, by omega⟩) := by
  pointwise [k0_pay1, k0_pay2, k0_pay12, k0_pay13, k0_pay14, k0_pay15, k0_pay16, k0_pay17, k0_pay18, k0_pay19, k0_pay20, k0_pay21]
  try rfl

theorem pay16 (w : Vec Ideal S2048x256 .bf16) (s : Fin 512) (e : Fin 128) : k0_pay16 a w (ix2 s e) = ∑ x, a (ix2 s x) * w (ix2 x ⟨128 + e.val, by omega⟩) := by
  pointwise [k0_pay1, k0_pay2, k0_pay12, k0_pay13, k0_pay14, k0_pay15, k0_pay16, k0_pay17, k0_pay18, k0_pay19, k0_pay20, k0_pay21]
  try rfl

theorem pay18 (w : Vec Ideal S2048x512 .bf16) (s : Fin 512) (e : Fin 128) : k0_pay18 a w (ix2 s e) = ∑ x, a (ix2 s x) * w (ix2 x ⟨e.val, by omega⟩) := by
  pointwise [k0_pay1, k0_pay2, k0_pay12, k0_pay13, k0_pay14, k0_pay15, k0_pay16, k0_pay17, k0_pay18, k0_pay19, k0_pay20, k0_pay21]
  try rfl

theorem pay19 (w : Vec Ideal S2048x512 .bf16) (s : Fin 512) (e : Fin 128) : k0_pay19 a w (ix2 e s) = ∑ x, a (ix2 s x) * w (ix2 x ⟨128 + e.val, by omega⟩) := by
  pointwise [k0_pay1, k0_pay2, k0_pay12, k0_pay13, k0_pay14, k0_pay15, k0_pay16, k0_pay17, k0_pay18, k0_pay19, k0_pay20, k0_pay21]
  try rfl

theorem pay20 (w : Vec Ideal S2048x512 .bf16) (s : Fin 512) (e : Fin 128) : k0_pay20 a w (ix2 s e) = ∑ x, a (ix2 s x) * w (ix2 x ⟨256 + e.val, by omega⟩) := by
  pointwise [k0_pay1, k0_pay2, k0_pay12, k0_pay13, k0_pay14, k0_pay15, k0_pay16, k0_pay17, k0_pay18, k0_pay19, k0_pay20, k0_pay21]
  try rfl

theorem pay21 (w : Vec Ideal S2048x512 .bf16) (s : Fin 512) (e : Fin 128) : k0_pay21 a w (ix2 e s) = ∑ x, a (ix2 s x) * w (ix2 x ⟨384 + e.val, by omega⟩) := by
  pointwise [k0_pay1, k0_pay2, k0_pay12, k0_pay13, k0_pay14, k0_pay15, k0_pay16, k0_pay17, k0_pay18, k0_pay19, k0_pay20, k0_pay21]
  try rfl

theorem pay13 (w : Vec Ideal S2048x512 .bf16) (s : Fin 512) (e : Fin 512) : k0_pay13 a (k0_pay12 w) (ix2 e s) = (∑ x, a (ix2 s x) * w (ix2 x e)) * Ideal.ofBits .f32 0x3E38AA3B#32 := by
  pointwise [k0_pay1, k0_pay2, k0_pay12, k0_pay13, k0_pay14, k0_pay15, k0_pay16, k0_pay17, k0_pay18, k0_pay19, k0_pay20, k0_pay21]
  try rfl

theorem pay1 (w : Vec Ideal S2048x512 .bf16) (s : Fin 512) (e : Fin 512) : k0_pay1 a w (ix2 e s) = ∑ x, a (ix2 s x) * w (ix2 x e) := by
  pointwise [k0_pay1, k0_pay2, k0_pay12, k0_pay13, k0_pay14, k0_pay15, k0_pay16, k0_pay17, k0_pay18, k0_pay19, k0_pay20, k0_pay21]
  try rfl

theorem pay2 (w : Vec Ideal S32x2048 .bf16) (s : Fin 512) (e : Fin 32) : k0_pay2 a w (ix2 e s) = ∑ x, w (ix2 e x) * a (ix2 s x) := by
  pointwise [k0_pay1, k0_pay2, k0_pay12, k0_pay13, k0_pay14, k0_pay15, k0_pay16, k0_pay17, k0_pay18, k0_pay19, k0_pay20, k0_pay21]
  try rfl

end Payloads

section Tile
variable (x0 : Vec Ideal S512x2048 .f32) (x1 x2 : Vec Ideal S1x2048 .f32) (x3 : Vec Ideal S2048x3864 .bf16)
  (x4 : Vec Ideal S2048x512 .bf16) (x5 : Vec Ideal S32x2048 .bf16)

/-- The block's normalised row. -/
def hid (s : Fin 512) (e : Fin 2048) : EReal := Cert.Ffn.norm (fun a => x0 (ix2 s a)) (x1 (ix2 0 e)) (x2 (ix2 0 e)) e

theorem lower (p : Fin 256) (e : Fin 2048) : k0_pay3 (View.ld x0 r0_0) (View.ld x1 r0_1) (View.ld x2 r0_1) (ix2 p e) =
    hid x0 x1 x2 ⟨p.val, by omega⟩ e := by
  pointwise [k0_pay3, r0_0, r0_1]
  rfl

theorem upper (p : Fin 256) (e : Fin 2048) : k0_pay7 (k0_pay23 x0 x1 x2 x3 x4 x5) (View.ld x1 r0_1) (View.ld x2 r0_1) (ix2 p e) =
    hid x0 x1 x2 ⟨256 + p.val, by omega⟩ e := by
  pointwise [k0_pay7, k0_pay6, k0_pay23, r0_4, r0_1]
  rfl

theorem both (s : Fin 512) (e : Fin 2048) : k0_pay10 (k0_pay22 x0 x1 x2 x3 x4 x5) (k0_pay23 x0 x1 x2 x3 x4 x5) (View.ld x1 r0_1) (View.ld x2 r0_1) (ix2 s e) =
    hid x0 x1 x2 s e := by
  pointwise [k0_pay10, k0_pay8, k0_pay22, k0_pay4]
  by_cases hs : s.val < 256
  · refine (dif_pos hs).trans ?_
    exact lower x0 x1 x2 ⟨s.val, hs⟩ e
  · refine (dif_neg hs).trans ((upper x0 x1 x2 x3 x4 x5 ⟨s.val - 256, by omega⟩ e).trans ?_)
    exact congrArg (fun q => hid x0 x1 x2 q e) (Fin.ext (by show 256 + (s.val - 256) = s.val; omega))

theorem both_eq (s : Fin 512) (e : Fin 2048) : k0_pay24 x0 x1 x2 x3 x4 x5 (ix2 s e) = hid x0 x1 x2 s e :=
  both x0 x1 x2 x3 x4 x5 s e

theorem out7 (s : Fin 512) (e : Fin 1024) : out0_7 x0 x1 x2 x3 x4 x5 (ix2 s e) = ∑ x, hid x0 x1 x2 s x * x3 (ix2 x ⟨1024 + e.val, by omega⟩) := by
  unfold out0_7
  rw [View.canon_unit_zero (by funext a; fin_cases a <;> rfl)]
  refine (pay11 _ _ _ _ _ s e).trans ?_
  refine Finset.sum_congr rfl fun x _ => congrArg₂ (· * ·) (both x0 x1 x2 x3 x4 x5 s x) ?_
  pointwise [r0_6]

theorem out8 (s : Fin 512) (e : Fin 128) : out0_8 x0 x1 x2 x3 x4 x5 (ix2 s e) = ∑ x, hid x0 x1 x2 s x * x3 (ix2 x ⟨2560 + e.val, by omega⟩) := by
  unfold out0_8
  rw [View.canon_unit_zero (by funext a; fin_cases a <;> rfl)]
  refine (pay15 (k0_pay24 x0 x1 x2 x3 x4 x5) _ s e).trans ?_
  refine Finset.sum_congr rfl fun x _ => congrArg₂ (· * ·) (both_eq x0 x1 x2 x3 x4 x5 s x) ?_
  pointwise [r0_10]

theorem out9 (s : Fin 512) (e : Fin 128) : out0_9 x0 x1 x2 x3 x4 x5 (ix2 s e) = ∑ x, hid x0 x1 x2 s x * x3 (ix2 x ⟨2688 + e.val, by omega⟩) := by
  unfold out0_9
  rw [View.canon_unit_zero (by funext a; fin_cases a <;> rfl)]
  refine (pay16 (k0_pay24 x0 x1 x2 x3 x4 x5) _ s e).trans ?_
  refine Finset.sum_congr rfl fun x _ => congrArg₂ (· * ·) (both_eq x0 x1 x2 x3 x4 x5 s x) ?_
  pointwise [r0_10]
  exact congrArg (fun j => x3 (ix2 x j)) (Fin.ext (by show 2560 + (128 + e.val) = 2688 + e.val; omega))

theorem out10 (s : Fin 512) (e : Fin 128) : out0_10 x0 x1 x2 x3 x4 x5 (ix2 s e) = ∑ x, hid x0 x1 x2 s x * x3 (ix2 x ⟨2816 + e.val, by omega⟩) := by
  unfold out0_10
  rw [View.canon_unit_zero (by funext a; fin_cases a <;> rfl)]
  refine (pay18 (k0_pay24 x0 x1 x2 x3 x4 x5) _ s e).trans ?_
  refine Finset.sum_congr rfl fun x _ => congrArg₂ (· * ·) (both_eq x0 x1 x2 x3 x4 x5 s x) ?_
  pointwise [r0_12]

theorem out11 (s : Fin 512) (e : Fin 128) : out0_11 x0 x1 x2 x3 x4 x5 (ix2 s e) = ∑ x, hid x0 x1 x2 s x * x3 (ix2 x ⟨3072 + e.val, by omega⟩) := by
  unfold out0_11
  rw [View.canon_unit_zero (by funext a; fin_cases a <;> rfl)]
  refine (pay20 (k0_pay24 x0 x1 x2 x3 x4 x5) _ s e).trans ?_
  refine Finset.sum_congr rfl fun x _ => congrArg₂ (· * ·) (both_eq x0 x1 x2 x3 x4 x5 s x) ?_
  pointwise [r0_12]
  exact congrArg (fun j => x3 (ix2 x j)) (Fin.ext (by show 2816 + (256 + e.val) = 3072 + e.val; omega))

theorem out12 (s : Fin 512) (e : Fin 512) : out0_12 x0 x1 x2 x3 x4 x5 (ix2 e s) = (∑ x, hid x0 x1 x2 s x * x3 (ix2 x ⟨2048 + e.val, by omega⟩)) * Ideal.ofBits .f32 0x3E38AA3B#32 := by
  unfold out0_12
  rw [View.canon_unit_zero (by funext a; fin_cases a <;> rfl)]
  refine (pay13 (k0_pay24 x0 x1 x2 x3 x4 x5) _ s e).trans ?_
  refine congrArg (· * _) ?_
  refine Finset.sum_congr rfl fun x _ => congrArg₂ (· * ·) (both_eq x0 x1 x2 x3 x4 x5 s x) ?_
  pointwise [r0_8]

theorem out13 (s : Fin 512) (e : Fin 128) : out0_13 x0 x1 x2 x3 x4 x5 (ix2 e s) = ∑ x, hid x0 x1 x2 s x * x3 (ix2 x ⟨2944 + e.val, by omega⟩) := by
  unfold out0_13
  rw [View.canon_unit_zero (by funext a; fin_cases a <;> rfl)]
  refine (pay19 (k0_pay24 x0 x1 x2 x3 x4 x5) _ s e).trans ?_
  refine Finset.sum_congr rfl fun x _ => congrArg₂ (· * ·) (both_eq x0 x1 x2 x3 x4 x5 s x) ?_
  pointwise [r0_12]
  exact congrArg (fun j => x3 (ix2 x j)) (Fin.ext (by show 2816 + (128 + e.val) = 2944 + e.val; omega))

theorem out14 (s : Fin 512) (e : Fin 128) : out0_14 x0 x1 x2 x3 x4 x5 (ix2 e s) = ∑ x, hid x0 x1 x2 s x * x3 (ix2 x ⟨3200 + e.val, by omega⟩) := by
  unfold out0_14
  rw [View.canon_unit_zero (by funext a; fin_cases a <;> rfl)]
  refine (pay21 (k0_pay24 x0 x1 x2 x3 x4 x5) _ s e).trans ?_
  refine Finset.sum_congr rfl fun x _ => congrArg₂ (· * ·) (both_eq x0 x1 x2 x3 x4 x5 s x) ?_
  pointwise [r0_12]
  exact congrArg (fun j => x3 (ix2 x j)) (Fin.ext (by show 2816 + (384 + e.val) = 3200 + e.val; omega))

theorem out15 (s : Fin 512) (e : Fin 512) : out0_15 x0 x1 x2 x3 x4 x5 (ix2 e s) = ∑ x, hid x0 x1 x2 s x * x4 (ix2 x e) := by
  unfold out0_15
  rw [View.canon_unit_zero (by funext a; fin_cases a <;> rfl)]
  refine (pay1 (k0_pay24 x0 x1 x2 x3 x4 x5) _ s e).trans ?_
  refine Finset.sum_congr rfl fun x _ => congrArg₂ (· * ·) (both_eq x0 x1 x2 x3 x4 x5 s x) ?_
  pointwise [r0_14]

theorem out16 (s : Fin 512) (e : Fin 32) : out0_16 x0 x1 x2 x3 x4 x5 (ix2 e s) = ∑ x, x5 (ix2 e x) * hid x0 x1 x2 s x := by
  unfold out0_16
  rw [View.canon_unit_zero (by funext a; fin_cases a <;> rfl)]
  refine (pay2 (k0_pay24 x0 x1 x2 x3 x4 x5) _ s e).trans ?_
  refine Finset.sum_congr rfl fun x _ => congrArg₂ (· * ·) ?_ (both_eq x0 x1 x2 x3 x4 x5 s x)
  pointwise [r0_15]

theorem lower6 (p : Fin 256) (e : Fin 1024) : k0_pay5 (View.ld x0 r0_0) (View.ld x1 r0_1) (View.ld x2 r0_1) (View.ld x3 r0_2) (ix2 p e) =
    ∑ x, hid x0 x1 x2 ⟨p.val, by omega⟩ x * x3 (ix2 x ⟨e.val, by omega⟩) := by
  have h : k0_pay5 (View.ld x0 r0_0) (View.ld x1 r0_1) (View.ld x2 r0_1) (View.ld x3 r0_2) (ix2 p e) =
      ∑ x, k0_pay3 (View.ld x0 r0_0) (View.ld x1 r0_1) (View.ld x2 r0_1) (ix2 p x) * View.ld x3 r0_2 (ix2 x e) := by
    pointwise [k0_pay5, k0_pay4]
  refine h.trans (Finset.sum_congr rfl fun x _ => congrArg₂ (· * ·) (lower x0 x1 x2 p x) ?_)
  pointwise [r0_2]

theorem upper6 (p : Fin 256) (e : Fin 1024) : k0_pay9 (k0_pay23 x0 x1 x2 x3 x4 x5) (View.ld x1 r0_1) (View.ld x2 r0_1) (View.ld x3 r0_2) (ix2 p e) =
    ∑ x, hid x0 x1 x2 ⟨256 + p.val, by omega⟩ x * x3 (ix2 x ⟨e.val, by omega⟩) := by
  have h : k0_pay9 (k0_pay23 x0 x1 x2 x3 x4 x5) (View.ld x1 r0_1) (View.ld x2 r0_1) (View.ld x3 r0_2) (ix2 p e) =
      ∑ x, k0_pay7 (k0_pay23 x0 x1 x2 x3 x4 x5) (View.ld x1 r0_1) (View.ld x2 r0_1) (ix2 p x) * View.ld x3 r0_2 (ix2 x e) := by
    pointwise [k0_pay9, k0_pay8]
  refine h.trans (Finset.sum_congr rfl fun x _ => congrArg₂ (· * ·) (upper x0 x1 x2 x3 x4 x5 p x) ?_)
  pointwise [r0_2]

theorem out6 (s : Fin 512) (e : Fin 1024) : out0_6 x0 x1 x2 x3 x4 x5 (ix2 s e) = ∑ x, hid x0 x1 x2 s x * x3 (ix2 x ⟨Fin.val (n := 1024) e, by omega⟩) := by
  refine View.canon_apply_of_pieces (Val := Elt Ideal) (e := .f32) (fun j : S512x1024.Idx => (∑ x, hid x0 x1 x2 (j 0) x * x3 (ix2 x ⟨Fin.val (n := 1024) (j 1), by omega⟩) : EReal)) _ ?_ (ix2 s e) (cover0_6 _ _ _)
  simp only [List.mem_cons, List.not_mem_nil, or_false, forall_eq_or_imp, forall_eq]
  refine ⟨fun y => ?_, fun y => ?_⟩ <;> obtain ⟨p, q, rfl⟩ : ∃ (p : Fin 256) (q : Fin 1024), y = ix2 p q := ⟨y 0, y 1, eq_ix2 y⟩
  · refine (upper6 x0 x1 x2 x3 x4 x5 p q).trans ?_
    have h : r0_5.emb (ix2 p q) = ix2 ⟨256 + p.val, by omega⟩ q := by
      funext a
      apply Fin.ext
      match a with
      | ⟨0, _⟩ => show 256 + 1 * p.val = 256 + p.val; omega
      | ⟨1, _⟩ => show 0 + 1 * q.val = q.val; omega
    rw [h]; rfl
  · refine (lower6 x0 x1 x2 x3 p q).trans ?_
    have h : r0_3.emb (ix2 p q) = ix2 ⟨p.val, by omega⟩ q := by
      funext a
      apply Fin.ext
      match a with
      | ⟨0, _⟩ => show 0 + 1 * p.val = p.val; omega
      | ⟨1, _⟩ => show 0 + 1 * q.val = q.val; omega
    rw [h]; rfl

theorem out17 (s : Fin 512) (e : Fin 2048) : out0_17 x0 x1 x2 x3 x4 x5 (ix2 s e) = hid x0 x1 x2 s e := by
  refine View.canon_apply_of_pieces (Val := Elt Ideal) (e := .f32) (fun j : S512x2048.Idx => (hid x0 x1 x2 (j 0) (j 1) : EReal)) _ ?_ (ix2 s e) (cover0_17 _ _ _)
  simp only [List.mem_cons, List.not_mem_nil, or_false, forall_eq_or_imp, forall_eq]
  refine ⟨fun y => ?_, fun y => ?_⟩ <;> obtain ⟨p, q, rfl⟩ : ∃ (p : Fin 256) (q : Fin 2048), y = ix2 p q := ⟨y 0, y 1, eq_ix2 y⟩
  · refine (upper x0 x1 x2 x3 x4 x5 p q).trans ?_
    have h : r0_4.emb (ix2 p q) = ix2 ⟨256 + p.val, by omega⟩ q := by
      funext a
      apply Fin.ext
      match a with
      | ⟨0, _⟩ => show 256 + 1 * p.val = 256 + p.val; omega
      | ⟨1, _⟩ => show 0 + 1 * q.val = q.val; omega
    rw [h]; rfl
  · refine (lower x0 x1 x2 p q).trans ?_
    have h : r0_0.emb (ix2 p q) = ix2 ⟨p.val, by omega⟩ q := by
      funext a
      apply Fin.ext
      match a with
      | ⟨0, _⟩ => show 0 + 1 * p.val = p.val; omega
      | ⟨1, _⟩ => show 0 + 1 * q.val = q.val; omega
    rw [h]; rfl

end Tile
end Cert.Kernel4Ideal.Proj
end
-- ==== Proof.ProjValue.lean ====
/- The projection call's results at an index are the functions of ProjSpec. -/
module

public import proofs.«01_k».proof.Proof.ProjTile

@[expose] public section

set_option maxRecDepth 16384

noncomputable section

namespace Cert.Kernel4Ideal.Proj

open Cert.Kernel4Ideal Cert.Kernel4Ideal.Gen Idealize.ShloMosaic Idealize.ShloMosaic.TcCoe Idealize.SL.Sem

theorem points (t : Fin cfg0.N) : t.val < 32 := lt_of_lt_of_eq t.isLt (show cfg0.N = 32 from N_0)

/-- Each window's block index on its two axes: the rows' windows move with the point, the weights' stay. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem idx_out : ∀ t : Fin cfg0.N,
    (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = t.val)
    ∧ (win0_13.index t (0 : Fin 2) = 0 ∧ win0_13.index t (1 : Fin 2) = t.val)
    ∧ (win0_14.index t (0 : Fin 2) = 0 ∧ win0_14.index t (1 : Fin 2) = t.val)
    ∧ (win0_15.index t (0 : Fin 2) = 0 ∧ win0_15.index t (1 : Fin 2) = t.val)
    ∧ (win0_16.index t (0 : Fin 2) = 0 ∧ win0_16.index t (1 : Fin 2) = t.val)
    ∧ (win0_17.index t (0 : Fin 2) = t.val ∧ win0_17.index t (1 : Fin 2) = 0) :=
  (by decide +kernel : ∀ t : Fin grid0.N, _)

variable (m : (ℓ : Loc nD τ sig) → Buf (Elt Ideal) ℓ) (c : Dev nD)

abbrev argX : Fin 2 → Fin 8192 → Fin 2048 → EReal := fun b q x => m ((c : Thread nD τ).loc main_arg0) (ix3 b q x)
abbrev argG : Fin 2048 → EReal := fun e => m ((c : Thread nD τ).loc main_arg1) (ix1 e)
abbrev argD : Fin 2048 → EReal := fun e => m ((c : Thread nD τ).loc main_arg2) (ix1 e)
abbrev argW : Fin 2048 → Fin 3864 → EReal := fun x e => m ((c : Thread nD τ).loc main_arg3) (ix2 x e)

/-! ## What the host code leaves in the call's operands -/

theorem v8 : V m c main_v8 = shapeCast S16384x2048 (m ((c : Thread nD τ).loc main_arg0)) shapeCasts_S2x8192x2048_S16384x2048 := by
  simp only [V, List.flatten_cons, List.flatten_nil, List.cons_append, List.nil_append, List.append_nil]
  after_results_simp
  all_goals rfl

theorem v9 : V m c main_v9 = shapeCast S1x2048 (m ((c : Thread nD τ).loc main_arg1)) shapeCasts_S2048_S1x2048 := by
  simp only [V, List.flatten_cons, List.flatten_nil, List.cons_append, List.nil_append, List.append_nil]
  after_results_simp
  all_goals rfl

theorem v10 : V m c main_v10 = shapeCast S1x2048 (m ((c : Thread nD τ).loc main_arg2)) shapeCasts_S2048_S1x2048 := by
  simp only [V, List.flatten_cons, List.flatten_nil, List.cons_append, List.nil_append, List.append_nil]
  after_results_simp
  all_goals rfl

theorem v0 : V m c main_v0 = truncf (F := Ideal) .bf16 (m ((c : Thread nD τ).loc main_arg3)) bitsLt_bf16_f32 := by
  simp only [V, List.flatten_cons, List.flatten_nil, List.cons_append, List.nil_append, List.append_nil]
  after_results_simp
  all_goals rfl

theorem v1 : V m c main_v1 = extractStridedSlice S2048x512 ![0, 3352] (truncf (F := Ideal) .bf16 (m ((c : Thread nD τ).loc main_arg3)) bitsLt_bf16_f32) slices_S2048x3864_S2048x512_0_3352 := by
  simp only [V, List.flatten_cons, List.flatten_nil, List.cons_append, List.nil_append, List.append_nil]
  after_results_simp
  all_goals rfl

set_option maxHeartbeats 2000000 in
theorem v7 : V m c main_v7 = truncf (F := Ideal) .bf16 (shapeCast S32x2048 (pad S2x4x4x2048 ![0, 0, 0, 0] ![0, 1, 0, 0] ![0, 0, 0, 0]
    (transpose S2x3x4x2048 [1, 3, 2, 0] (shapeCast S2048x2x4x3 (extractStridedSlice S2048x24 ![0, 3328] (m ((c : Thread nD τ).loc main_arg3)) slices_S2048x3864_S2048x24_0_3328)
      shapeCasts_S2048x24_S2048x2x4x3) transposes_S2048x2x4x3_S2x3x4x2048_1_3_2_0)
    (sitofp (F := Ideal) .f32 (constantI S_ 32 0#32)) pads_S2x3x4x2048_S2x4x4x2048_000_010_000_000 h_S_) shapeCasts_S2x4x4x2048_S32x2048) bitsLt_bf16_f32 := by
  simp only [V, List.flatten_cons, List.flatten_nil, List.cons_append, List.nil_append, List.append_nil]
  after_results_simp
  all_goals rfl

/-! ## The blocks -/

theorem flat_at (x : Vec Ideal S2x8192x2048 .f32) (r : Fin 16384) (d : Fin 2048) :
    shapeCast S16384x2048 x shapeCasts_S2x8192x2048_S16384x2048 (ix2 r d) =
      x (ix3 ⟨r.val / 8192, by omega⟩ ⟨r.val % 8192, Nat.mod_lt _ (by decide)⟩ d) := by
  pointwise

theorem blk0 (t : Fin cfg0.N) (s : Fin 512) (d : Fin 2048) (r : Fin 16384) (hr : r.val = 512 * t.val + s.val) : iblk m c 0 t (ix2 s d) = argX m c ⟨r.val / 8192, by omega⟩ ⟨r.val % 8192, Nat.mod_lt _ (by decide)⟩ d := by
  have hi : ((cfg0.win 0).blk t).view.emb (ix2 s d) = ix2 r d := by
    funext a
    apply Fin.ext
    match a with
    | ⟨0, _⟩ => show win0_0.index t (0 : Fin 2) * 512 + 1 * s.val = r.val; rw [(idx t).1.1] <;> omega
    | ⟨1, _⟩ => show win0_0.index t (1 : Fin 2) * 2048 + 1 * d.val = d.val; rw [(idx t).1.2] <;> omega
  refine (congrArg (V m c main_v8) hi).trans ?_
  rw [v8]
  exact flat_at _ r d

theorem blk1 (t : Fin cfg0.N) (e : Fin 2048) : iblk m c 1 t (ix2 0 e) = argG m c e := by
  have hi : ((cfg0.win 1).blk t).view.emb (ix2 0 e) = ix2 0 e := by
    funext a
    apply Fin.ext
    match a with
    | ⟨0, _⟩ => show win0_1.index t (0 : Fin 2) * 1 + 1 * 0 = 0; rw [(idx t).2.1.1] <;> omega
    | ⟨1, _⟩ => show win0_1.index t (1 : Fin 2) * 2048 + 1 * e.val = e.val; rw [(idx t).2.1.2] <;> omega
  refine (congrArg (V m c main_v9) hi).trans ?_
  rw [v9]
  pointwise

theorem blk2 (t : Fin cfg0.N) (e : Fin 2048) : iblk m c 2 t (ix2 0 e) = argD m c e := by
  have hi : ((cfg0.win 2).blk t).view.emb (ix2 0 e) = ix2 0 e := by
    funext a
    apply Fin.ext
    match a with
    | ⟨0, _⟩ => show win0_2.index t (0 : Fin 2) * 1 + 1 * 0 = 0; rw [(idx t).2.2.1.1] <;> omega
    | ⟨1, _⟩ => show win0_2.index t (1 : Fin 2) * 2048 + 1 * e.val = e.val; rw [(idx t).2.2.1.2] <;> omega
  refine (congrArg (V m c main_v10) hi).trans ?_
  rw [v10]
  pointwise

theorem blk3 (t : Fin cfg0.N) (x : Fin 2048) (e : Fin 3864) : iblk m c 3 t (ix2 x e) = argW m c x e := by
  have hi : ((cfg0.win 3).blk t).view.emb (ix2 x e) = ix2 x e := by
    funext a
    apply Fin.ext
    match a with
    | ⟨0, _⟩ => show win0_3.index t (0 : Fin 2) * 2048 + 1 * x.val = x.val; rw [(idx t).2.2.2.1.1] <;> omega
    | ⟨1, _⟩ => show win0_3.index t (1 : Fin 2) * 3864 + 1 * e.val = e.val; rw [(idx t).2.2.2.1.2] <;> omega
  refine (congrArg (V m c main_v0) hi).trans ?_
  rw [v0]
  rfl

theorem blk4 (t : Fin cfg0.N) (x : Fin 2048) (e : Fin 512) : iblk m c 4 t (ix2 x e) = argW m c x ⟨3352 + e.val, by omega⟩ := by
  have hi : ((cfg0.win 4).blk t).view.emb (ix2 x e) = ix2 x e := by
    funext a
    apply Fin.ext
    match a with
    | ⟨0, _⟩ => show win0_4.index t (0 : Fin 2) * 2048 + 1 * x.val = x.val; rw [(idx t).2.2.2.2.1.1] <;> omega
    | ⟨1, _⟩ => show win0_4.index t (1 : Fin 2) * 512 + 1 * e.val = e.val; rw [(idx t).2.2.2.2.1.2] <;> omega
  refine (congrArg (V m c main_v1) hi).trans ?_
  rw [v1]
  pointwise

theorem blk5 (t : Fin cfg0.N) (p : Fin 32) (x : Fin 2048) : iblk m c 5 t (ix2 p x) =
    if h : p.val / 4 % 4 < 3 then argW m c x ⟨3328 + (p.val / 16 * 12 + p.val % 4 * 3 + p.val / 4 % 4), by omega⟩ else 0 := by
  have hi : ((cfg0.win 5).blk t).view.emb (ix2 p x) = ix2 p x := by
    funext a
    apply Fin.ext
    match a with
    | ⟨0, _⟩ => show win0_5.index t (0 : Fin 2) * 32 + 1 * p.val = p.val; rw [(idx t).2.2.2.2.2.1] <;> omega
    | ⟨1, _⟩ => show win0_5.index t (1 : Fin 2) * 2048 + 1 * x.val = x.val; rw [(idx t).2.2.2.2.2.2] <;> omega
  refine (congrArg (V m c main_v7) hi).trans ?_
  rw [v7]
  pointwise
  split_ifs with h1 h2 h2
  · rfl
  · exact absurd h1.2.1 h2
  · exact absurd ⟨by omega, h2, by omega⟩ h1
  · show ((((0#32 : BitVec 32).toInt : ℝ) : EReal)) = 0
    simp

theorem hid_eq (t : Fin cfg0.N) (s : Fin 512) (r : Fin 16384) (hr : r.val = 512 * t.val + s.val) (e : Fin 2048) :
    hid (iblk m c 0 t) (iblk m c 1 t) (iblk m c 2 t) s e = Cert.Proj.hid (argX m c) (argG m c) (argD m c) r e := by
  unfold hid Cert.Proj.hid
  have h : (fun a => iblk m c 0 t (ix2 s a)) = argX m c ⟨r.val / 8192, by omega⟩ ⟨r.val % 8192, Nat.mod_lt _ (by decide)⟩ :=
    funext fun a => blk0 m c t s a r hr
  refine (congrArg (fun z => Cert.Ffn.norm z _ _ e) h).trans ?_
  exact congrArg₂ (fun g d => Cert.Ffn.norm _ g d e) (blk1 m c t e) (blk2 m c t e)

/-! ## The results -/

theorem flushed6 (t : Fin cfg0.N) (s : Fin 512) (r : Fin 16384) (hr : r.val = 512 * t.val + s.val) (e : Fin 1024) :
    (dats m 0 c).flushed 6 t (ix2 s e) = Cert.Proj.col (argX m c) (argG m c) (argD m c) (argW m c) r ⟨e.val, by omega⟩ := by
  rw [Value.flushed6]
  refine (out6 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result6 (r : Fin 16384) (e : Fin 1024) : (dats m 0 c).arrAt 6 cfg0.N (ix2 r e) = Cert.Proj.col (argX m c) (argG m c) (argD m c) (argW m c) r ⟨e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 r e = ((cfg0.win 6).blk t).view.emb (ix2 s e) := by
    funext a
    apply Fin.ext
    match a with
    | ⟨0, _⟩ => show r.val = win0_6.index t (0 : Fin 2) * 512 + 1 * s.val; rw [(idx_out t).1.1]; omega
    | ⟨1, _⟩ => show e.val = win0_6.index t (1 : Fin 2) * 1024 + 1 * e.val; rw [(idx_out t).1.2]; omega
  rw [hi]
  exact (congrFun (Value.blocks6 m c t (flush0_6 t)) (ix2 s e)).trans (flushed6 m c t s r hr e)

theorem flushed7 (t : Fin cfg0.N) (s : Fin 512) (r : Fin 16384) (hr : r.val = 512 * t.val + s.val) (e : Fin 1024) :
    (dats m 0 c).flushed 7 t (ix2 s e) = Cert.Proj.col (argX m c) (argG m c) (argD m c) (argW m c) r ⟨1024 + e.val, by omega⟩ := by
  rw [Value.flushed7]
  refine (out7 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result7 (r : Fin 16384) (e : Fin 1024) : (dats m 0 c).arrAt 7 cfg0.N (ix2 r e) = Cert.Proj.col (argX m c) (argG m c) (argD m c) (argW m c) r ⟨1024 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 r e = ((cfg0.win 7).blk t).view.emb (ix2 s e) := by
    funext a
    apply Fin.ext
    match a with
    | ⟨0, _⟩ => show r.val = win0_7.index t (0 : Fin 2) * 512 + 1 * s.val; rw [(idx_out t).2.1.1]; omega
    | ⟨1, _⟩ => show e.val = win0_7.index t (1 : Fin 2) * 1024 + 1 * e.val; rw [(idx_out t).2.1.2]; omega
  rw [hi]
  exact (congrFun (Value.blocks7 m c t (flush0_7 t)) (ix2 s e)).trans (flushed7 m c t s r hr e)

theorem flushed8 (t : Fin cfg0.N) (s : Fin 512) (r : Fin 16384) (hr : r.val = 512 * t.val + s.val) (e : Fin 128) :
    (dats m 0 c).flushed 8 t (ix2 s e) = Cert.Proj.col (argX m c) (argG m c) (argD m c) (argW m c) r ⟨2560 + e.val, by omega⟩ := by
  rw [Value.flushed8]
  refine (out8 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result8 (r : Fin 16384) (e : Fin 128) : (dats m 0 c).arrAt 8 cfg0.N (ix2 r e) = Cert.Proj.col (argX m c) (argG m c) (argD m c) (argW m c) r ⟨2560 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 r e = ((cfg0.win 8).blk t).view.emb (ix2 s e) := by
    funext a
    apply Fin.ext
    match a with
    | ⟨0, _⟩ => show r.val = win0_8.index t (0 : Fin 2) * 512 + 1 * s.val; rw [(idx_out t).2.2.1.1]; omega
    | ⟨1, _⟩ => show e.val = win0_8.index t (1 : Fin 2) * 128 + 1 * e.val; rw [(idx_out t).2.2.1.2]; omega
  rw [hi]
  exact (congrFun (Value.blocks8 m c t (flush0_8 t)) (ix2 s e)).trans (flushed8 m c t s r hr e)

theorem flushed9 (t : Fin cfg0.N) (s : Fin 512) (r : Fin 16384) (hr : r.val = 512 * t.val + s.val) (e : Fin 128) :
    (dats m 0 c).flushed 9 t (ix2 s e) = Cert.Proj.col (argX m c) (argG m c) (argD m c) (argW m c) r ⟨2688 + e.val, by omega⟩ := by
  rw [Value.flushed9]
  refine (out9 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result9 (r : Fin 16384) (e : Fin 128) : (dats m 0 c).arrAt 9 cfg0.N (ix2 r e) = Cert.Proj.col (argX m c) (argG m c) (argD m c) (argW m c) r ⟨2688 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 r e = ((cfg0.win 9).blk t).view.emb (ix2 s e) := by
    funext a
    apply Fin.ext
    match a with
    | ⟨0, _⟩ => show r.val = win0_9.index t (0 : Fin 2) * 512 + 1 * s.val; rw [(idx_out t).2.2.2.1.1]; omega
    | ⟨1, _⟩ => show e.val = win0_9.index t (1 : Fin 2) * 128 + 1 * e.val; rw [(idx_out t).2.2.2.1.2]; omega
  rw [hi]
  exact (congrFun (Value.blocks9 m c t (flush0_9 t)) (ix2 s e)).trans (flushed9 m c t s r hr e)

theorem flushed10 (t : Fin cfg0.N) (s : Fin 512) (r : Fin 16384) (hr : r.val = 512 * t.val + s.val) (e : Fin 128) :
    (dats m 0 c).flushed 10 t (ix2 s e) = Cert.Proj.col (argX m c) (argG m c) (argD m c) (argW m c) r ⟨2816 + e.val, by omega⟩ := by
  rw [Value.flushed10]
  refine (out10 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result10 (r : Fin 16384) (e : Fin 128) : (dats m 0 c).arrAt 10 cfg0.N (ix2 r e) = Cert.Proj.col (argX m c) (argG m c) (argD m c) (argW m c) r ⟨2816 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 r e = ((cfg0.win 10).blk t).view.emb (ix2 s e) := by
    funext a
    apply Fin.ext
    match a with
    | ⟨0, _⟩ => show r.val = win0_10.index t (0 : Fin 2) * 512 + 1 * s.val; rw [(idx_out t).2.2.2.2.1.1]; omega
    | ⟨1, _⟩ => show e.val = win0_10.index t (1 : Fin 2) * 128 + 1 * e.val; rw [(idx_out t).2.2.2.2.1.2]; omega
  rw [hi]
  exact (congrFun (Value.blocks10 m c t (flush0_10 t)) (ix2 s e)).trans (flushed10 m c t s r hr e)

theorem flushed11 (t : Fin cfg0.N) (s : Fin 512) (r : Fin 16384) (hr : r.val = 512 * t.val + s.val) (e : Fin 128) :
    (dats m 0 c).flushed 11 t (ix2 s e) = Cert.Proj.col (argX m c) (argG m c) (argD m c) (argW m c) r ⟨3072 + e.val, by omega⟩ := by
  rw [Value.flushed11]
  refine (out11 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result11 (r : Fin 16384) (e : Fin 128) : (dats m 0 c).arrAt 11 cfg0.N (ix2 r e) = Cert.Proj.col (argX m c) (argG m c) (argD m c) (argW m c) r ⟨3072 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 r e = ((cfg0.win 11).blk t).view.emb (ix2 s e) := by
    funext a
    apply Fin.ext
    match a with
    | ⟨0, _⟩ => show r.val = win0_11.index t (0 : Fin 2) * 512 + 1 * s.val; rw [(idx_out t).2.2.2.2.2.1.1]; omega
    | ⟨1, _⟩ => show e.val = win0_11.index t (1 : Fin 2) * 128 + 1 * e.val; rw [(idx_out t).2.2.2.2.2.1.2]; omega
  rw [hi]
  exact (congrFun (Value.blocks11 m c t (flush0_11 t)) (ix2 s e)).trans (flushed11 m c t s r hr e)

theorem flushed12 (t : Fin cfg0.N) (s : Fin 512) (r : Fin 16384) (hr : r.val = 512 * t.val + s.val) (e : Fin 512) :
    (dats m 0 c).flushed 12 t (ix2 e s) = Cert.Proj.col (argX m c) (argG m c) (argD m c) (argW m c) r ⟨2048 + e.val, by omega⟩ * Ideal.ofBits .f32 0x3E38AA3B#32 := by
  rw [Value.flushed12]
  refine (out12 (iblk m c 0 t) (iblk m c 1 t) (iblk m c 2 t) (iblk m c 3 t) (iblk m c 4 t) (iblk m c 5 t) s e).trans ?_
  refine congrArg (· * _) ?_
  exact Finset.sum_congr rfl fun x _ => congrArg₂ (· * ·) (hid_eq m c t s r hr x) (blk3 m c t x _)

theorem result12 (r : Fin 16384) (e : Fin 512) : (dats m 0 c).arrAt 12 cfg0.N (ix2 e r) = Cert.Proj.col (argX m c) (argG m c) (argD m c) (argW m c) r ⟨2048 + e.val, by omega⟩ * Ideal.ofBits .f32 0x3E38AA3B#32 := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 e r = ((cfg0.win 12).blk t).view.emb (ix2 e s) := by
    funext a
    apply Fin.ext
    match a with
    | ⟨0, _⟩ => show e.val = win0_12.index t (0 : Fin 2) * 512 + 1 * e.val; rw [(idx_out t).2.2.2.2.2.2.1.1]; omega
    | ⟨1, _⟩ => show r.val = win0_12.index t (1 : Fin 2) * 512 + 1 * s.val; rw [(idx_out t).2.2.2.2.2.2.1.2]; omega
  rw [hi]
  exact (congrFun (Value.blocks12 m c t (flush0_12 t)) (ix2 e s)).trans (flushed12 m c t s r hr e)

theorem flushed13 (t : Fin cfg0.N) (s : Fin 512) (r : Fin 16384) (hr : r.val = 512 * t.val + s.val) (e : Fin 128) :
    (dats m 0 c).flushed 13 t (ix2 e s) = Cert.Proj.col (argX m c) (argG m c) (argD m c) (argW m c) r ⟨2944 + e.val, by omega⟩ := by
  rw [Value.flushed13]
  refine (out13 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result13 (r : Fin 16384) (e : Fin 128) : (dats m 0 c).arrAt 13 cfg0.N (ix2 e r) = Cert.Proj.col (argX m c) (argG m c) (argD m c) (argW m c) r ⟨2944 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 e r = ((cfg0.win 13).blk t).view.emb (ix2 e s) := by
    funext a
    apply Fin.ext
    match a with
    | ⟨0, _⟩ => show e.val = win0_13.index t (0 : Fin 2) * 128 + 1 * e.val; rw [(idx_out t).2.2.2.2.2.2.2.1.1]; omega
    | ⟨1, _⟩ => show r.val = win0_13.index t (1 : Fin 2) * 512 + 1 * s.val; rw [(idx_out t).2.2.2.2.2.2.2.1.2]; omega
  rw [hi]
  exact (congrFun (Value.blocks13 m c t (flush0_13 t)) (ix2 e s)).trans (flushed13 m c t s r hr e)

theorem flushed14 (t : Fin cfg0.N) (s : Fin 512) (r : Fin 16384) (hr : r.val = 512 * t.val + s.val) (e : Fin 128) :
    (dats m 0 c).flushed 14 t (ix2 e s) = Cert.Proj.col (argX m c) (argG m c) (argD m c) (argW m c) r ⟨3200 + e.val, by omega⟩ := by
  rw [Value.flushed14]
  refine (out14 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk3 m c t x _)

theorem result14 (r : Fin 16384) (e : Fin 128) : (dats m 0 c).arrAt 14 cfg0.N (ix2 e r) = Cert.Proj.col (argX m c) (argG m c) (argD m c) (argW m c) r ⟨3200 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 e r = ((cfg0.win 14).blk t).view.emb (ix2 e s) := by
    funext a
    apply Fin.ext
    match a with
    | ⟨0, _⟩ => show e.val = win0_14.index t (0 : Fin 2) * 128 + 1 * e.val; rw [(idx_out t).2.2.2.2.2.2.2.2.1.1]; omega
    | ⟨1, _⟩ => show r.val = win0_14.index t (1 : Fin 2) * 512 + 1 * s.val; rw [(idx_out t).2.2.2.2.2.2.2.2.1.2]; omega
  rw [hi]
  exact (congrFun (Value.blocks14 m c t (flush0_14 t)) (ix2 e s)).trans (flushed14 m c t s r hr e)

theorem flushed15 (t : Fin cfg0.N) (s : Fin 512) (r : Fin 16384) (hr : r.val = 512 * t.val + s.val) (e : Fin 512) :
    (dats m 0 c).flushed 15 t (ix2 e s) = Cert.Proj.col (argX m c) (argG m c) (argD m c) (argW m c) r ⟨3352 + e.val, by omega⟩ := by
  rw [Value.flushed15]
  refine (out15 (iblk m c 0 t) (iblk m c 1 t) (iblk m c 2 t) (iblk m c 3 t) (iblk m c 4 t) (iblk m c 5 t) s e).trans ?_
  exact Finset.sum_congr rfl fun x _ => congrArg₂ (· * ·) (hid_eq m c t s r hr x) (blk4 m c t x e)

theorem result15 (r : Fin 16384) (e : Fin 512) : (dats m 0 c).arrAt 15 cfg0.N (ix2 e r) = Cert.Proj.col (argX m c) (argG m c) (argD m c) (argW m c) r ⟨3352 + e.val, by omega⟩ := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 e r = ((cfg0.win 15).blk t).view.emb (ix2 e s) := by
    funext a
    apply Fin.ext
    match a with
    | ⟨0, _⟩ => show e.val = win0_15.index t (0 : Fin 2) * 512 + 1 * e.val; rw [(idx_out t).2.2.2.2.2.2.2.2.2.1.1]; omega
    | ⟨1, _⟩ => show r.val = win0_15.index t (1 : Fin 2) * 512 + 1 * s.val; rw [(idx_out t).2.2.2.2.2.2.2.2.2.1.2]; omega
  rw [hi]
  exact (congrFun (Value.blocks15 m c t (flush0_15 t)) (ix2 e s)).trans (flushed15 m c t s r hr e)

theorem flushed16 (t : Fin cfg0.N) (s : Fin 512) (r : Fin 16384) (hr : r.val = 512 * t.val + s.val) (e : Fin 32) :
    (dats m 0 c).flushed 16 t (ix2 e s) = Cert.Proj.gate (argX m c) (argG m c) (argD m c) (argW m c) e r := by
  rw [Value.flushed16]
  refine (out16 (iblk m c 0 t) (iblk m c 1 t) (iblk m c 2 t) (iblk m c 3 t) (iblk m c 4 t) (iblk m c 5 t) s e).trans ?_
  unfold Cert.Proj.gate
  by_cases h3 : e.val / 4 % 4 < 3
  · rw [dif_pos h3]
    refine Finset.sum_congr rfl fun x _ => ?_
    rw [mul_comm]
    exact congrArg₂ (· * ·) (hid_eq m c t s r hr x) ((blk5 m c t e x).trans (dif_pos h3))
  · rw [dif_neg h3]
    refine Finset.sum_eq_zero fun x _ => ?_
    have h0 : iblk m c 5 t (ix2 e x) = (0 : EReal) := (blk5 m c t e x).trans (dif_neg h3)
    exact (congrArg (· * hid (iblk m c 0 t) (iblk m c 1 t) (iblk m c 2 t) s x) h0).trans (zero_mul _)

theorem result16 (r : Fin 16384) (e : Fin 32) : (dats m 0 c).arrAt 16 cfg0.N (ix2 e r) = Cert.Proj.gate (argX m c) (argG m c) (argD m c) (argW m c) e r := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 e r = ((cfg0.win 16).blk t).view.emb (ix2 e s) := by
    funext a
    apply Fin.ext
    match a with
    | ⟨0, _⟩ => show e.val = win0_16.index t (0 : Fin 2) * 32 + 1 * e.val; rw [(idx_out t).2.2.2.2.2.2.2.2.2.2.1.1]; omega
    | ⟨1, _⟩ => show r.val = win0_16.index t (1 : Fin 2) * 512 + 1 * s.val; rw [(idx_out t).2.2.2.2.2.2.2.2.2.2.1.2]; omega
  rw [hi]
  exact (congrFun (Value.blocks16 m c t (flush0_16 t)) (ix2 e s)).trans (flushed16 m c t s r hr e)

theorem flushed17 (t : Fin cfg0.N) (s : Fin 512) (r : Fin 16384) (hr : r.val = 512 * t.val + s.val) (e : Fin 2048) :
    (dats m 0 c).flushed 17 t (ix2 s e) = Cert.Proj.hid (argX m c) (argG m c) (argD m c) r e := by
  rw [Value.flushed17]
  refine (out17 (iblk m c 0 t) (iblk m c 1 t) (iblk m c 2 t) (iblk m c 3 t) (iblk m c 4 t) (iblk m c 5 t) s e).trans ?_
  exact hid_eq m c t s r hr e

theorem result17 (r : Fin 16384) (e : Fin 2048) : (dats m 0 c).arrAt 17 cfg0.N (ix2 r e) = Cert.Proj.hid (argX m c) (argG m c) (argD m c) r e := by
  have hN : cfg0.N = 32 := N_0
  let t : Fin cfg0.N := ⟨r.val / 512, by omega⟩
  let s : Fin 512 := ⟨r.val % 512, Nat.mod_lt _ (by decide)⟩
  have hr : r.val = 512 * t.val + s.val := by show r.val = 512 * (r.val / 512) + r.val % 512; omega
  have hi : ix2 r e = ((cfg0.win 17).blk t).view.emb (ix2 s e) := by
    funext a
    apply Fin.ext
    match a with
    | ⟨0, _⟩ => show r.val = win0_17.index t (0 : Fin 2) * 512 + 1 * s.val; rw [(idx_out t).2.2.2.2.2.2.2.2.2.2.2.1]; omega
    | ⟨1, _⟩ => show e.val = win0_17.index t (1 : Fin 2) * 2048 + 1 * e.val; rw [(idx_out t).2.2.2.2.2.2.2.2.2.2.2.2]; omega
  rw [hi]
  exact (congrFun (Value.blocks17 m c t (flush0_17 t)) (ix2 s e)).trans (flushed17 m c t s r hr e)

end Cert.Kernel4Ideal.Proj

end
-- ==== Proof.MemSpec.lean ====
/- Attention to the memory as functions of numbers: a query's scores against 256 keys, the weights, and the weighted values. -/
module

public import Idealize.ShloMosaic.PureOps
public import Idealize.ShloMosaic.Lib.Pointwise
public import Idealize.ShloMosaic.PureOps.Ideal
public import Idealize.ShloMosaic.PureOps.Ideal.Laws

@[expose] public section

noncomputable section

namespace Cert.Mem

open Idealize.ShloMosaic

/-- The score of a query against key `p`. -/
def score (q : Fin 128 → EReal) (k : Fin 256 → Fin 128 → EReal) (p : Fin 256) : EReal :=
  (∑ d, k p d * q d) * Ideal.ofBits .f32 0x3DB504F3#32

/-- The greatest score. -/
def top (s : Fin 256 → EReal) : EReal := Finset.univ.fold max (Ideal.ofBits .f32 0xFF800000#32) s

/-- The weights before they are divided by their sum. -/
def weight (s : Fin 256 → EReal) (p : Fin 256) : EReal := Ideal.exp (s p - top s)

/-- The values' sum with these weights, divided after the sum. -/
def attend (s v : Fin 256 → EReal) : EReal := (∑ p, v p * weight s p) * Ideal.div 1 (∑ p, weight s p)

/-- Column `e` of row `r` of all the sequences' rows: the head is `e / 128`. -/
def out (q : Fin 2 → Fin 8192 → Fin 512 → EReal) (k v : Fin 2 → Fin 256 → Fin 512 → EReal) (r : Fin 16384) (e : Fin 512) : EReal :=
  attend (score (fun d => q ⟨r.val / 8192, by omega⟩ ⟨r.val % 8192, Nat.mod_lt _ (by decide)⟩ ⟨e.val / 128 * 128 + d.val, by omega⟩)
      (fun p d => k ⟨r.val / 8192, by omega⟩ p ⟨e.val / 128 * 128 + d.val, by omega⟩))
    (fun p => v ⟨r.val / 8192, by omega⟩ p e)

def real (x : EReal) : Prop := x ≠ ⊤ ∧ x ≠ ⊥

theorem real.coe {x : EReal} (h : real x) : ∃ y : ℝ, x = y := ⟨x.toReal, (EReal.coe_toReal h.1 h.2).symm⟩

theorem real_coe (y : ℝ) : real (y : EReal) := ⟨EReal.coe_ne_top y, EReal.coe_ne_bot y⟩

theorem real.mul {x y : EReal} (hx : real x) (hy : real y) : real (x * y) := by
  obtain ⟨a, rfl⟩ := hx.coe
  obtain ⟨b, rfl⟩ := hy.coe
  rw [← EReal.coe_mul]; exact real_coe _

theorem real_sum {ι : Type} [Fintype ι] (f : ι → EReal) (h : ∀ i, real (f i)) : real (∑ i, f i) := by
  choose g hg using fun i => (h i).coe
  simp only [hg]
  rw [show (∑ i, (g i : EReal)) = ((∑ i, g i : ℝ) : EReal) from (map_sum (⟨⟨Real.toEReal, EReal.coe_zero⟩, EReal.coe_add⟩ : ℝ →+ EReal) g Finset.univ).symm]
  exact real_coe _

theorem negInf : Ideal.ofBits .f32 0xFF800000#32 = ⊥ := by simp [Ideal.ofBits, Ideal.ieee]

theorem scale_real : real (Ideal.ofBits .f32 0x3DB504F3#32) := by
  have h : ∃ y : ℝ, Ideal.ofBits .f32 0x3DB504F3#32 = y := by
    simp only [Ideal.ofBits, Ideal.ieee]
    rw [if_neg (by decide), if_neg (by decide)]
    exact ⟨_, rfl⟩
  obtain ⟨y, hy⟩ := h
  rw [hy]; exact real_coe y

theorem score_real (q : Fin 128 → EReal) (k : Fin 256 → Fin 128 → EReal) (hq : ∀ d, real (q d)) (hk : ∀ p d, real (k p d)) (p : Fin 256) :
    real (score q k p) := (real_sum _ fun d => (hk p d).mul (hq d)).mul scale_real

theorem score_comm (q : Fin 128 → EReal) (k : Fin 256 → Fin 128 → EReal) (p : Fin 256) :
    (∑ d, q d * k p d) * Ideal.ofBits .f32 0x3DB504F3#32 = score q k p :=
  congrArg (· * _) (Finset.sum_congr rfl fun d _ => mul_comm (q d) (k p d))

theorem max_top (s : Fin 256 → EReal) : max (Ideal.ofBits .f32 0xFF800000#32) (top s) = top s := by
  rw [negInf]; exact max_eq_right bot_le

theorem top_real (s : Fin 256 → EReal) (h : ∀ p, real (s p)) : real (top s) := by
  constructor
  · exact ne_of_lt ((Finset.fold_max_lt ⊤).mpr ⟨by rw [negInf]; exact bot_lt_top, fun p _ => lt_top_iff_ne_top.mpr (h p).1⟩)
  · exact ne_of_gt ((Finset.lt_fold_max ⊥).mpr (Or.inr ⟨0, Finset.mem_univ _, bot_lt_iff_ne_bot.mpr (h 0).2⟩))

theorem weight_coe (s : Fin 256 → EReal) (h : ∀ p, real (s p)) : ∃ w : Fin 256 → ℝ, (∀ p, 0 < w p) ∧ ∀ p, weight s p = w p := by
  obtain ⟨t, ht⟩ := (top_real s h).coe
  choose g hg using fun p => (h p).coe
  refine ⟨fun p => Real.exp (g p - t), fun p => Real.exp_pos _, fun p => ?_⟩
  unfold weight
  rw [ht, hg p, ← EReal.coe_sub]
  rfl

theorem sum_mul_real {ι : Type} [Fintype ι] (f : ι → EReal) (c : ℝ) (hc : 0 ≤ c) : (∑ i, f i) * (c : EReal) = ∑ i, f i * (c : EReal) := by
  classical
  refine Finset.induction_on (Finset.univ : Finset ι) (by simp) fun i t hi ih => ?_
  rw [Finset.sum_insert hi, Finset.sum_insert hi,
    EReal.right_distrib_of_nonneg_of_ne_top (EReal.coe_nonneg.mpr hc) (EReal.coe_ne_top c), ih]

/-- Dividing each weight by their sum before the values' sum is the same, for finite scores. -/
theorem attend_eq (s v : Fin 256 → EReal) (h : ∀ p, real (s p)) :
    ∑ p, v p * Ideal.div (weight s p) (∑ p, weight s p) = attend s v := by
  obtain ⟨w, hw, hs⟩ := weight_coe s h
  have hL : (∑ p, weight s p) = ((∑ p, w p : ℝ) : EReal) := by
    simp only [hs]
    exact (map_sum (⟨⟨Real.toEReal, EReal.coe_zero⟩, EReal.coe_add⟩ : ℝ →+ EReal) w Finset.univ).symm
  have hpos : (0 : ℝ) < ∑ p, w p := Finset.sum_pos (fun p _ => hw p) ⟨0, Finset.mem_univ _⟩
  have hne : ((∑ p, w p : ℝ) : EReal) ≠ 0 := fun e => hpos.ne' (EReal.coe_eq_zero.mp e)
  unfold attend
  rw [hL]
  simp only [Ideal.div, if_neg hne]
  rw [one_mul, ← EReal.coe_inv, sum_mul_real _ _ (inv_nonneg.mpr hpos.le)]
  exact Finset.sum_congr rfl fun p _ => (mul_assoc _ _ _).symm

/-! ## The memory's keys and values -/

/-- Column `e` of memory row `p` of sequence `b`, of the keys and values side by side. -/
def proj (x : Fin 2 → Fin 256 → Fin 2048 → EReal) (w : Fin 2048 → Fin 1024 → EReal) (b : Fin 2) (p : Fin 256) (e : Fin 1024) : EReal :=
  ∑ d, x b p d * w d e

end Cert.Mem
end
-- ==== Proof.MemRef.lean ====
/- The memory attention's reference read at an index, and that of the memory's keys and values. -/
module

public import proofs.«01_k».proof.Proof.Gen.Reference5Ideal.Run
public import proofs.«01_k».proof.Proof.Gen.Reference6Ideal.Run
public import proofs.«01_k».proof.Proof.MemSpec

@[expose] public section

set_option maxRecDepth 16384

noncomputable section

namespace Cert.Reference5Ideal.Mem

open Cert.Reference5Ideal Cert.Reference5Ideal.Gen Idealize.ShloMosaic Idealize.ShloMosaic.TcCoe Idealize.SL.Sem

section Parts
variable (q : FVec Ideal S2x8192x512 .f32) (k v : FVec Ideal S2x256x512 .f32)

/-- The scores of all the queries. -/
def scores : FVec Ideal S2x4x8192x256 .f32 :=
  mulf (F := Ideal) (Host.dotGeneral (F := Ideal) (φ₁ := .f32) (φ₂ := .f32) dot_S2x8192x4x128_S2x256x4x128_S2x4x8192x256_3_3_1_1_02_02 none (shapeCast S2x8192x4x128 q shapeCasts_S2x8192x512_S2x8192x4x128)
    (shapeCast S2x256x4x128 k shapeCasts_S2x256x512_S2x256x4x128)) (broadcastInDim S2x4x8192x256 ![] bcast_S_S2x4x8192x256 (constant S_ .f32 0x3DB504F3#32))

theorem scores_at (b : Fin 2) (h : Fin 4) (s : Fin 8192) (p : Fin 256) : scores q k (ix4 b h s p) =
    Cert.Mem.score (fun d => q (ix3 b s ⟨h.val * 128 + d.val, by omega⟩)) (fun p d => k (ix3 b p ⟨h.val * 128 + d.val, by omega⟩)) p := by
  refine Eq.trans ?_ (Cert.Mem.score_comm _ _ p)
  pointwise [scores]

variable (X : FVec Ideal S2x4x8192x256 .f32)

/-- The greatest score of each query. -/
def tops : FVec Ideal S2x4x8192 .f32 :=
  Host.reduce FloatOps.maximumf X (constant S_ .f32 0xFF800000#32) reducesTo_S2x4x8192x256_S2x4x8192_d3 h_S_

theorem reduces : S2x4x8192x256.Reduces [3] S2x4x8192 := by decide

theorem tops_at (b : Fin 2) (h : Fin 4) (s : Fin 8192) : tops X (ix3 b h s) = Cert.Mem.top fun p => X (ix4 b h s p) := by
  unfold tops
  rw [Host.reduce_eq_fold_single FloatOps.maximumf X _ _ reduces]
  have hf : X ∘ reduces.lift (ix3 b h s) = fun p : Fin 256 => X (ix4 b h s p) := funext fun p => congrArg X (by
    funext a; apply Fin.ext
    match a with
    | ⟨0, _⟩ => rfl
    | ⟨1, _⟩ => rfl
    | ⟨2, _⟩ => rfl
    | ⟨3, _⟩ => rfl)
  exact congrArg (fun f => Finset.fold max (Ideal.ofBits .f32 0xFF800000#32) f (Finset.univ : Finset (Fin 256))) hf

variable (M : FVec Ideal S2x4x8192 .f32)

/-- The weights before their division, over the greatest scores. -/
def weights : FVec Ideal S2x4x8192x256 .f32 :=
  Host.exp (F := Ideal) (subf (F := Ideal) X (broadcastInDim S2x4x8192x256 ![0, 1, 2, 3] bcast_S2x4x8192x1_S2x4x8192x256_0_1_2_3
    (broadcastInDim S2x4x8192x1 ![0, 1, 2] bcast_S2x4x8192_S2x4x8192x1_0_1_2 (maximumf (F := Ideal) (broadcastInDim S2x4x8192 ![] bcast_S_S2x4x8192 (constant S_ .f32 0xFF800000#32)) M))))

theorem weights_over (b : Fin 2) (h : Fin 4) (s : Fin 8192) (p : Fin 256) : weights X M (ix4 b h s p) =
    Ideal.exp (X (ix4 b h s p) - max (Ideal.ofBits .f32 0xFF800000#32) (M (ix3 b h s))) := by
  pointwise [weights]

theorem weights_at (b : Fin 2) (h : Fin 4) (s : Fin 8192) (p : Fin 256) : weights X (tops X) (ix4 b h s p) = Cert.Mem.weight (fun p => X (ix4 b h s p)) p := by
  rw [weights_over, tops_at, Cert.Mem.max_top]
  rfl

def shares : FVec Ideal S2x4x8192x256 .f32 :=
  Host.divf (F := Ideal) X (broadcastInDim S2x4x8192x256 ![0, 1, 2, 3] bcast_S2x4x8192x1_S2x4x8192x256_0_1_2_3
    (broadcastInDim S2x4x8192x1 ![0, 1, 2] bcast_S2x4x8192_S2x4x8192x1_0_1_2 (Host.reduceAdd (F := Ideal) X (constant S_ .f32 0x00000000#32) reducesTo_S2x4x8192x256_S2x4x8192_d3 h_S_)))

theorem shares_at (b : Fin 2) (h : Fin 4) (s : Fin 8192) (p : Fin 256) : shares X (ix4 b h s p) = Ideal.div (X (ix4 b h s p)) (∑ p, X (ix4 b h s p)) := by
  pointwise [shares]

def mixed : FVec Ideal S512x16384 .bf16 :=
  transpose S512x16384 [1, 0] (truncf (F := Ideal) .bf16 (shapeCast S16384x512 (transpose S2x8192x4x128 [0, 3, 1, 2]
    (Host.dotGeneral (F := Ideal) (φ₁ := .f32) (φ₂ := .f32) dot_S2x256x4x128_S2x4x8192x256_S2x4x128x8192_1_3_3_2_02_01 none (shapeCast S2x256x4x128 v shapeCasts_S2x256x512_S2x256x4x128) X)
    transposes_S2x4x128x8192_S2x8192x4x128_0_3_1_2) shapeCasts_S2x8192x4x128_S16384x512) bitsLt_bf16_f32) transposes_S16384x512_S512x16384_1_0

theorem mixed_at (r : Fin 16384) (e : Fin 512) : mixed v X (ix2 e r) =
    (∑ p, v (ix3 ⟨r.val / 8192, by omega⟩ p e) * X (ix4 ⟨r.val / 8192, by omega⟩ ⟨e.val / 128, by omega⟩ ⟨r.val % 8192, Nat.mod_lt _ (by decide)⟩ p) : EReal) := by
  pointwise [mixed]

/-- The result at an index, for finite queries and keys. -/
theorem result_at (hq : ∀ i, Cert.Mem.real (q i)) (hk : ∀ i, Cert.Mem.real (k i)) (r : Fin 16384) (e : Fin 512) :
    mixed v (shares (weights (scores q k) (tops (scores q k)))) (ix2 e r) =
      Cert.Mem.out (fun b s d => q (ix3 b s d)) (fun b p d => k (ix3 b p d)) (fun b p d => v (ix3 b p d)) r e := by
  rw [mixed_at]
  simp only [shares_at, weights_at, scores_at]
  exact Cert.Mem.attend_eq _ _ (Cert.Mem.score_real _ _ (fun _ => hq _) fun _ _ => hk _)

end Parts

theorem run_at (m : (ℓ : Loc nD τ sig) → Buf (Elt Ideal) ℓ) (ρ : Dev nD → PrngReg) :
    θ_run defs (onTc (τ := τ) (main (F := Ideal))) ⟨m, fun _ => 0, ρ⟩ fun s => ∀ c : Dev nD,
      s.2.mem ((c.tc : Thread nD τ).loc main_v21) = mixed (m ((c.tc : Thread nD τ).loc main_arg2))
        (shares (weights (scores (m ((c.tc : Thread nD τ).loc main_arg0)) (m ((c.tc : Thread nD τ).loc main_arg1)))
          (tops (scores (m ((c.tc : Thread nD τ).loc main_arg0)) (m ((c.tc : Thread nD τ).loc main_arg1))))))
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2) :=
  (θ_run defs _ _).mono (fun s h c => ⟨(h c).1, (h c).2⟩) (Value.run m ρ)

end Cert.Reference5Ideal.Mem

namespace Cert.Reference6Ideal.Mem

open Cert.Reference6Ideal Cert.Reference6Ideal.Gen Idealize.ShloMosaic Idealize.ShloMosaic.TcCoe Idealize.SL.Sem

theorem run_at (m : (ℓ : Loc nD τ sig) → Buf (Elt Ideal) ℓ) (ρ : Dev nD → PrngReg) :
    θ_run defs (onTc (τ := τ) (main (F := Ideal))) ⟨m, fun _ => 0, ρ⟩ fun s => ∀ c : Dev nD,
      (∀ (b : Fin 2) (p : Fin 256) (e : Fin 512), s.2.mem ((c.tc : Thread nD τ).loc main_v3) (ix3 b p e) =
        Cert.Mem.proj (fun b p d => m ((c.tc : Thread nD τ).loc main_arg0) (ix3 b p d)) (fun d e => m ((c.tc : Thread nD τ).loc main_arg1) (ix2 d e)) b p ⟨e.val, by omega⟩)
      ∧ (∀ (b : Fin 2) (p : Fin 256) (e : Fin 512), s.2.mem ((c.tc : Thread nD τ).loc main_v5) (ix3 b e p) =
        Cert.Mem.proj (fun b p d => m ((c.tc : Thread nD τ).loc main_arg0) (ix3 b p d)) (fun d e => m ((c.tc : Thread nD τ).loc main_arg1) (ix2 d e)) b p ⟨512 + e.val, by omega⟩)
      ∧ s.2.mem ((c.tc : Thread nD τ).loc main_arg0) = m ((c.tc : Thread nD τ).loc main_arg0)
      ∧ s.2.mem ((c.tc : Thread nD τ).loc main_arg1) = m ((c.tc : Thread nD τ).loc main_arg1) := by
  refine (θ_run defs _ _).mono (fun s h c => ⟨fun b p e => ?_, fun b p e => ?_, (h c).2.2⟩) (Value.run m ρ)
  · rw [(h c).1]
    pointwise
    rfl
  · rw [(h c).2.1]
    pointwise
    rfl

end Cert.Reference6Ideal.Mem
end
-- ==== Proof.MemTile.lean ====
module

public import proofs.«01_k».proof.Proof.Gen.Kernel5Ideal.Value
public import proofs.«01_k».proof.Proof.MemSpec
public import Idealize.ShloMosaic.Lib.Pipeline.ValueKit
public import Idealize.ShloMosaic.Lib.Pipeline.Value
public import Idealize.ShloMosaic.Lib.Claim

@[expose] public section

set_option maxRecDepth 16384

noncomputable section

namespace Cert.Kernel5Ideal.Mem

open Cert.Kernel5Ideal Cert.Kernel5Ideal.Gen Idealize.ShloMosaic Idealize.ShloMosaic.TcCoe

section Tile
variable (x0 : Vec Ideal S512x1024 .bf16) (x1 : Vec Ideal S1x256x512 .bf16) (x2 : Vec Ideal S1x512x256 .bf16)

/-- Row `e` of the tile at query `s`. -/
def cell (e : Fin 512) (s : Fin 1024) : EReal :=
  Cert.Mem.attend (Cert.Mem.score (fun d => x0 (ix2 ⟨e.val / 128 * 128 + d.val, by omega⟩ s)) (fun p d => x1 (ix3 0 p ⟨e.val / 128 * 128 + d.val, by omega⟩)))
    (fun p => x2 (ix3 0 e p))

def tile : Vec Ideal S512x1024 .bf16 := fun j => cell x0 x1 x2 (j 0) (j 1)

/-- A head's cell, its first row `a` given apart. -/
theorem cell_head (a : Nat) (ha : a / 128 * 128 = a) (e : Fin 128) (h : a + 128 ≤ 512) (s : Fin 1024) :
    cell x0 x1 x2 ⟨a + e.val, by omega⟩ s =
      Cert.Mem.attend (Cert.Mem.score (fun d => x0 (ix2 ⟨a + d.val, by omega⟩ s)) (fun p d => x1 (ix3 0 p ⟨a + d.val, by omega⟩)))
        (fun p => x2 (ix3 0 ⟨a + e.val, by omega⟩ p)) := by
  have he : (a + e.val) / 128 * 128 = a := by omega
  unfold cell
  simp only [he]

theorem part0 (e : Fin 128) (s : Fin 1024) : k0_pay3 (View.ld x1 r0_0) (View.ld x0 r0_1) (View.ld x2 r0_2) (ix2 e s) =
      Cert.Mem.attend (Cert.Mem.score (fun d => x0 (ix2 ⟨d.val, by omega⟩ s)) (fun p d => x1 (ix3 0 p ⟨d.val, by omega⟩)))
        (fun p => x2 (ix3 0 ⟨e.val, by omega⟩ p)) := by
  pointwise [r0_0, r0_1, r0_2, k0_pay3]
  rfl

theorem part1 (e : Fin 128) (s : Fin 1024) : k0_pay6 (k0_pay4 (View.ld x1 r0_3) (View.ld x0 r0_4)) (k0_pay5 (View.ld x1 r0_3) (View.ld x0 r0_4)) (View.ld x2 r0_5) (ix2 e s) =
      Cert.Mem.attend (Cert.Mem.score (fun d => x0 (ix2 ⟨128 + d.val, by omega⟩ s)) (fun p d => x1 (ix3 0 p ⟨128 + d.val, by omega⟩)))
        (fun p => x2 (ix3 0 ⟨128 + e.val, by omega⟩ p)) := by
  pointwise [r0_3, r0_4, r0_5, k0_pay6, k0_pay4, k0_pay5]
  rfl

theorem part2 (e : Fin 128) (s : Fin 1024) : k0_pay1 (k0_pay7 (View.ld x1 r0_6) (View.ld x0 r0_7) (View.ld x2 r0_8)) (ix2 e s) =
      Cert.Mem.attend (Cert.Mem.score (fun d => x0 (ix2 ⟨256 + d.val, by omega⟩ s)) (fun p d => x1 (ix3 0 p ⟨256 + d.val, by omega⟩)))
        (fun p => x2 (ix3 0 ⟨256 + e.val, by omega⟩ p)) := by
  pointwise [r0_6, r0_7, r0_8, k0_pay1, k0_pay7]
  rfl

theorem part3 (e : Fin 128) (s : Fin 1024) : k0_pay2 (View.ld x1 r0_9) (View.ld x0 r0_10) (View.ld x2 r0_11) (ix2 e s) =
      Cert.Mem.attend (Cert.Mem.score (fun d => x0 (ix2 ⟨384 + d.val, by omega⟩ s)) (fun p d => x1 (ix3 0 p ⟨384 + d.val, by omega⟩)))
        (fun p => x2 (ix3 0 ⟨384 + e.val, by omega⟩ p)) := by
  pointwise [r0_9, r0_10, r0_11, k0_pay2]
  rfl

theorem out_eq : out0_3 x0 x1 x2 = tile x0 x1 x2 := by
  funext y
  refine View.canon_apply_of_pieces (Val := Elt Ideal) (e := .bf16) (tile x0 x1 x2) _ ?_ y (cover0_3 _ _ _ _ y)
  simp only [List.mem_cons, List.not_mem_nil, or_false, forall_eq_or_imp, forall_eq]
  refine ⟨fun x => ?_, fun x => ?_, fun x => ?_, fun x => ?_⟩ <;>
    obtain ⟨e, s, rfl⟩ : ∃ (e : Fin 128) (s : Fin 1024), x = ix2 e s := ⟨x 0, x 1, eq_ix2 x⟩
  · have h : r0_10.emb (ix2 e s) = ix2 ⟨384 + e.val, by omega⟩ s := by
      funext a
      apply Fin.ext
      match a with
      | ⟨0, _⟩ => show 384 + 1 * e.val = 384 + e.val; omega
      | ⟨1, _⟩ => show 0 + 1 * s.val = s.val; omega
    rw [h]
    exact (part3 x0 x1 x2 e s).trans (cell_head x0 x1 x2 384 (by decide) e (by decide) s).symm
  · have h : r0_7.emb (ix2 e s) = ix2 ⟨256 + e.val, by omega⟩ s := by
      funext a
      apply Fin.ext
      match a with
      | ⟨0, _⟩ => show 256 + 1 * e.val = 256 + e.val; omega
      | ⟨1, _⟩ => show 0 + 1 * s.val = s.val; omega
    rw [h]
    exact (part2 x0 x1 x2 e s).trans (cell_head x0 x1 x2 256 (by decide) e (by decide) s).symm
  · have h : r0_4.emb (ix2 e s) = ix2 ⟨128 + e.val, by omega⟩ s := by
      funext a
      apply Fin.ext
      match a with
      | ⟨0, _⟩ => show 128 + 1 * e.val = 128 + e.val; omega
      | ⟨1, _⟩ => show 0 + 1 * s.val = s.val; omega
    rw [h]
    exact (part1 x0 x1 x2 e s).trans (cell_head x0 x1 x2 128 (by decide) e (by decide) s).symm
  · have h : r0_1.emb (ix2 e s) = ix2 ⟨0 + e.val, by omega⟩ s := by
      funext a
      apply Fin.ext
      match a with
      | ⟨0, _⟩ => show 0 + 1 * e.val = 0 + e.val; omega
      | ⟨1, _⟩ => show 0 + 1 * s.val = s.val; omega
    rw [h]
    have hz : (⟨0 + e.val, by omega⟩ : Fin 512) = ⟨e.val, by omega⟩ := Fin.ext (Nat.zero_add _)
    refine (part0 x0 x1 x2 e s).trans (Eq.trans ?_ (cell_head x0 x1 x2 0 (by decide) e (by decide) s).symm)
    simp only [Nat.zero_add]

end Tile
end Cert.Kernel5Ideal.Mem
end
-- ==== Proof.MemValue.lean ====
/- The memory attention call's result at an index is the attention of MemSpec, and the results of the memory's projection its keys and
   values. -/
module

public import proofs.«01_k».proof.Proof.MemTile
public import proofs.«01_k».proof.Proof.Gen.Kernel6Ideal.Value

@[expose] public section

set_option maxRecDepth 16384

noncomputable section

namespace Cert.Kernel5Ideal.Mem

open Cert.Kernel5Ideal Cert.Kernel5Ideal.Gen Idealize.ShloMosaic Idealize.ShloMosaic.TcCoe Idealize.SL.Sem

theorem idx : ∀ t : Fin cfg0.N, win0_0.index t = ![0, t.val] ∧ win0_1.index t = ![t.val / 8, 0, 0] ∧ win0_2.index t = ![t.val / 8, 0, 0] :=
  (by decide +kernel : ∀ t : Fin grid0.N, _)

theorem idx_out : ∀ t : Fin cfg0.N, win0_3.index t (0 : Fin 2) = 0 ∧ win0_3.index t (1 : Fin 2) = t.val :=
  (by decide +kernel : ∀ t : Fin grid0.N, _)

theorem points (t : Fin cfg0.N) : t.val < 16 := lt_of_lt_of_eq t.isLt (show cfg0.N = 16 from N_0)

variable (m : (ℓ : Loc nD τ sig) → Buf (Elt Ideal) ℓ) (c : Dev nD)

abbrev argQ : Fin 2 → Fin 8192 → Fin 512 → EReal := fun b q x => m ((c : Thread nD τ).loc main_arg0) (ix3 b q x)
abbrev argK : Fin 2 → Fin 256 → Fin 512 → EReal := fun b p x => m ((c : Thread nD τ).loc main_arg1) (ix3 b p x)
abbrev argV : Fin 2 → Fin 256 → Fin 512 → EReal := fun b p x => m ((c : Thread nD τ).loc main_arg2) (ix3 b p x)

section Blocks
variable (t : Fin cfg0.N) (s : Fin 1024) (b : Fin 2) (q : Fin 8192) (hb : b.val = t.val / 8) (h : b.val * 8192 + q.val = 1024 * t.val + s.val)

include h in
theorem blk0 (d : Fin 512) : iblk m c 0 t (ix2 d s) = argQ m c b q d := by blk_ext! [iblk, V, idx t]
include hb in
theorem blk1 (p : Fin 256) (d : Fin 512) : iblk m c 1 t (ix3 0 p d) = argK m c b p d := by blk_ext! [iblk, V, idx t]
include hb in
theorem blk2 (p : Fin 256) (d : Fin 512) : iblk m c 2 t (ix3 0 d p) = argV m c b p d := by blk_ext! [iblk, V, idx t]

end Blocks

theorem block_at (t : Fin cfg0.N) (s : Fin 1024) (e : Fin 512) (r : Fin 16384) (hr : r.val = 1024 * t.val + s.val) :
    (dats m 0 c).flushed 3 t (ix2 e s) = Cert.Mem.out (argQ m c) (argK m c) (argV m c) r e := by
  have ht := points t
  rw [Value.flushed3, out_eq]
  show cell (iblk m c 0 t) (iblk m c 1 t) (iblk m c 2 t) e s = _
  have hb : (⟨r.val / 8192, by omega⟩ : Fin 2).val = t.val / 8 := by show r.val / 8192 = t.val / 8; omega
  have h0 := blk0 m c t s ⟨r.val / 8192, by omega⟩ ⟨r.val % 8192, Nat.mod_lt _ (by decide)⟩ (by show r.val / 8192 * 8192 + r.val % 8192 = _; omega)
  have h1 := blk1 m c t ⟨r.val / 8192, by omega⟩ hb
  have h2 := blk2 m c t ⟨r.val / 8192, by omega⟩ hb
  unfold cell Cert.Mem.out
  exact congrArg₂ Cert.Mem.attend (congrArg₂ Cert.Mem.score (funext fun d => h0 _) (funext fun p => funext fun d => h1 p _)) (funext fun p => h2 p e)

theorem result_at (r : Fin 16384) (e : Fin 512) : (dats m 0 c).arrAt 3 cfg0.N (ix2 e r) = Cert.Mem.out (argQ m c) (argK m c) (argV m c) r e := by
  have hN : cfg0.N = 16 := N_0
  let t : Fin cfg0.N := ⟨r.val / 1024, by omega⟩
  let s : Fin 1024 := ⟨r.val % 1024, Nat.mod_lt _ (by decide)⟩
  have hr : r.val = 1024 * t.val + s.val := by show r.val = 1024 * (r.val / 1024) + r.val % 1024; omega
  have hi : (ix2 e r : S512x16384.Idx) = ((cfg0.win 3).blk t).view.emb (ix2 e s) := by
    funext a
    apply Fin.ext
    match a with
    | ⟨0, _⟩ => show e.val = win0_3.index t (0 : Fin 2) * 512 + 1 * e.val; rw [(idx_out t).1]; omega
    | ⟨1, _⟩ => show r.val = win0_3.index t (1 : Fin 2) * 1024 + 1 * s.val; rw [(idx_out t).2]; omega
  rw [hi]
  exact (congrFun (Value.blocks3 m c t (flush0_3 t)) (ix2 e s)).trans (block_at m c t s e r hr)

end Cert.Kernel5Ideal.Mem

namespace Cert.Kernel6Ideal.Mem

open Cert.Kernel6Ideal Cert.Kernel6Ideal.Gen Idealize.ShloMosaic Idealize.ShloMosaic.TcCoe Idealize.SL.Sem

theorem idx : ∀ t : Fin cfg0.N, win0_0.index t = ![t.val, 0, 0] ∧ win0_1.index t = ![0, 0] ∧ win0_2.index t = ![0, 0] :=
  (by decide +kernel : ∀ t : Fin grid0.N, _)

theorem idx_out : ∀ t : Fin cfg0.N, (win0_3.index t (0 : Fin 3) = t.val ∧ win0_3.index t (1 : Fin 3) = 0 ∧ win0_3.index t (2 : Fin 3) = 0)
    ∧ win0_4.index t (0 : Fin 3) = t.val ∧ win0_4.index t (1 : Fin 3) = 0 ∧ win0_4.index t (2 : Fin 3) = 0 :=
  (by decide +kernel : ∀ t : Fin grid0.N, _)

section Tile
variable (x0 : Vec Ideal S1x256x2048 .f32) (x1 : Vec Ideal S2048x512 .bf16) (x2 : Vec Ideal S512x2048 .bf16)

theorem keys_at (p : Fin 256) (e : Fin 512) : out0_3 x0 x1 x2 (ix3 0 p e) = (∑ d, x0 (ix3 0 p d) * x1 (ix2 d e) : EReal) := by
  unfold out0_3
  rw [View.canon_unit_zero (by funext a; fin_cases a <;> rfl)]
  pointwise [r0_0, r0_1, k0_pay2, k0_pay1]

theorem values_at (p : Fin 256) (e : Fin 512) : out0_4 x0 x1 x2 (ix3 0 e p) = (∑ d, x2 (ix2 e d) * x0 (ix3 0 p d) : EReal) := by
  unfold out0_4
  rw [View.canon_unit_zero (by funext a; fin_cases a <;> rfl)]
  pointwise [r0_0, r0_3, k0_pay3, k0_pay1]

end Tile

variable (m : (ℓ : Loc nD τ sig) → Buf (Elt Ideal) ℓ) (c : Dev nD)

abbrev argX : Fin 2 → Fin 256 → Fin 2048 → EReal := fun b p d => m ((c : Thread nD τ).loc main_arg0) (ix3 b p d)
abbrev argW : Fin 2048 → Fin 1024 → EReal := fun d e => m ((c : Thread nD τ).loc main_arg1) (ix2 d e)

theorem blk0 (t : Fin cfg0.N) (b : Fin 2) (h : b.val = t.val) (p : Fin 256) (d : Fin 2048) : iblk m c 0 t (ix3 0 p d) = argX m c b p d := by
  blk_ext! [iblk, V, idx t]
theorem blk1 (t : Fin cfg0.N) (d : Fin 2048) (e : Fin 512) : iblk m c 1 t (ix2 d e) = argW m c d ⟨e.val, by omega⟩ := by
  blk_ext! [iblk, V, idx t]
theorem blk2 (t : Fin cfg0.N) (d : Fin 2048) (e : Fin 512) : iblk m c 2 t (ix2 e d) = argW m c d ⟨512 + e.val, by omega⟩ := by
  blk_ext! [iblk, V, idx t]

theorem result3 (b : Fin 2) (p : Fin 256) (e : Fin 512) : (dats m 0 c).arrAt 3 cfg0.N (ix3 b p e) =
    Cert.Mem.proj (argX m c) (argW m c) b p ⟨e.val, by omega⟩ := by
  have hN : cfg0.N = 2 := N_0
  let t : Fin cfg0.N := ⟨b.val, by omega⟩
  have hi : (ix3 b p e : S2x256x512.Idx) = ((cfg0.win 3).blk t).view.emb (ix3 0 p e) := by
    funext a
    apply Fin.ext
    match a with
    | ⟨0, _⟩ => show b.val = win0_3.index t (0 : Fin 3) * 1 + 1 * 0; rw [(idx_out t).1.1]; show b.val = b.val * 1 + 1 * 0; omega
    | ⟨1, _⟩ => show p.val = win0_3.index t (1 : Fin 3) * 256 + 1 * p.val; rw [(idx_out t).1.2.1]; omega
    | ⟨2, _⟩ => show e.val = win0_3.index t (2 : Fin 3) * 512 + 1 * e.val; rw [(idx_out t).1.2.2]; omega
  rw [hi]
  refine (congrFun (Value.blocks3 m c t (flush0_3 t)) (ix3 0 p e)).trans ?_
  rw [Value.flushed3]
  refine (keys_at (iblk m c 0 t) (iblk m c 1 t) (iblk m c 2 t) p e).trans (Finset.sum_congr rfl fun d _ => ?_)
  exact congrArg₂ (· * ·) (blk0 m c t b rfl p d) (blk1 m c t d e)

theorem result4 (b : Fin 2) (p : Fin 256) (e : Fin 512) : (dats m 0 c).arrAt 4 cfg0.N (ix3 b e p) =
    Cert.Mem.proj (argX m c) (argW m c) b p ⟨512 + e.val, by omega⟩ := by
  have hN : cfg0.N = 2 := N_0
  let t : Fin cfg0.N := ⟨b.val, by omega⟩
  have hi : (ix3 b e p : S2x512x256.Idx) = ((cfg0.win 4).blk t).view.emb (ix3 0 e p) := by
    funext a
    apply Fin.ext
    match a with
    | ⟨0, _⟩ => show b.val = win0_4.index t (0 : Fin 3) * 1 + 1 * 0; rw [(idx_out t).2.1]; show b.val = b.val * 1 + 1 * 0; omega
    | ⟨1, _⟩ => show e.val = win0_4.index t (1 : Fin 3) * 512 + 1 * e.val; rw [(idx_out t).2.2.1]; omega
    | ⟨2, _⟩ => show p.val = win0_4.index t (2 : Fin 3) * 256 + 1 * p.val; rw [(idx_out t).2.2.2]; omega
  rw [hi]
  refine (congrFun (Value.blocks4 m c t (flush0_4 t)) (ix3 0 e p)).trans ?_
  rw [Value.flushed4]
  refine (values_at (iblk m c 0 t) (iblk m c 1 t) (iblk m c 2 t) p e).trans (Finset.sum_congr rfl fun d _ => ?_)
  exact (congrArg₂ (fun x y : EReal => x * y) (blk2 m c t d e) (blk0 m c t b rfl p d)).trans (mul_comm _ _)

end Cert.Kernel6Ideal.Mem
end
-- ==== Proof.MemPre.lean ====
/- The precondition of the memory attention's value, read at an index: every query and every key is finite. -/
module

public import proofs.«01_k».proof.Pre_finite
public import proofs.«01_k».proof.Proof.MemSpec

@[expose] public section

noncomputable section

namespace Cert.Pre_finite.Mem

open Cert.Pre_finite Idealize.ShloMosaic

theorem facts : Cert.Pre_finite.Facts where
  bcast_S_S2x8192x512 := by decide
  bcast_S_S2x256x512 := by decide

theorem real_of_lt (x : EReal) (h : Ideal.cmp .olt (max x (-x)) (Ideal.ofBits .f32 0x7F800000#32) = 1#1) : Cert.Mem.real x := by
  have htop : Ideal.ofBits .f32 0x7F800000#32 = (⊤ : EReal) := by simp [Ideal.ofBits, Ideal.ieee]
  rw [htop] at h
  constructor
  · rintro rfl
    simp [Ideal.cmp] at h
  · rintro rfl
    simp [Ideal.cmp] at h

variable [Cert.Pre_finite.Facts] (q : FVec Ideal S2x8192x512 .f32) (k v : FVec Ideal S2x256x512 .f32)

theorem queries_real (h : (fn (F := Ideal) q k v).1 = fun _ => 1#1) (i : S2x8192x512.Idx) : Cert.Mem.real (q i) :=
  real_of_lt (q i) (congrFun h i)

theorem keys_real (h : (fn (F := Ideal) q k v).2 = fun _ => 1#1) (i : S2x256x512.Idx) : Cert.Mem.real (k i) :=
  real_of_lt (k i) (congrFun h i)

end Cert.Pre_finite.Mem
end
-- ==== Proof.CmpSpec.lean ====
module

public import Idealize.ShloMosaic.Lib.Pipeline.ValueKit

@[expose] public section

noncomputable section

namespace Cert.Cmp

open Idealize.ShloMosaic

/-- GELU of `x` by its tanh formula. -/
def gelu (x : EReal) : EReal :=
  x * (Ideal.ofBits .f32 0x3F000000#32 * (1 + Ideal.tanh (Ideal.ofBits .f32 0x3F4C422A#32 *
    (x + Ideal.ofBits .f32 0x3D372713#32 * (x * (x * x))))))

/-- The row that is row `l` of block `n`, a block of 32 rows starting at row `16 * n`; the last block's second half is the first rows. -/
def row (n : Fin 512) (l : Fin 32) : Fin 8192 := ⟨(16 * n.val + l.val) % 8192, Nat.mod_lt _ (by decide)⟩

/-- Block `n` of group `g`, with its position embedding, times the first weights. -/
def pre (x : Fin 8192 → Fin 128 → EReal) (p : Fin 32 → Fin 64 → EReal) (w : Fin 32 → Fin 64 → Fin 64 → EReal) (n : Fin 512) (g : Fin 2)
    (e : Fin 64) : EReal :=
  ∑ l : Fin 32, ∑ d : Fin 64, (x (row n l) ⟨64 * g.val + d.val, by omega⟩ + p l d) * w l d e

/-- The compressed block. -/
def out (x : Fin 8192 → Fin 128 → EReal) (p : Fin 32 → Fin 64 → EReal) (w : Fin 32 → Fin 64 → Fin 64 → EReal) (v : Fin 64 → Fin 64 → EReal)
    (n : Fin 512) (g : Fin 2) (f : Fin 64) : EReal :=
  ∑ e : Fin 64, gelu (pre x p w n g e) * v e f

theorem sum_mul {a b c : ℕ} (h : a * b = c) (f : Fin c → EReal) :
    ∑ k, f k = ∑ i : Fin a, ∑ j : Fin b, f ⟨b * i.val + j.val, by
      have := i.isLt; have := j.isLt; subst h
      calc b * i.val + j.val < b * i.val + b := by omega
        _ = (i.val + 1) * b := by ring
        _ ≤ a * b := Nat.mul_le_mul_right _ (by omega)⟩ := by
  subst h
  rw [← Fintype.sum_prod_type', ← finProdFinEquiv.sum_comp]
  refine Finset.sum_congr rfl fun x _ => congrArg f (Fin.ext ?_)
  show x.2.val + b * x.1.val = b * x.1.val + x.2.val
  omega

/-- One half of the blocks' rows: with weights that are zero off the group's own columns, the sum over all columns is over the group's. -/
theorem half (F : Fin 2048 → EReal) (W : Fin 2048 → EReal) (G : Fin 16 → Fin 2 → Fin 64 → EReal) (U : Fin 16 → Fin 64 → EReal) (g : Fin 2)
    (hF : ∀ (l : Fin 16) (h : Fin 2) (d : Fin 64), F ⟨128 * l.val + (64 * h.val + d.val), by omega⟩ = G l h d)
    (hW : ∀ (l : Fin 16) (h : Fin 2) (d : Fin 64), W ⟨128 * l.val + (64 * h.val + d.val), by omega⟩ = if h = g then U l d else 0) :
    ∑ k, F k * W k = ∑ l, ∑ d, G l g d * U l d := by
  rw [sum_mul (a := 16) (b := 128) rfl]
  refine Finset.sum_congr rfl fun l _ => ?_
  rw [sum_mul (a := 2) (b := 64) rfl]
  have h : ∀ (h : Fin 2) (d : Fin 64), F ⟨128 * l.val + (64 * h.val + d.val), by omega⟩ * W ⟨128 * l.val + (64 * h.val + d.val), by omega⟩
      = if h = g then G l h d * U l d else 0 := fun h d => by
    rw [hF, hW]
    split <;> simp
  refine (Finset.sum_congr rfl fun i _ => Finset.sum_congr rfl fun j _ => h i j).trans ?_
  rw [Finset.sum_eq_single g]
  · simp
  · intro b _ hb; simp [hb]
  · intro hg; exact absurd (Finset.mem_univ g) hg

/-- The two halves make the block. -/
theorem halves (f : Fin 32 → EReal) :
    ∑ l, f l = ∑ l : Fin 16, f ⟨l.val, by omega⟩ + ∑ l : Fin 16, f ⟨16 + l.val, by omega⟩ := by
  rw [sum_mul (a := 2) (b := 16) rfl, Fin.sum_univ_two]
  exact congrArg₂ (· + ·) (Finset.sum_congr rfl fun l _ => congrArg f (Fin.ext (by show 16 * 0 + l.val = l.val; omega)))
    (Finset.sum_congr rfl fun l _ => congrArg f (Fin.ext (by show 16 * 1 + l.val = 16 + l.val; omega)))

/-- The second product, with weights that are zero off the group's own columns. -/
theorem second (H : Fin 128 → EReal) (W : Fin 128 → EReal) (A : Fin 2 → Fin 64 → EReal) (U : Fin 64 → EReal) (g : Fin 2)
    (hH : ∀ (h : Fin 2) (d : Fin 64), H ⟨64 * h.val + d.val, by omega⟩ = A h d)
    (hW : ∀ (h : Fin 2) (d : Fin 64), W ⟨64 * h.val + d.val, by omega⟩ = if h = g then U d else 0) :
    ∑ k, H k * W k = ∑ d, A g d * U d := by
  rw [sum_mul (a := 2) (b := 64) rfl]
  refine (Finset.sum_congr rfl fun i _ => Finset.sum_congr rfl fun j _ =>
    (show _ = (if i = g then A i j * U j else 0) by rw [hH, hW]; split <;> simp)).trans ?_
  rw [Finset.sum_eq_single g]
  · simp
  · intro b _ hb; simp [hb]
  · intro hg; exact absurd (Finset.mem_univ g) hg

end Cert.Cmp
end
-- ==== Proof.CmpRef.lean ====
/- The reference of the compression call, at an index, is the layer of CmpSpec. -/
module

public import proofs.«01_k».proof.Proof.Gen.Reference7Ideal.Run
public import proofs.«01_k».proof.Proof.CmpSpec
public import Idealize.ShloMosaic.Lib.Pipeline.ValueKit
public import Idealize.ShloMosaic.Lib.Pipeline.Value
public import Idealize.ShloMosaic.Lib.Claim

@[expose] public section

set_option maxRecDepth 16384

noncomputable section

namespace Cert.Reference7Ideal.Cmp

open Cert.Reference7Ideal Cert.Reference7Ideal.Gen Idealize.ShloMosaic Idealize.ShloMosaic.TcCoe

/-- The rows of each block: its sixteen rows, then the next sixteen, the first rows after the last. -/
def blocks (x : FVec Ideal S2x8192x128 .f32) : FVec Ideal S2x512x32x2x64 .f32 :=
  concatenate S2x512x32x2x64 2 [⟨S2x512x16x2x64, shapeCast _ x shapeCasts_S2x8192x128_S2x512x16x2x64⟩,
    ⟨S2x512x16x2x64, concatenate S2x512x16x2x64 1
      [⟨S2x511x16x2x64, extractStridedSlice S2x511x16x2x64 ![0, 1, 0, 0, 0] (shapeCast _ x shapeCasts_S2x8192x128_S2x512x16x2x64) slices_S2x512x16x2x64_S2x511x16x2x64_0_1_0_0_0⟩,
       ⟨S2x1x16x2x64, extractStridedSlice S2x1x16x2x64 ![0, 0, 0, 0, 0] (shapeCast _ x shapeCasts_S2x8192x128_S2x512x16x2x64) slices_S2x512x16x2x64_S2x1x16x2x64_0_0_0_0_0⟩]
      concatenates_S2x511x16x2x64_S2x1x16x2x64_S2x512x16x2x64_d1⟩] concatenates_S2x512x16x2x64_S2x512x16x2x64_S2x512x32x2x64_d2

theorem blocks_at (x : FVec Ideal S2x8192x128 .f32) (b : Fin 2) (n : Fin 512) (l : Fin 32) (g : Fin 2) (d : Fin 64) :
    blocks x (ix5 b n l g d) = x (ix3 b (Cert.Cmp.row n l) ⟨64 * g.val + d.val, by omega⟩) := by
  unfold blocks
  pointwise
  have at_ : ∀ (r : Fin 8192) (e : Fin 128), r = Cert.Cmp.row n l → e.val = 64 * g.val + d.val →
      x (ix3 b r e) = x (ix3 b (Cert.Cmp.row n l) ⟨64 * g.val + d.val, by omega⟩) := fun r e hr he => by
    subst hr; exact congrArg (fun e => x (ix3 b _ e)) (Fin.ext he)
  have hn := n.isLt
  by_cases h : l.val < 16
  · refine (dif_pos h).trans (at_ _ _ (Fin.ext ?_) (by show g.val * 64 + d.val = 64 * g.val + d.val; omega))
    show n.val * 16 + l.val = (16 * n.val + l.val) % 8192
    omega
  · refine (dif_neg h).trans ?_
    by_cases h' : n.val < 511
    · refine (dif_pos h').trans (at_ _ _ (Fin.ext ?_) (by show g.val * 64 + d.val = 64 * g.val + d.val; omega))
      show (1 + n.val) * 16 + (l.val - 16) = (16 * n.val + l.val) % 8192
      omega
    · refine (dif_neg h').trans (at_ _ _ (Fin.ext ?_) (by show g.val * 64 + d.val = 64 * g.val + d.val; omega))
      show (n.val - 511) * 16 + (l.val - 16) = (16 * n.val + l.val) % 8192
      omega

/-- The hidden rows before GELU, from the blocks. -/
def hid (y : FVec Ideal S2x512x32x2x64 .f32) (p : FVec Ideal S32x64 .f32) (w : FVec Ideal S32x64x64 .f32) : FVec Ideal S2x2x512x64 .f32 :=
  transpose S2x2x512x64 [1, 3, 2, 0] (Host.dotGeneral dot_S32x64x64_S2x512x32x2x64_S64x2x512x2_10_42_2_013_n_n none w
    (addf y (broadcastInDim S2x512x32x2x64 ![0, 1, 2, 3, 4] bcast_S1x1x32x1x64_S2x512x32x2x64_0_1_2_3_4
      (broadcastInDim S1x1x32x1x64 ![2, 4] bcast_S32x64_S1x1x32x1x64_2_4 p)))) transposes_S64x2x512x2_S2x2x512x64_1_3_2_0

theorem hid_at (y : FVec Ideal S2x512x32x2x64 .f32) (p : FVec Ideal S32x64 .f32) (w : FVec Ideal S32x64x64 .f32) (b g : Fin 2) (n : Fin 512) (e : Fin 64) :
    hid y p w (ix4 b g n e) = ∑ l : Fin 32, ∑ d : Fin 64, (y (ix5 b n l g d) + p (ix2 l d)) * w (ix3 l d e) := by
  unfold hid
  pointwise
  rw [Finset.sum_comm]
  exact Finset.sum_congr rfl fun l _ => Finset.sum_congr rfl fun d _ => mul_comm _ _

/-- GELU and the second product. -/
def fin (h : FVec Ideal S2x2x512x64 .f32) (w : FVec Ideal S64x64 .f32) : FVec Ideal S2x512x128 .f32 :=
  shapeCast _ (transpose S2x512x2x64 [0, 2, 1, 3] (Host.dotGeneral dot_S2x2x512x64_S64x64_S2x2x512x64_3_0_012_1_n_n none
    (mulf h (mulf (broadcastInDim S2x2x512x64 ![] bcast_S_S2x2x512x64 (constant S_ .f32 0x3F000000#32)) (addf (broadcastInDim S2x2x512x64 ![] bcast_S_S2x2x512x64 (constant S_ .f32 0x3F800000#32))
      (Host.tanh (mulf (broadcastInDim S2x2x512x64 ![] bcast_S_S2x2x512x64 (constant S_ .f32 0x3F4C422A#32)) (addf h (mulf (broadcastInDim S2x2x512x64 ![] bcast_S_S2x2x512x64 (constant S_ .f32 0x3D372713#32))
        (mulf (mulf h h) h)))))))) w) transposes_S2x2x512x64_S2x512x2x64_0_2_1_3) shapeCasts_S2x512x2x64_S2x512x128

theorem fin_at (h : FVec Ideal S2x2x512x64 .f32) (w : FVec Ideal S64x64 .f32) (b : Fin 2) (n : Fin 512) (g : Fin 2) (f : Fin 64) :
    fin h w (ix3 b n ⟨64 * g.val + f.val, by omega⟩) = ∑ e : Fin 64, Cert.Cmp.gelu (h (ix4 b g n e)) * w (ix2 e f) := by
  unfold fin
  pointwise [Cert.Cmp.gelu]
  exact Finset.sum_congr rfl fun e _ => by rw [mul_assoc (h _) (h _) (h _)]

variable (m : (ℓ : Loc nD τ sig) → Buf (Elt Ideal) ℓ) (c : Dev nD)

theorem v24 : Value.res_main_v24 m c = truncf (F := Ideal) .bf16 (fin (hid (blocks (m ((c.tc : Thread nD τ).loc main_arg0)))
    (m ((c.tc : Thread nD τ).loc main_arg2)) (m ((c.tc : Thread nD τ).loc main_arg3))) (m ((c.tc : Thread nD τ).loc main_arg4))) bitsLt_bf16_f32 := rfl

theorem v50 : Value.res_main_v50 m c = truncf (F := Ideal) .bf16 (transpose S2x128x512 [0, 2, 1] (fin (hid (blocks (m ((c.tc : Thread nD τ).loc main_arg1)))
    (m ((c.tc : Thread nD τ).loc main_arg5)) (m ((c.tc : Thread nD τ).loc main_arg6))) (m ((c.tc : Thread nD τ).loc main_arg7))) transposes_S2x512x128_S2x128x512_0_2_1) bitsLt_bf16_f32 := rfl

/-- The layer of CmpSpec, from arrays. -/
theorem out_at (x : FVec Ideal S2x8192x128 .f32) (p : FVec Ideal S32x64 .f32) (w : FVec Ideal S32x64x64 .f32) (v : FVec Ideal S64x64 .f32)
    (b : Fin 2) (n : Fin 512) (g : Fin 2) (f : Fin 64) :
    fin (hid (blocks x) p w) v (ix3 b n ⟨64 * g.val + f.val, by omega⟩) =
      Cert.Cmp.out (fun q e => x (ix3 b q e)) (fun l d => p (ix2 l d)) (fun l d e => w (ix3 l d e)) (fun d e => v (ix2 d e)) n g f := by
  rw [fin_at]
  refine Finset.sum_congr rfl fun e _ => congrArg (fun a => Cert.Cmp.gelu a * v (ix2 e f)) ?_
  rw [hid_at]
  exact Finset.sum_congr rfl fun l _ => Finset.sum_congr rfl fun d _ =>
    congrArg (fun a => (a + p (ix2 l d)) * w (ix3 l d e)) (blocks_at x b n l g d)

theorem keys_at (b : Fin 2) (n : Fin 512) (g : Fin 2) (f : Fin 64) : Value.res_main_v24 m c (ix3 b n ⟨64 * g.val + f.val, by omega⟩) =
    Cert.Cmp.out (fun q e => m ((c.tc : Thread nD τ).loc main_arg0) (ix3 b q e)) (fun l d => m ((c.tc : Thread nD τ).loc main_arg2) (ix2 l d))
      (fun l d e => m ((c.tc : Thread nD τ).loc main_arg3) (ix3 l d e)) (fun d e => m ((c.tc : Thread nD τ).loc main_arg4) (ix2 d e)) n g f := by
  rw [v24]
  exact out_at _ _ _ _ b n g f

theorem values_at (b : Fin 2) (g : Fin 2) (f : Fin 64) (n : Fin 512) : Value.res_main_v50 m c (ix3 b ⟨64 * g.val + f.val, by omega⟩ n) =
    Cert.Cmp.out (fun q e => m ((c.tc : Thread nD τ).loc main_arg1) (ix3 b q e)) (fun l d => m ((c.tc : Thread nD τ).loc main_arg5) (ix2 l d))
      (fun l d e => m ((c.tc : Thread nD τ).loc main_arg6) (ix3 l d e)) (fun d e => m ((c.tc : Thread nD τ).loc main_arg7) (ix2 d e)) n g f := by
  rw [v50]
  refine .trans ?_ (out_at _ _ _ _ b n g f)
  generalize fin _ _ = y
  pointwise

end Cert.Reference7Ideal.Cmp
end
-- ==== Proof.CmpTile.lean ====
module

public import proofs.«01_k».proof.Proof.Gen.Kernel7Ideal.Value
public import Idealize.ShloMosaic.Lib.Pipeline.ValueKit
public import Idealize.ShloMosaic.Lib.Pipeline.Value
public import Idealize.ShloMosaic.Lib.Claim
public import proofs.«01_k».proof.Proof.CmpSpec

@[expose] public section

set_option maxRecDepth 16384

noncomputable section

namespace Cert.Kernel7Ideal.Cmp

open Cert.Kernel7Ideal Cert.Kernel7Ideal.Gen Idealize.ShloMosaic Idealize.ShloMosaic.TcCoe

/-- The hidden row's sums before GELU, from the sixteen rows side by side. -/
def pre (x : FVec Ideal S512x2048 .f32) (p : Vec Ideal S1x2048 .f32) (w : Vec Ideal S1x2048x128 .bf16) (q : Vec Ideal S1x2048 .f32)
    (u : Vec Ideal S1x2048x128 .bf16) : FVec Ideal S512x128 .f32 :=
  addf (matmul (φ₂ := .bf16) dot_S512x2048_S2048x128_S512x128_1_0_0_1_n_n none
      (truncf (F := Ideal) .bf16 (addf x (broadcastTo S512x2048 (shapeCast S1x2048 p shapeCasts_S1x2048_S1x2048) broadcasts_S1x2048_S512x2048)) bitsLt_bf16_f32)
      (shapeCast S2048x128 (w : FVec Ideal S1x2048x128 .bf16) shapeCasts_S1x2048x128_S2048x128) (constant (F := Ideal) S512x128 .f32 0x00000000#32))
    (dynamicRotate 0 511#32 none (matmul (φ₂ := .bf16) dot_S512x2048_S2048x128_S512x128_1_0_0_1_n_n none
      (truncf (F := Ideal) .bf16 (addf x (broadcastTo S512x2048 (shapeCast S1x2048 q shapeCasts_S1x2048_S1x2048) broadcasts_S1x2048_S512x2048)) bitsLt_bf16_f32)
      (shapeCast S2048x128 (u : FVec Ideal S1x2048x128 .bf16) shapeCasts_S1x2048x128_S2048x128) (constant (F := Ideal) S512x128 .f32 0x00000000#32)) rotates_S512x128_d0)

theorem pre_at (x : FVec Ideal S512x2048 .f32) (p : Vec Ideal S1x2048 .f32) (w : Vec Ideal S1x2048x128 .bf16) (q : Vec Ideal S1x2048 .f32)
    (u : Vec Ideal S1x2048x128 .bf16) (n : Fin 512) (e : Fin 128) :
    pre x p w q u (ix2 n e) = ∑ k : Fin 2048, (x (ix2 n k) + p (ix2 0 k)) * w (ix3 0 k e)
      + ∑ k : Fin 2048, (x (ix2 ⟨(n.val + 1) % 512, Nat.mod_lt _ (by decide)⟩ k) + q (ix2 0 k)) * u (ix3 0 k e) := by
  unfold pre
  pointwise
  have h : (⟨(n.val + 512 - 511) % 512, Nat.mod_lt _ (by decide)⟩ : Fin 512) = ⟨(n.val + 1) % 512, Nat.mod_lt _ (by decide)⟩ :=
    Fin.ext (by show (n.val + 512 - 511) % 512 = (n.val + 1) % 512; omega)
  exact congrArg (_ + ·) (Finset.sum_congr rfl fun k _ => congrArg (fun a => (x (ix2 a k) + q (ix2 0 k)) * u (ix3 0 k e)) h)

def side (f : Fin 16 → FVec Ideal S512x128 .f32) : FVec Ideal S512x2048 .f32 :=
  concatenate S512x2048 1 (List.ofFn fun l : Fin 16 => (⟨S512x128, f l⟩ : (s : Shape) × (s.Idx → EReal)))
    concatenates_S512x128_S512x128_S512x128_S512x128_S512x128_S512x128_S512x128_S512x128_S512x128_S512x128_S512x128_S512x128_S512x128_S512x128_S512x128_S512x128_S512x2048_d1

theorem side_at (f : Fin 16 → FVec Ideal S512x128 .f32) (n : Fin 512) (k : Fin 2048) :
    side f (ix2 n k) = f ⟨k.val / 128, by omega⟩ (ix2 n ⟨k.val % 128, Nat.mod_lt _ (by decide)⟩) :=
  concatenate_ofFn_apply (t := S512x2048) (s₁ := S512x128) 1 f _ rfl 128 rfl (ix2 n k) ⟨k.val / 128, by omega⟩ rfl
    (ix2 n ⟨k.val % 128, Nat.mod_lt _ (by decide)⟩) rfl (fun b hb => by
      match b with
      | ⟨0, _⟩ => rfl
      | ⟨1, _⟩ => exact absurd rfl hb)

theorem pay31_eq (f : Fin 16 → FVec Ideal S512x128 .f32) (p : Vec Ideal S1x2048 .f32) (w : Vec Ideal S1x2048x128 .bf16) (q : Vec Ideal S1x2048 .f32)
    (u : Vec Ideal S1x2048x128 .bf16) :
    k0_pay31 (f 0) (f 1) (f 2) (f 3) (f 4) (f 5) (f 6) (f 7) (f 8) (f 9) (f 10) (f 11) (f 12) (f 13) (f 14) (f 15) p w q u
      = pre (side f) p w q u := by
  unfold k0_pay31 pre side
  rw [shapeCast_self, shapeCast_self, shapeCast_self, shapeCast_self, shapeCast_self]
  rfl

/-- GELU by its tanh formula, of each entry. -/
def act (y : FVec Ideal S512x128 .f32) : FVec Ideal S512x128 .bf16 := fun j => Cert.Cmp.gelu (y j)

theorem pay16_eq (f : Fin 16 → FVec Ideal S512x128 .f32) (p : Vec Ideal S1x2048 .f32) (w : Vec Ideal S1x2048x128 .bf16) (q : Vec Ideal S1x2048 .f32)
    (u : Vec Ideal S1x2048x128 .bf16) :
    k0_pay16 (f 0) (f 1) (f 2) (f 3) (f 4) (f 5) (f 6) (f 7) (f 8) (f 9) (f 10) (f 11) (f 12) (f 13) (f 14) (f 15) p w q u
      = act (pre (side f) p w q u) := by
  unfold k0_pay16
  rw [shapeCast_self, shapeCast_self]
  change (let y := pre (side f) p w q u;
    truncf (F := Ideal) .bf16 (mulf y (mulf (broadcast S512x128 (Scalar.ofBits (F := Ideal) .f32 0x3F000000#32)) (addf (broadcast S512x128 (Scalar.ofBits (F := Ideal) .f32 0x3F800000#32))
      (tanh (mulf (broadcast S512x128 (Scalar.ofBits (F := Ideal) .f32 0x3F4C422A#32)) (addf y (mulf (broadcast S512x128 (Scalar.ofBits (F := Ideal) .f32 0x3D372713#32)) (mulf y (mulf y y))))))))) bitsLt_bf16_f32) = _
  generalize pre (side f) p w q u = y
  funext j
  obtain ⟨s, e, rfl⟩ : ∃ (s : Fin 512) (e : Fin 128), j = ix2 s e := ⟨j 0, j 1, eq_ix2 j⟩
  pointwise [act, Cert.Cmp.gelu]

theorem pay18_at (a : FVec Ideal S512x128 .bf16) (b : Vec Ideal S128x128 .bf16) (n : Fin 512) (f : Fin 128) :
    k0_pay18 a (k0_pay17 b) (constant (F := Ideal) S512x128 .f32 0x00000000#32) (ix3 0 n f) = ∑ x : Fin 128, a (ix2 n x) * b (ix2 x f) := by
  pointwise [k0_pay18, k0_pay17]

theorem pay1_at (b : Vec Ideal S128x128 .bf16) (f : Fin 16 → FVec Ideal S512x128 .f32) (p : Vec Ideal S1x2048 .f32) (w : Vec Ideal S1x2048x128 .bf16)
    (q : Vec Ideal S1x2048 .f32) (u : Vec Ideal S1x2048x128 .bf16) (n : Fin 512) (e : Fin 128) :
    k0_pay1 (k0_pay19 b)
      (k0_pay31 (f 0) (f 1) (f 2) (f 3) (f 4) (f 5) (f 6) (f 7) (f 8) (f 9) (f 10) (f 11) (f 12) (f 13) (f 14) (f 15) p w q u)
      (k0_pay32 (f 0) (f 1) (f 2) (f 3) (f 4) (f 5) (f 6) (f 7) (f 8) (f 9) (f 10) (f 11) (f 12) (f 13) (f 14) (f 15) p w q u)
      (Scalar.ofBits (F := Ideal) .f32 0x3F800000#32) (ix3 0 e n) =
      ∑ x : Fin 128, b (ix2 e x) * Cert.Cmp.gelu (pre (side f) p w q u (ix2 n x)) := by
  unfold k0_pay32
  rw [pay31_eq]
  generalize pre (side f) p w q u = y
  pointwise [k0_pay1, k0_pay19, Cert.Cmp.gelu]

/-- Every sixteenth row, from row `l`. -/
def rows (x : Vec Ideal S8192x128 .f32) : Fin 16 → FVec Ideal S512x128 .f32 := fun l j =>
  x (ix2 ⟨l.val + 16 * (j 0).val, by have := (j 0).isLt; have : (j 0).val < 512 := this; omega⟩ (j 1))

theorem read_rows (a : Memref sig .tc .vmem S8192x128 .f32) (h : a.IsWhole) (x : Vec Ideal S8192x128 .f32) (l : Fin 16) (off : Fin 2 → ℕ)
    (hoff : off = ![l.val, 0]) (hi) :
    View.readAt (Elt Ideal) a.view { off := off, size := ![512, 128], stride := ![16, 1], inb := hi } (h.unread x) = rows x l := by
  subst hoff
  funext j
  rw [View.readAt_apply, Memref.IsWhole.read_unread]
  refine congrArg x ?_
  funext a
  apply Fin.ext
  match a with
  | ⟨0, _⟩ => rfl
  | ⟨1, _⟩ => show 0 + 1 * (j 1).val = (j 1).val; omega

end Cert.Kernel7Ideal.Cmp
end
-- ==== Proof.CmpHost.lean ====
module

public import proofs.«01_k».proof.Proof.Gen.Kernel7Ideal.Value
public import Idealize.ShloMosaic.Lib.Pipeline.ValueKit
public import Idealize.ShloMosaic.Lib.Pipeline.Value
public import Idealize.ShloMosaic.Lib.Claim

@[expose] public section

set_option maxRecDepth 16384

noncomputable section

namespace Cert.Kernel7Ideal.Cmp

open Cert.Kernel7Ideal Cert.Kernel7Ideal.Gen Idealize.ShloMosaic Idealize.ShloMosaic.TcCoe

/-! The weights the call takes: each group's own columns, zero elsewhere. -/

/-- The first group's columns. -/
def low (w : FVec Ideal S32x64x64 .f32) : FVec Ideal S2x16x64x128 .f32 :=
  concatenate S2x16x64x128 3 [⟨S2x16x64x64, shapeCast S2x16x64x64 w shapeCasts_S32x64x64_S2x16x64x64⟩,
    ⟨S2x16x64x64, broadcastInDim S2x16x64x64 ![] bcast_S_S2x16x64x64 (constant (F := Ideal) S_ .f32 0x00000000#32)⟩]
    concatenates_S2x16x64x64_S2x16x64x64_S2x16x64x128_d3

/-- The second group's columns. -/
def high (w : FVec Ideal S32x64x64 .f32) : FVec Ideal S2x16x64x128 .f32 :=
  concatenate S2x16x64x128 3 [⟨S2x16x64x64, broadcastInDim S2x16x64x64 ![] bcast_S_S2x16x64x64 (constant (F := Ideal) S_ .f32 0x00000000#32)⟩,
    ⟨S2x16x64x64, shapeCast S2x16x64x64 w shapeCasts_S32x64x64_S2x16x64x64⟩]
    concatenates_S2x16x64x64_S2x16x64x64_S2x16x64x128_d3

/-- The two groups' rows, one under the other for each row of a block. -/
def both (a b : FVec Ideal S2x16x64x128 .f32) : FVec Ideal S2x2048x128 .bf16 :=
  truncf (F := Ideal) .bf16 (shapeCast S2x2048x128 (concatenate S2x16x2x64x128 2
    [⟨S2x16x1x64x128, broadcastInDim S2x16x1x64x128 ![0, 1, 3, 4] bcast_S2x16x64x128_S2x16x1x64x128_0_1_3_4 a⟩,
     ⟨S2x16x1x64x128, broadcastInDim S2x16x1x64x128 ![0, 1, 3, 4] bcast_S2x16x64x128_S2x16x1x64x128_0_1_3_4 b⟩]
    concatenates_S2x16x1x64x128_S2x16x1x64x128_S2x16x2x64x128_d2) shapeCasts_S2x16x2x64x128_S2x2048x128) bitsLt_bf16_f32

theorem low_at (w : FVec Ideal S32x64x64 .f32) (h : Fin 2) (l : Fin 16) (d : Fin 64) (e : Fin 128) :
    low w (ix4 h l d e) = if he : e.val < 64 then w (ix3 ⟨16 * h.val + l.val, by omega⟩ d ⟨e.val, he⟩) else 0 := by
  unfold low
  pointwise
  have hx : (⟨h.val * 16 + l.val, by omega⟩ : Fin 32) = ⟨16 * h.val + l.val, by omega⟩ := Fin.ext (by show h.val * 16 + l.val = 16 * h.val + l.val; omega)
  rw [hx]

theorem high_at (w : FVec Ideal S32x64x64 .f32) (h : Fin 2) (l : Fin 16) (d : Fin 64) (e : Fin 128) :
    high w (ix4 h l d e) = if he : e.val < 64 then 0 else w (ix3 ⟨16 * h.val + l.val, by omega⟩ d ⟨e.val - 64, by omega⟩) := by
  unfold high
  pointwise
  have hx : (⟨h.val * 16 + l.val, by omega⟩ : Fin 32) = ⟨16 * h.val + l.val, by omega⟩ := Fin.ext (by show h.val * 16 + l.val = 16 * h.val + l.val; omega)
  rw [hx]

theorem both_at (a b : FVec Ideal S2x16x64x128 .f32) (h : Fin 2) (l : Fin 16) (g : Fin 2) (d : Fin 64) (e : Fin 128) :
    both a b (ix3 h ⟨128 * l.val + (64 * g.val + d.val), by omega⟩ e) = if g = 0 then a (ix4 h l d e) else b (ix4 h l d e) := by
  fin_cases g
  · show both a b (ix3 h ⟨128 * l.val + (64 * 0 + d.val), by omega⟩ e) = a (ix4 h l d e)
    pointwise [both]
    exact if_pos (by omega)
  · show both a b (ix3 h ⟨128 * l.val + (64 * 1 + d.val), by omega⟩ e) = b (ix4 h l d e)
    pointwise [both]
    exact if_neg (by omega)

/-- The first weights as the call takes them. -/
def wide (w : FVec Ideal S32x64x64 .f32) : FVec Ideal S2x2048x128 .bf16 := both (low w) (high w)

theorem wide_at (w : FVec Ideal S32x64x64 .f32) (h : Fin 2) (l : Fin 16) (g : Fin 2) (d : Fin 64) (k : Fin 2) (e : Fin 64) :
    wide w (ix3 h ⟨128 * l.val + (64 * g.val + d.val), by omega⟩ ⟨64 * k.val + e.val, by omega⟩) =
      if g = k then w (ix3 ⟨16 * h.val + l.val, by omega⟩ d e) else 0 := by
  have hk : k.val = 0 ∨ k.val = 1 := by omega
  have hg : g.val = 0 ∨ g.val = 1 := by omega
  have hc : k.val = 1 → (⟨64 * k.val + e.val - 64, by omega⟩ : Fin 64) = e := fun h => Fin.ext (by show 64 * k.val + e.val - 64 = e.val; omega)
  unfold wide
  rw [both_at, low_at, high_at]
  rcases hg with hg | hg <;> rcases hk with hk | hk
  · rw [if_pos (Fin.ext hg), dif_pos (by show 64 * k.val + e.val < 64; omega), if_pos (Fin.ext (hg.trans hk.symm))]
    exact congrArg (fun a => w (ix3 _ d a)) (Fin.ext (by show 64 * k.val + e.val = e.val; omega))
  · rw [if_pos (Fin.ext hg), dif_neg (by show ¬64 * k.val + e.val < 64; omega), if_neg (fun h => by rw [h] at hg; omega)]
  · rw [if_neg (fun h => by rw [h] at hg; exact absurd hg (by decide)), dif_pos (by show 64 * k.val + e.val < 64; omega), if_neg (fun h => by rw [h] at hg; omega)]
  · rw [if_neg (fun h => by rw [h] at hg; exact absurd hg (by decide)), dif_neg (by show ¬64 * k.val + e.val < 64; omega), if_pos (Fin.ext (hg.trans hk.symm))]
    exact congrArg (fun a => w (ix3 _ d a)) (hc hk)

/-- The second weights before their cast. -/
def diag (w : FVec Ideal S64x64 .f32) : FVec Ideal S128x128 .f32 :=
  shapeCast S128x128 (concatenate S2x64x128 0
    [⟨S1x64x128, broadcastInDim S1x64x128 ![1, 2] bcast_S64x128_S1x64x128_1_2 (concatenate S64x128 1
      [⟨S64x64, w⟩, ⟨S64x64, broadcastInDim S64x64 ![] bcast_S_S64x64 (constant (F := Ideal) S_ .f32 0x00000000#32)⟩] concatenates_S64x64_S64x64_S64x128_d1)⟩,
     ⟨S1x64x128, broadcastInDim S1x64x128 ![1, 2] bcast_S64x128_S1x64x128_1_2 (concatenate S64x128 1
      [⟨S64x64, broadcastInDim S64x64 ![] bcast_S_S64x64 (constant (F := Ideal) S_ .f32 0x00000000#32)⟩, ⟨S64x64, w⟩] concatenates_S64x64_S64x64_S64x128_d1)⟩]
    concatenates_S1x64x128_S1x64x128_S2x64x128_d0) shapeCasts_S2x64x128_S128x128

theorem diag_at (w : FVec Ideal S64x64 .f32) (g : Fin 2) (d : Fin 64) (k : Fin 2) (e : Fin 64) :
    diag w (ix2 ⟨64 * g.val + d.val, by omega⟩ ⟨64 * k.val + e.val, by omega⟩) = if g = k then w (ix2 d e) else 0 := by
  have hk : k.val = 0 ∨ k.val = 1 := by omega
  have hg : g.val = 0 ∨ g.val = 1 := by omega
  unfold diag
  rw [show (if g = k then w (ix2 d e) else 0) = if g.val = k.val then w (ix2 d e) else 0 from by simp only [Fin.ext_iff]]
  pointwise
  rcases hg with hg | hg <;> rcases hk with hk | hk
  · refine (dif_pos (by omega)).trans ((dif_pos (by omega)).trans (.trans ?_ (if_pos (by omega)).symm))
    exact congrArg (fun a => w (ix2 d a)) (Fin.ext (by show 64 * k.val + e.val = e.val; omega))
  · exact (dif_pos (by omega)).trans ((dif_neg (by omega)).trans (if_neg (by omega)).symm)
  · exact (dif_neg (by omega)).trans ((dif_pos (by omega)).trans (if_neg (by omega)).symm)
  · refine (dif_neg (by omega)).trans ((dif_neg (by omega)).trans (.trans ?_ (if_pos (by omega)).symm))
    exact congrArg (fun a => w (ix2 d a)) (Fin.ext (by show 64 * k.val + e.val - 64 = e.val; omega))

variable (m : (ℓ : Loc nD τ sig) → Buf (Elt Ideal) ℓ) (c : Dev nD)

theorem v11 : V m c main_v11 = wide (m ((c : Thread nD τ).loc main_arg3)) := by
  unfold V
  rfl

theorem v30 : V m c main_v30 = wide (m ((c : Thread nD τ).loc main_arg6)) := by
  unfold V
  rfl

theorem v40 : V m c main_v40 = diag (m ((c : Thread nD τ).loc main_arg4)) := by
  unfold V
  rfl

theorem v42 : V m c main_v42 = transpose S128x128 [1, 0] (diag (m ((c : Thread nD τ).loc main_arg7))) transposes_S128x128_S128x128_1_0 := by
  unfold V
  rfl

theorem whole3 : ∀ (t : Fin cfg0.N) (a : Fin 3), win0_3.index t a = 0 := (by decide +kernel : ∀ (t : Fin grid0.N) (a : Fin 3), _)
theorem whole4 : ∀ (t : Fin cfg0.N) (a : Fin 2), win0_4.index t a = 0 := (by decide +kernel : ∀ (t : Fin grid0.N) (a : Fin 2), _)
theorem whole6 : ∀ (t : Fin cfg0.N) (a : Fin 3), win0_6.index t a = 0 := (by decide +kernel : ∀ (t : Fin grid0.N) (a : Fin 3), _)
theorem whole7 : ∀ (t : Fin cfg0.N) (a : Fin 2), win0_7.index t a = 0 := (by decide +kernel : ∀ (t : Fin grid0.N) (a : Fin 2), _)

theorem blk3 (t : Fin cfg0.N) (h : Fin 2) (k : Fin 2048) (e : Fin 128) : iblk m c 3 t (ix3 h k e) = wide (m ((c : Thread nD τ).loc main_arg3)) (ix3 h k e) := by
  rw [← v11]
  refine congrArg (V m c main_v11) ?_
  funext a
  apply Fin.ext
  match a with
  | ⟨0, _⟩ => show win0_3.index t (0 : Fin 3) * 2 + 1 * h.val = h.val; rw [whole3]; omega
  | ⟨1, _⟩ => show win0_3.index t (1 : Fin 3) * 2048 + 1 * k.val = k.val; rw [whole3]; omega
  | ⟨2, _⟩ => show win0_3.index t (2 : Fin 3) * 128 + 1 * e.val = e.val; rw [whole3]; omega

theorem blk6 (t : Fin cfg0.N) (h : Fin 2) (k : Fin 2048) (e : Fin 128) : iblk m c 6 t (ix3 h k e) = wide (m ((c : Thread nD τ).loc main_arg6)) (ix3 h k e) := by
  rw [← v30]
  refine congrArg (V m c main_v30) ?_
  funext a
  apply Fin.ext
  match a with
  | ⟨0, _⟩ => show win0_6.index t (0 : Fin 3) * 2 + 1 * h.val = h.val; rw [whole6]; omega
  | ⟨1, _⟩ => show win0_6.index t (1 : Fin 3) * 2048 + 1 * k.val = k.val; rw [whole6]; omega
  | ⟨2, _⟩ => show win0_6.index t (2 : Fin 3) * 128 + 1 * e.val = e.val; rw [whole6]; omega

theorem blk4 (t : Fin cfg0.N) (x y : Fin 128) : iblk m c 4 t (ix2 x y) = diag (m ((c : Thread nD τ).loc main_arg4)) (ix2 x y) := by
  refine Eq.trans ?_ (congrFun (v40 m c) (ix2 x y))
  refine congrArg (V m c main_v40) ?_
  funext a
  apply Fin.ext
  match a with
  | ⟨0, _⟩ => show win0_4.index t (0 : Fin 2) * 128 + 1 * x.val = x.val; rw [whole4]; omega
  | ⟨1, _⟩ => show win0_4.index t (1 : Fin 2) * 128 + 1 * y.val = y.val; rw [whole4]; omega

theorem blk7 (t : Fin cfg0.N) (x y : Fin 128) : iblk m c 7 t (ix2 x y) = diag (m ((c : Thread nD τ).loc main_arg7)) (ix2 y x) := by
  refine Eq.trans ?_ ((congrFun (v42 m c) (ix2 x y)).trans (by pointwise))
  refine congrArg (V m c main_v42) ?_
  funext a
  apply Fin.ext
  match a with
  | ⟨0, _⟩ => show win0_7.index t (0 : Fin 2) * 128 + 1 * x.val = x.val; rw [whole7]; omega
  | ⟨1, _⟩ => show win0_7.index t (1 : Fin 2) * 128 + 1 * y.val = y.val; rw [whole7]; omega

end Cert.Kernel7Ideal.Cmp
end
-- ==== Proof.CmpValue.lean ====
/- The compression call's two results, at an index, are the layer of CmpSpec. -/
module

public import proofs.«01_k».proof.Proof.CmpTile
public import proofs.«01_k».proof.Proof.CmpHost
public import Idealize.ShloMosaic.Lib.Pipeline.ValueKit
public import Idealize.ShloMosaic.Lib.Pipeline.Value
public import Idealize.ShloMosaic.Lib.Claim

@[expose] public section

set_option maxRecDepth 16384

noncomputable section

namespace Cert.Kernel7Ideal.Cmp

open Cert.Kernel7Ideal Cert.Kernel7Ideal.Gen Idealize.ShloMosaic Idealize.ShloMosaic.TcCoe

theorem idx : ∀ t : Fin cfg0.N, win0_0.index t = ![t.val, 0] ∧ win0_1.index t = ![t.val, 0] ∧ win0_2.index t = ![0, 0] ∧ win0_5.index t = ![0, 0] :=
  (by decide +kernel : ∀ t : Fin grid0.N, _)

theorem idx_keys : ∀ t : Fin cfg0.N, win0_8.index t (0 : Fin 3) = t.val ∧ win0_8.index t (1 : Fin 3) = 0 ∧ win0_8.index t (2 : Fin 3) = 0 :=
  (by decide +kernel : ∀ t : Fin grid0.N, _)

theorem idx_values : ∀ t : Fin cfg0.N, win0_9.index t (0 : Fin 3) = t.val ∧ win0_9.index t (1 : Fin 3) = 0 ∧ win0_9.index t (2 : Fin 3) = 0 :=
  (by decide +kernel : ∀ t : Fin grid0.N, _)

theorem points (t : Fin cfg0.N) : t.val < 2 := lt_of_lt_of_eq t.isLt (show cfg0.N = 2 from N_0)

variable (m : (ℓ : Loc nD τ sig) → Buf (Elt Ideal) ℓ) (c : Dev nD)

theorem blk0 (t : Fin cfg0.N) (r : Fin 8192) (d : Fin 128) :
    iblk m c 0 t (ix2 r d) = m ((c : Thread nD τ).loc main_arg0) (ix3 ⟨t.val, points t⟩ r d) := by blk_ext! [iblk, V, idx t]

theorem blk1 (t : Fin cfg0.N) (r : Fin 8192) (d : Fin 128) :
    iblk m c 1 t (ix2 r d) = m ((c : Thread nD τ).loc main_arg1) (ix3 ⟨t.val, points t⟩ r d) := by blk_ext! [iblk, V, idx t]

theorem blk2 (t : Fin cfg0.N) (h : Fin 2) (l : Fin 16) (g : Fin 2) (d : Fin 64) :
    iblk m c 2 t (ix2 h ⟨128 * l.val + (64 * g.val + d.val), by omega⟩) = m ((c : Thread nD τ).loc main_arg2) (ix2 ⟨16 * h.val + l.val, by omega⟩ d) := by
  blk_ext! [iblk, V, idx t]

theorem blk5 (t : Fin cfg0.N) (h : Fin 2) (l : Fin 16) (g : Fin 2) (d : Fin 64) :
    iblk m c 5 t (ix2 h ⟨128 * l.val + (64 * g.val + d.val), by omega⟩) = m ((c : Thread nD τ).loc main_arg5) (ix2 ⟨16 * h.val + l.val, by omega⟩ d) := by
  blk_ext! [iblk, V, idx t]

/-- A hidden row's sums are the block's product with the first weights. -/
theorem pre_eq (x : Vec Ideal S8192x128 .f32) (p : Vec Ideal S2x2048 .f32) (w : Vec Ideal S2x2048x128 .bf16)
    (X : Fin 8192 → Fin 128 → EReal) (P : Fin 32 → Fin 64 → EReal) (W : FVec Ideal S32x64x64 .f32)
    (hx : ∀ r d, x (ix2 r d) = X r d)
    (hp : ∀ (h : Fin 2) (l : Fin 16) (g : Fin 2) (d : Fin 64), p (ix2 h ⟨128 * l.val + (64 * g.val + d.val), by omega⟩) = P ⟨16 * h.val + l.val, by omega⟩ d)
    (hw : ∀ h k e, w (ix3 h k e) = wide W (ix3 h k e)) (n : Fin 512) (g : Fin 2) (e : Fin 64) :
    pre (side (rows x)) (View.ld p (Rect.unit ![0, 0] ![1, 2048] inb_S2x2048_S1x2048_0_0))
      (View.ld w (Rect.unit ![0, 0, 0] ![1, 2048, 128] inb_S2x2048x128_S1x2048x128_0_0_0))
      (View.ld p (Rect.unit ![1, 0] ![1, 2048] inb_S2x2048_S1x2048_1_0))
      (View.ld w (Rect.unit ![1, 0, 0] ![1, 2048, 128] inb_S2x2048x128_S1x2048x128_1_0_0)) (ix2 n ⟨64 * g.val + e.val, by omega⟩) =
      Cert.Cmp.pre X P (fun l d e => W (ix3 l d e)) n g e := by
  have hs : ∀ (n : Fin 512) (l : Fin 16) (h : Fin 2) (d : Fin 64), side (rows x) (ix2 n ⟨128 * l.val + (64 * h.val + d.val), by omega⟩)
      = X ⟨16 * n.val + l.val, by omega⟩ ⟨64 * h.val + d.val, by omega⟩ := fun n l h d => by
    rw [side_at, ← hx]
    refine congrArg₂ (fun a b => x (ix2 a b)) (Fin.ext ?_) (Fin.ext ?_)
    · show (128 * l.val + (64 * h.val + d.val)) / 128 + 16 * n.val = 16 * n.val + l.val; omega
    · show (128 * l.val + (64 * h.val + d.val)) % 128 = 64 * h.val + d.val; omega
  rw [pre_at, Cert.Cmp.pre, Cert.Cmp.halves]
  refine congrArg₂ (· + ·) ?_ ?_
  · refine Cert.Cmp.half _ _ (fun l h d => X ⟨16 * n.val + l.val, by omega⟩ ⟨64 * h.val + d.val, by omega⟩ + P ⟨l.val, by omega⟩ d)
      (fun l d => W (ix3 ⟨l.val, by omega⟩ d e)) g (fun l h d => ?_) (fun l h d => ?_) |>.trans ?_
    · refine congrArg₂ (· + ·) (hs n l h d) ?_
      refine .trans ?_ ((hp 0 l h d).trans (congrArg (P · d) (Fin.ext (by show 16 * 0 + l.val = l.val; omega))))
      pointwise
    · refine .trans ?_ ((hw 0 _ _).trans ((wide_at W 0 l h d g e).trans (congrArg (fun a => if h = g then W (ix3 a d e) else 0) (Fin.ext (by show 16 * 0 + l.val = l.val; omega)))))
      pointwise
    · refine Finset.sum_congr rfl fun l _ => Finset.sum_congr rfl fun d _ => ?_
      refine congrArg (fun r => (X r _ + _) * _) (Fin.ext ?_)
      show 16 * n.val + l.val = (16 * n.val + l.val) % 8192
      omega
  · refine Cert.Cmp.half _ _ (fun l h d => X ⟨16 * ((n.val + 1) % 512) + l.val, by omega⟩ ⟨64 * h.val + d.val, by omega⟩ + P ⟨16 + l.val, by omega⟩ d)
      (fun l d => W (ix3 ⟨16 + l.val, by omega⟩ d e)) g (fun l h d => ?_) (fun l h d => ?_) |>.trans ?_
    · refine congrArg₂ (· + ·) (hs ⟨(n.val + 1) % 512, by omega⟩ l h d) ?_
      refine .trans ?_ ((hp 1 l h d).trans (congrArg (P · d) (Fin.ext (by show 16 * 1 + l.val = 16 + l.val; omega))))
      pointwise
    · refine .trans ?_ ((hw 1 _ _).trans ((wide_at W 1 l h d g e).trans (congrArg (fun a => if h = g then W (ix3 a d e) else 0) (Fin.ext (by show 16 * 1 + l.val = 16 + l.val; omega)))))
      pointwise
    · refine Finset.sum_congr rfl fun l _ => Finset.sum_congr rfl fun d _ => ?_
      refine congrArg (fun r => (X r _ + _) * _) (Fin.ext ?_)
      show 16 * ((n.val + 1) % 512) + l.val = (16 * n.val + (16 + l.val)) % 8192
      omega

theorem keys_block (t : Fin cfg0.N) (n : Fin 512) (g : Fin 2) (f : Fin 64) :
    (outsAt0 m c t).1 (ix3 0 n ⟨64 * g.val + f.val, by omega⟩) =
      Cert.Cmp.out (fun q e => m ((c : Thread nD τ).loc main_arg0) (ix3 ⟨t.val, points t⟩ q e)) (fun l d => m ((c : Thread nD τ).loc main_arg2) (ix2 l d))
      (fun l d e => m ((c : Thread nD τ).loc main_arg3) (ix3 l d e)) (fun d e => m ((c : Thread nD τ).loc main_arg4) (ix2 d e)) n g f := by
  unfold outsAt0
  frame_out
  rw [read_rows (ms0_0 t) (hs0_0 t) (iblk m c 0 t) 0 ![0, 0] rfl, read_rows (ms0_0 t) (hs0_0 t) (iblk m c 0 t) 1 ![1, 0] rfl, read_rows (ms0_0 t) (hs0_0 t) (iblk m c 0 t) 2 ![2, 0] rfl, read_rows (ms0_0 t) (hs0_0 t) (iblk m c 0 t) 3 ![3, 0] rfl, read_rows (ms0_0 t) (hs0_0 t) (iblk m c 0 t) 4 ![4, 0] rfl, read_rows (ms0_0 t) (hs0_0 t) (iblk m c 0 t) 5 ![5, 0] rfl, read_rows (ms0_0 t) (hs0_0 t) (iblk m c 0 t) 6 ![6, 0] rfl, read_rows (ms0_0 t) (hs0_0 t) (iblk m c 0 t) 7 ![7, 0] rfl, read_rows (ms0_0 t) (hs0_0 t) (iblk m c 0 t) 8 ![8, 0] rfl, read_rows (ms0_0 t) (hs0_0 t) (iblk m c 0 t) 9 ![9, 0] rfl, read_rows (ms0_0 t) (hs0_0 t) (iblk m c 0 t) 10 ![10, 0] rfl, read_rows (ms0_0 t) (hs0_0 t) (iblk m c 0 t) 11 ![11, 0] rfl, read_rows (ms0_0 t) (hs0_0 t) (iblk m c 0 t) 12 ![12, 0] rfl, read_rows (ms0_0 t) (hs0_0 t) (iblk m c 0 t) 13 ![13, 0] rfl, read_rows (ms0_0 t) (hs0_0 t) (iblk m c 0 t) 14 ![14, 0] rfl, read_rows (ms0_0 t) (hs0_0 t) (iblk m c 0 t) 15 ![15, 0] rfl]
  rw [show k0_pay2 (rows (iblk m c 0 t) 0) = rows (iblk m c 0 t) 0 from shapeCast_self _ _, show k0_pay3 (rows (iblk m c 0 t) 1) = rows (iblk m c 0 t) 1 from shapeCast_self _ _, show k0_pay4 (rows (iblk m c 0 t) 2) = rows (iblk m c 0 t) 2 from shapeCast_self _ _, show k0_pay5 (rows (iblk m c 0 t) 3) = rows (iblk m c 0 t) 3 from shapeCast_self _ _, show k0_pay6 (rows (iblk m c 0 t) 4) = rows (iblk m c 0 t) 4 from shapeCast_self _ _, show k0_pay7 (rows (iblk m c 0 t) 5) = rows (iblk m c 0 t) 5 from shapeCast_self _ _, show k0_pay8 (rows (iblk m c 0 t) 6) = rows (iblk m c 0 t) 6 from shapeCast_self _ _, show k0_pay9 (rows (iblk m c 0 t) 7) = rows (iblk m c 0 t) 7 from shapeCast_self _ _, show k0_pay10 (rows (iblk m c 0 t) 8) = rows (iblk m c 0 t) 8 from shapeCast_self _ _, show k0_pay11 (rows (iblk m c 0 t) 9) = rows (iblk m c 0 t) 9 from shapeCast_self _ _, show k0_pay12 (rows (iblk m c 0 t) 10) = rows (iblk m c 0 t) 10 from shapeCast_self _ _, show k0_pay13 (rows (iblk m c 0 t) 11) = rows (iblk m c 0 t) 11 from shapeCast_self _ _, show k0_pay14 (rows (iblk m c 0 t) 12) = rows (iblk m c 0 t) 12 from shapeCast_self _ _, show k0_pay15 (rows (iblk m c 0 t) 13) = rows (iblk m c 0 t) 13 from shapeCast_self _ _]
  refine (congrFun (congrArg (k0_pay18 · _ _) (pay16_eq (rows (iblk m c 0 t)) _ _ _ _)) _).trans ?_
  refine (pay18_at _ _ n _).trans ?_
  refine Cert.Cmp.second _ _ (fun h d => Cert.Cmp.gelu (Cert.Cmp.pre (fun q e => m ((c : Thread nD τ).loc main_arg0) (ix3 ⟨t.val, points t⟩ q e))
      (fun l d => m ((c : Thread nD τ).loc main_arg2) (ix2 l d)) (fun l d e => m ((c : Thread nD τ).loc main_arg3) (ix3 l d e)) n h d))
      (fun d => m ((c : Thread nD τ).loc main_arg4) (ix2 d f)) g (fun h d => ?_) (fun h d => ?_)
  · exact congrArg Cert.Cmp.gelu (pre_eq _ _ _ _ _ (m ((c : Thread nD τ).loc main_arg3)) (blk0 m c t) (fun h l g d => blk2 m c t h l g d) (blk3 m c t) n h d)
  · exact (blk4 m c t _ _).trans (diag_at _ h d g f)

theorem values_block (t : Fin cfg0.N) (g : Fin 2) (f : Fin 64) (n : Fin 512) :
    (outsAt0 m c t).2 (ix3 0 ⟨64 * g.val + f.val, by omega⟩ n) =
      Cert.Cmp.out (fun q e => m ((c : Thread nD τ).loc main_arg1) (ix3 ⟨t.val, points t⟩ q e)) (fun l d => m ((c : Thread nD τ).loc main_arg5) (ix2 l d))
      (fun l d e => m ((c : Thread nD τ).loc main_arg6) (ix3 l d e)) (fun d e => m ((c : Thread nD τ).loc main_arg7) (ix2 d e)) n g f := by
  unfold outsAt0
  frame_out
  rw [read_rows (ms0_1 t) (hs0_1 t) (iblk m c 1 t) 0 ![0, 0] rfl, read_rows (ms0_1 t) (hs0_1 t) (iblk m c 1 t) 1 ![1, 0] rfl, read_rows (ms0_1 t) (hs0_1 t) (iblk m c 1 t) 2 ![2, 0] rfl, read_rows (ms0_1 t) (hs0_1 t) (iblk m c 1 t) 3 ![3, 0] rfl, read_rows (ms0_1 t) (hs0_1 t) (iblk m c 1 t) 4 ![4, 0] rfl, read_rows (ms0_1 t) (hs0_1 t) (iblk m c 1 t) 5 ![5, 0] rfl, read_rows (ms0_1 t) (hs0_1 t) (iblk m c 1 t) 6 ![6, 0] rfl, read_rows (ms0_1 t) (hs0_1 t) (iblk m c 1 t) 7 ![7, 0] rfl, read_rows (ms0_1 t) (hs0_1 t) (iblk m c 1 t) 8 ![8, 0] rfl, read_rows (ms0_1 t) (hs0_1 t) (iblk m c 1 t) 9 ![9, 0] rfl, read_rows (ms0_1 t) (hs0_1 t) (iblk m c 1 t) 10 ![10, 0] rfl, read_rows (ms0_1 t) (hs0_1 t) (iblk m c 1 t) 11 ![11, 0] rfl, read_rows (ms0_1 t) (hs0_1 t) (iblk m c 1 t) 12 ![12, 0] rfl, read_rows (ms0_1 t) (hs0_1 t) (iblk m c 1 t) 13 ![13, 0] rfl, read_rows (ms0_1 t) (hs0_1 t) (iblk m c 1 t) 14 ![14, 0] rfl, read_rows (ms0_1 t) (hs0_1 t) (iblk m c 1 t) 15 ![15, 0] rfl]
  rw [show k0_pay20 (rows (iblk m c 1 t) 0) = rows (iblk m c 1 t) 0 from shapeCast_self _ _, show k0_pay21 (rows (iblk m c 1 t) 1) = rows (iblk m c 1 t) 1 from shapeCast_self _ _, show k0_pay22 (rows (iblk m c 1 t) 2) = rows (iblk m c 1 t) 2 from shapeCast_self _ _, show k0_pay23 (rows (iblk m c 1 t) 3) = rows (iblk m c 1 t) 3 from shapeCast_self _ _, show k0_pay24 (rows (iblk m c 1 t) 4) = rows (iblk m c 1 t) 4 from shapeCast_self _ _, show k0_pay25 (rows (iblk m c 1 t) 5) = rows (iblk m c 1 t) 5 from shapeCast_self _ _, show k0_pay26 (rows (iblk m c 1 t) 6) = rows (iblk m c 1 t) 6 from shapeCast_self _ _, show k0_pay27 (rows (iblk m c 1 t) 7) = rows (iblk m c 1 t) 7 from shapeCast_self _ _, show k0_pay28 (rows (iblk m c 1 t) 8) = rows (iblk m c 1 t) 8 from shapeCast_self _ _, show k0_pay29 (rows (iblk m c 1 t) 9) = rows (iblk m c 1 t) 9 from shapeCast_self _ _, show k0_pay30 (rows (iblk m c 1 t) 10) = rows (iblk m c 1 t) 10 from shapeCast_self _ _]
  refine (pay1_at _ (rows (iblk m c 1 t)) _ _ _ _ n _).trans ?_
  refine (Finset.sum_congr rfl fun x _ => mul_comm _ _).trans ?_
  refine Cert.Cmp.second _ _ (fun h d => Cert.Cmp.gelu (Cert.Cmp.pre (fun q e => m ((c : Thread nD τ).loc main_arg1) (ix3 ⟨t.val, points t⟩ q e))
      (fun l d => m ((c : Thread nD τ).loc main_arg5) (ix2 l d)) (fun l d e => m ((c : Thread nD τ).loc main_arg6) (ix3 l d e)) n h d))
      (fun d => m ((c : Thread nD τ).loc main_arg7) (ix2 d f)) g (fun h d => ?_) (fun h d => ?_)
  · exact congrArg Cert.Cmp.gelu (pre_eq _ _ _ _ _ (m ((c : Thread nD τ).loc main_arg6)) (blk1 m c t) (fun h l g d => blk5 m c t h l g d) (blk6 m c t) n h d)
  · exact (blk7 m c t _ _).trans (diag_at _ h d g f)

theorem keys_at (b : Fin 2) (n : Fin 512) (g : Fin 2) (f : Fin 64) : (dats m 0 c).arrAt 8 cfg0.N (ix3 b n ⟨64 * g.val + f.val, by omega⟩) =
    Cert.Cmp.out (fun q e => m ((c : Thread nD τ).loc main_arg0) (ix3 b q e)) (fun l d => m ((c : Thread nD τ).loc main_arg2) (ix2 l d))
      (fun l d e => m ((c : Thread nD τ).loc main_arg3) (ix3 l d e)) (fun d e => m ((c : Thread nD τ).loc main_arg4) (ix2 d e)) n g f := by
  have hN : cfg0.N = 2 := N_0
  let t : Fin cfg0.N := ⟨b.val, by omega⟩
  have hi : (ix3 b n ⟨64 * g.val + f.val, by omega⟩ : S2x512x128.Idx) = ((cfg0.win 8).blk t).view.emb (ix3 0 n ⟨64 * g.val + f.val, by omega⟩) := by
    funext a
    apply Fin.ext
    match a with
    | ⟨0, _⟩ => show b.val = win0_8.index t (0 : Fin 3) * 1 + 1 * 0; rw [(idx_keys t).1]; show b.val = b.val * 1 + 1 * 0; omega
    | ⟨1, _⟩ => show n.val = win0_8.index t (1 : Fin 3) * 512 + 1 * n.val; rw [(idx_keys t).2.1]; omega
    | ⟨2, _⟩ => show 64 * g.val + f.val = win0_8.index t (2 : Fin 3) * 128 + 1 * (64 * g.val + f.val); rw [(idx_keys t).2.2]; omega
  rw [hi]
  refine (congrFun (Value.blocks8 m c t (flush0_8 t)) _).trans ?_
  rw [Value.flushed8]
  exact keys_block m c t n g f

theorem values_at (b : Fin 2) (g : Fin 2) (f : Fin 64) (n : Fin 512) : (dats m 0 c).arrAt 9 cfg0.N (ix3 b ⟨64 * g.val + f.val, by omega⟩ n) =
    Cert.Cmp.out (fun q e => m ((c : Thread nD τ).loc main_arg1) (ix3 b q e)) (fun l d => m ((c : Thread nD τ).loc main_arg5) (ix2 l d))
      (fun l d e => m ((c : Thread nD τ).loc main_arg6) (ix3 l d e)) (fun d e => m ((c : Thread nD τ).loc main_arg7) (ix2 d e)) n g f := by
  have hN : cfg0.N = 2 := N_0
  let t : Fin cfg0.N := ⟨b.val, by omega⟩
  have hi : (ix3 b ⟨64 * g.val + f.val, by omega⟩ n : S2x128x512.Idx) = ((cfg0.win 9).blk t).view.emb (ix3 0 ⟨64 * g.val + f.val, by omega⟩ n) := by
    funext a
    apply Fin.ext
    match a with
    | ⟨0, _⟩ => show b.val = win0_9.index t (0 : Fin 3) * 1 + 1 * 0; rw [(idx_values t).1]; show b.val = b.val * 1 + 1 * 0; omega
    | ⟨1, _⟩ => show 64 * g.val + f.val = win0_9.index t (1 : Fin 3) * 128 + 1 * (64 * g.val + f.val); rw [(idx_values t).2.1]; omega
    | ⟨2, _⟩ => show n.val = win0_9.index t (2 : Fin 3) * 512 + 1 * n.val; rw [(idx_values t).2.2]; omega
  rw [hi]
  refine (congrFun (Value.blocks9 m c t (flush0_9 t)) _).trans ?_
  rw [Value.flushed9]
  exact values_block m c t g f n

end Cert.Kernel7Ideal.Cmp
end
-- ==== Proof.lean ====
/- The claims: the sparse-attention call's frames; the frames and values of the feed-forward call, the out-projection call, the
   input projection call, the memory attention call, the memory's projection call and the compression call. -/
module

public import proofs.«01_k».proof.Defs
public import proofs.«01_k».proof.Proof.Same
public import proofs.«01_k».proof.Proof.Gen.Kernel2.Frame
public import proofs.«01_k».proof.Proof.Gen.Kernel2Ideal.Value
public import proofs.«01_k».proof.Proof.FfnRef
public import proofs.«01_k».proof.Proof.FfnValue
public import proofs.«01_k».proof.Proof.Gen.Kernel3.Frame
public import proofs.«01_k».proof.Proof.Gen.Kernel3Ideal.Value
public import proofs.«01_k».proof.Proof.Gen.Reference3Ideal.Run
public import proofs.«01_k».proof.Proof.OutRef
public import proofs.«01_k».proof.Proof.OutValue
public import proofs.«01_k».proof.Proof.Gen.Kernel4.Frame
public import proofs.«01_k».proof.Proof.Gen.Kernel4Ideal.Value
public import proofs.«01_k».proof.Proof.Gen.Reference4Ideal.Run
public import proofs.«01_k».proof.Proof.ProjRef
public import proofs.«01_k».proof.Proof.ProjValue
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.MemRef
public import proofs.«01_k».proof.Proof.MemValue
public import proofs.«01_k».proof.Proof.MemPre
public import proofs.«01_k».proof.Proof.Gen.Kernel7.Frame
public import proofs.«01_k».proof.Proof.Gen.Kernel7Ideal.Value
public import proofs.«01_k».proof.Proof.Gen.Reference7Ideal.Run
public import proofs.«01_k».proof.Proof.CmpRef
public import proofs.«01_k».proof.Proof.CmpValue
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel_ideal : Cert.quiescent_KernelIdeal := fun m ρ _ =>
  Cert.KernelIdeal.Hand.run_kept (F := Ideal) m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Staged.run (F := Ideal) m ρ)

theorem value_ffn : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Staged.run (F := Ideal) m' ρ')
  rw [(h c).1]
  simp only [hagree c]
  funext j
  obtain ⟨r, e, rfl⟩ : ∃ (r : Fin 16384) (e : Fin 2048), j = ix2 r e := ⟨j 0, j 1, eq_ix2 j⟩
  exact (Cert.Reference2Ideal.Staged.out_at _ _ _ _ _ _ _ r e).trans (Cert.Kernel2Ideal.Ffn.result_at m c r e).symm

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value_out : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  funext j
  obtain ⟨r, e, rfl⟩ : ∃ (r : Fin 16384) (e : Fin 2048), j = ix2 r e := ⟨j 0, j 1, eq_ix2 j⟩
  refine (Cert.Reference3Ideal.Out.result_at m' c r e).trans ?_
  simp only [hagree c]
  exact (Cert.Kernel3Ideal.Out.result_at m c r e).symm

theorem frame_reference4 : Cert.quiescent_Reference4Ideal := fun m ρ _ =>
  (θ_run Cert.Reference4Ideal.defs _ _).mono (fun r h => ⟨fun c => (h c).2.2.2.2.2.2.2.2.2.2.2.2, sem_eq_zero_of_no_sems (by decide) r.2⟩)
    (Cert.Reference4Ideal.Proj.run_at m ρ)

theorem value_proj : Cert.algebraic_Kernel4Ideal_Reference4Ideal := by
  intro m ρ m' ρ' _ hagree
  refine ⟨_, _, _, _, _, _, _, _, _, _, _, _, Cert.Kernel4Ideal.Value.run_blocks (F := Ideal) m ρ, ?_⟩
  refine (θ_run Cert.Reference4Ideal.defs _ _).mono (fun _ h c => ?_) (Cert.Reference4Ideal.Proj.run_at m' ρ')
  obtain ⟨h6, h7, h8, h9, h10, h11, h12, h13, h14, h15, h16, h17, hargs⟩ := h c
  have hx : Cert.Reference4Ideal.Proj.argX m' c = Cert.Kernel4Ideal.Proj.argX m c := by
    unfold Cert.Reference4Ideal.Proj.argX Cert.Kernel4Ideal.Proj.argX; rw [(hagree c).1]
  have hg : Cert.Reference4Ideal.Proj.argG m' c = Cert.Kernel4Ideal.Proj.argG m c := by
    unfold Cert.Reference4Ideal.Proj.argG Cert.Kernel4Ideal.Proj.argG; rw [(hagree c).2.1]
  have hd : Cert.Reference4Ideal.Proj.argD m' c = Cert.Kernel4Ideal.Proj.argD m c := by
    unfold Cert.Reference4Ideal.Proj.argD Cert.Kernel4Ideal.Proj.argD; rw [(hagree c).2.2.1]
  have hw : Cert.Reference4Ideal.Proj.argW m' c = Cert.Kernel4Ideal.Proj.argW m c := by
    unfold Cert.Reference4Ideal.Proj.argW Cert.Kernel4Ideal.Proj.argW; rw [(hagree c).2.2.2]
  rw [hx, hg, hd, hw] at h6 h7 h8 h9 h10 h11 h12 h13 h14 h15 h16
  rw [hx, hg, hd] at h17
  refine ⟨?_, ?_, ?_, ?_, ?_, ?_, ?_, ?_, ?_, ?_, ?_, ?_, hargs⟩ <;> funext j
  · obtain ⟨r, e, rfl⟩ : ∃ (r : Fin 16384) (e : Fin 1024), j = ix2 r e := ⟨j 0, j 1, eq_ix2 j⟩
    exact (h6 r e).trans (Cert.Kernel4Ideal.Proj.result6 m c r e).symm
  · obtain ⟨r, e, rfl⟩ : ∃ (r : Fin 16384) (e : Fin 1024), j = ix2 r e := ⟨j 0, j 1, eq_ix2 j⟩
    exact (h7 r e).trans (Cert.Kernel4Ideal.Proj.result7 m c r e).symm
  · obtain ⟨r, e, rfl⟩ : ∃ (r : Fin 16384) (e : Fin 128), j = ix2 r e := ⟨j 0, j 1, eq_ix2 j⟩
    exact (h8 r e).trans (Cert.Kernel4Ideal.Proj.result8 m c r e).symm
  · obtain ⟨r, e, rfl⟩ : ∃ (r : Fin 16384) (e : Fin 128), j = ix2 r e := ⟨j 0, j 1, eq_ix2 j⟩
    exact (h9 r e).trans (Cert.Kernel4Ideal.Proj.result9 m c r e).symm
  · obtain ⟨r, e, rfl⟩ : ∃ (r : Fin 16384) (e : Fin 128), j = ix2 r e := ⟨j 0, j 1, eq_ix2 j⟩
    exact (h10 r e).trans (Cert.Kernel4Ideal.Proj.result10 m c r e).symm
  · obtain ⟨r, e, rfl⟩ : ∃ (r : Fin 16384) (e : Fin 128), j = ix2 r e := ⟨j 0, j 1, eq_ix2 j⟩
    exact (h11 r e).trans (Cert.Kernel4Ideal.Proj.result11 m c r e).symm
  · obtain ⟨r, e, rfl⟩ : ∃ (r : Fin 16384) (e : Fin 512), j = ix2 e r := ⟨j 1, j 0, eq_ix2 j⟩
    exact (h12 r e).trans (Cert.Kernel4Ideal.Proj.result12 m c r e).symm
  · obtain ⟨r, e, rfl⟩ : ∃ (r : Fin 16384) (e : Fin 128), j = ix2 e r := ⟨j 1, j 0, eq_ix2 j⟩
    exact (h13 r e).trans (Cert.Kernel4Ideal.Proj.result13 m c r e).symm
  · obtain ⟨r, e, rfl⟩ : ∃ (r : Fin 16384) (e : Fin 128), j = ix2 e r := ⟨j 1, j 0, eq_ix2 j⟩
    exact (h14 r e).trans (Cert.Kernel4Ideal.Proj.result14 m c r e).symm
  · obtain ⟨r, e, rfl⟩ : ∃ (r : Fin 16384) (e : Fin 512), j = ix2 e r := ⟨j 1, j 0, eq_ix2 j⟩
    exact (h15 r e).trans (Cert.Kernel4Ideal.Proj.result15 m c r e).symm
  · obtain ⟨r, e, rfl⟩ : ∃ (r : Fin 16384) (e : Fin 32), j = ix2 e r := ⟨j 1, j 0, eq_ix2 j⟩
    exact (h16 r e).trans (Cert.Kernel4Ideal.Proj.result16 m c r e).symm
  · obtain ⟨r, e, rfl⟩ : ∃ (r : Fin 16384) (e : Fin 2048), j = ix2 r e := ⟨j 0, j 1, eq_ix2 j⟩
    exact (h17 r e).trans (Cert.Kernel4Ideal.Proj.result17 m c r e).symm

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Mem.run_at m ρ)

theorem value_attention : Cert.algebraic_Kernel5Ideal_Reference5Ideal_pre_finite (hPre_finite := Cert.Pre_finite.Mem.facts) := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Mem.run_at m' ρ')
  rw [(h c).1, (hagree c).1, (hagree c).2.1, (hagree c).2.2]
  funext j
  obtain ⟨r, e, rfl⟩ : ∃ (r : Fin 16384) (e : Fin 512), j = ix2 e r := ⟨j 1, j 0, eq_ix2 j⟩
  letI := Cert.Pre_finite.Mem.facts
  exact (Cert.Reference5Ideal.Mem.result_at _ _ _ (Cert.Pre_finite.Mem.queries_real _ _ _ (hpre c).1)
    (Cert.Pre_finite.Mem.keys_real _ _ _ (hpre c).2) r e).trans (Cert.Kernel5Ideal.Mem.result_at m c r e).symm

theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Mem.run_at m ρ)

theorem value_memory : Cert.algebraic_Kernel6Ideal_Reference6Ideal := by
  intro m ρ m' ρ' _ hagree
  refine ⟨_, _, Cert.Kernel6Ideal.Value.run_blocks (F := Ideal) m ρ, ?_⟩
  refine (θ_run Cert.Reference6Ideal.defs _ _).mono (fun _ h c => ?_) (Cert.Reference6Ideal.Mem.run_at m' ρ')
  obtain ⟨hk, hv, hargs⟩ := h c
  rw [(hagree c).1, (hagree c).2] at hk hv
  refine ⟨?_, ?_, hargs⟩ <;> funext j
  · obtain ⟨b, p, e, rfl⟩ : ∃ (b : Fin 2) (p : Fin 256) (e : Fin 512), j = ix3 b p e := ⟨j 0, j 1, j 2, eq_ix3 j⟩
    exact (hk b p e).trans (Cert.Kernel6Ideal.Mem.result3 m c b p e).symm
  · obtain ⟨b, p, e, rfl⟩ : ∃ (b : Fin 2) (p : Fin 256) (e : Fin 512), j = ix3 b e p := ⟨j 0, j 2, j 1, eq_ix3 j⟩
    exact (hv b p e).trans (Cert.Kernel6Ideal.Mem.result4 m c b p e).symm

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem value_compression : Cert.algebraic_Kernel7Ideal_Reference7Ideal := by
  intro m ρ m' ρ' _ hagree
  refine ⟨_, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨hk, hv, hargs⟩ := h c
  obtain ⟨h0, h1, h2, h3, h4, h5, h6, h7⟩ := hagree c
  refine ⟨hk.trans ?_, hv.trans ?_, hargs⟩ <;> funext j
  · obtain ⟨b, n, x, rfl⟩ : ∃ (b : Fin 2) (n : Fin 512) (x : Fin 128), j = ix3 b n x := ⟨j 0, j 1, j 2, eq_ix3 j⟩
    obtain ⟨g, f, rfl⟩ : ∃ (g : Fin 2) (f : Fin 64), x = ⟨64 * g.val + f.val, by omega⟩ :=
      ⟨⟨x.val / 64, by omega⟩, ⟨x.val % 64, by omega⟩, Fin.ext (by show x.val = 64 * (x.val / 64) + x.val % 64; omega)⟩
    have hr := Cert.Reference7Ideal.Cmp.keys_at m' c b n g f
    rw [h0, h2, h3, h4] at hr
    exact hr.trans (Cert.Kernel7Ideal.Cmp.keys_at m c b n g f).symm
  · obtain ⟨b, x, n, rfl⟩ : ∃ (b : Fin 2) (x : Fin 128) (n : Fin 512), j = ix3 b x n := ⟨j 0, j 1, j 2, eq_ix3 j⟩
    obtain ⟨g, f, rfl⟩ : ∃ (g : Fin 2) (f : Fin 64), x = ⟨64 * g.val + f.val, by omega⟩ :=
      ⟨⟨x.val / 64, by omega⟩, ⟨x.val % 64, by omega⟩, Fin.ext (by show x.val = 64 * (x.val / 64) + x.val % 64; omega)⟩
    have hr := Cert.Reference7Ideal.Cmp.values_at m' c b g f n
    rw [h1, h5, h6, h7] at hr
    exact hr.trans (Cert.Kernel7Ideal.Cmp.values_at m c b g f n).symm

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Pre_finite.Mem.facts,
    frame_kernel, frame_kernel_ideal, fun m ρ _ => Cert.Kernel2.Gen.frame m ρ, fun m ρ _ => Cert.Kernel2Ideal.Gen.frame m ρ,
    frame_reference2, fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ,
    fun m ρ _ => Cert.Kernel5Ideal.Gen.frame m ρ, frame_reference5, fun m ρ _ => frame_reference5 m ρ trivial,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    trivial, trivial, value_ffn, trivial, value_out, trivial, value_proj, trivial, value_attention, trivial, value_memory,
    trivial, value_compression⟩

end Cert.Proof

end
